-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaRefIdeal (m : (ℓ : Loc Cert.MlaRefIdeal.nD Cert.MlaRefIdeal.τ Cert.MlaRefIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbRefIdeal (m : (ℓ : Loc Cert.SbRefIdeal.nD Cert.SbRefIdeal.τ Cert.SbRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Bc (m : (ℓ : Loc Cert.Bc.nD Cert.Bc.τ Cert.Bc.sig) → Buf (Elt Bits) ℓ) : Prop :=
  True

def Pre_BcIdeal (m : (ℓ : Loc Cert.BcIdeal.nD Cert.BcIdeal.τ Cert.BcIdeal.sig) → Buf (Elt Ideal) ℓ) : Prop :=
  True

def Pre_BcRefIdeal (m : (ℓ : Loc Cert.BcRefIdeal.nD Cert.BcRefIdeal.τ Cert.BcRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Ku (m : (ℓ : Loc Cert.Ku.nD Cert.Ku.τ Cert.Ku.sig) → Buf (Elt Bits) ℓ) : Prop :=
  True

def Pre_KuIdeal (m : (ℓ : Loc Cert.KuIdeal.nD Cert.KuIdeal.τ Cert.KuIdeal.sig) → Buf (Elt Ideal) ℓ) : Prop :=
  True

def Pre_KuRefIdeal (m : (ℓ : Loc Cert.KuRefIdeal.nD Cert.KuRefIdeal.τ Cert.KuRefIdeal.sig) → Buf (Elt Ideal) ℓ) : Prop :=
  True

def Pre_Bs (m : (ℓ : Loc Cert.Bs.nD Cert.Bs.τ Cert.Bs.sig) → Buf (Elt Bits) ℓ) : Prop :=
  True

def Pre_BsIdeal (m : (ℓ : Loc Cert.BsIdeal.nD Cert.BsIdeal.τ Cert.BsIdeal.sig) → Buf (Elt Ideal) ℓ) : Prop :=
  True

def Pre_BsRefIdeal (m : (ℓ : Loc Cert.BsRefIdeal.nD Cert.BsRefIdeal.τ Cert.BsRefIdeal.sig) → Buf (Elt Ideal) ℓ) : Prop :=
  True

def Pre_Fn (m : (ℓ : Loc Cert.Fn.nD Cert.Fn.τ Cert.Fn.sig) → Buf (Elt Bits) ℓ) : Prop :=
  True

def Pre_FnIdeal (m : (ℓ : Loc Cert.FnIdeal.nD Cert.FnIdeal.τ Cert.FnIdeal.sig) → Buf (Elt Ideal) ℓ) : Prop :=
  True

def Pre_FnRefIdeal (m : (ℓ : Loc Cert.FnRefIdeal.nD Cert.FnRefIdeal.τ Cert.FnRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Bc [hBc : Cert.Bc.Facts] : Prop :=
  ∀ (m : (ℓ : Loc Cert.Bc.nD Cert.Bc.τ Cert.Bc.sig) → Buf (Elt Bits) ℓ) (g : Dev Cert.Bc.nD → PrngReg), Pre_Bc m →
    θ_run (Cert.Bc.defs (F := Bits)) (onTc (τ := Cert.Bc.τ) (Cert.Bc.main (F := Bits))) ⟨m, fun _ => 0, g⟩ (fun r => (∀ c : Dev Cert.Bc.nD,
      r.2.mem ((c.tc : Thread Cert.Bc.nD Cert.Bc.τ).loc Cert.Bc.main_arg0) = m ((c.tc : Thread Cert.Bc.nD Cert.Bc.τ).loc Cert.Bc.main_arg0)
      ∧ r.2.mem ((c.tc : Thread Cert.Bc.nD Cert.Bc.τ).loc Cert.Bc.main_arg1) = m ((c.tc : Thread Cert.Bc.nD Cert.Bc.τ).loc Cert.Bc.main_arg1))
      ∧ r.2.sem = fun _ => 0)

def quiescent_BcIdeal [hBcIdeal : Cert.BcIdeal.Facts] : Prop :=
  ∀ (m : (ℓ : Loc Cert.BcIdeal.nD Cert.BcIdeal.τ Cert.BcIdeal.sig) → Buf (Elt Ideal) ℓ) (g : Dev Cert.BcIdeal.nD → PrngReg), Pre_BcIdeal m →
    θ_run (Cert.BcIdeal.defs (F := Ideal)) (onTc (τ := Cert.BcIdeal.τ) (Cert.BcIdeal.main (F := Ideal))) ⟨m, fun _ => 0, g⟩ (fun r => (∀ c : Dev Cert.BcIdeal.nD,
      r.2.mem ((c.tc : Thread Cert.BcIdeal.nD Cert.BcIdeal.τ).loc Cert.BcIdeal.main_arg0) = m ((c.tc : Thread Cert.BcIdeal.nD Cert.BcIdeal.τ).loc Cert.BcIdeal.main_arg0)
      ∧ r.2.mem ((c.tc : Thread Cert.BcIdeal.nD Cert.BcIdeal.τ).loc Cert.BcIdeal.main_arg1) = m ((c.tc : Thread Cert.BcIdeal.nD Cert.BcIdeal.τ).loc Cert.BcIdeal.main_arg1))
      ∧ r.2.sem = fun _ => 0)

def quiescent_BcRefIdeal [hBcRefIdeal : Cert.BcRefIdeal.Facts] : Prop :=
  ∀ (m : (ℓ : Loc Cert.BcRefIdeal.nD Cert.BcRefIdeal.τ Cert.BcRefIdeal.sig) → Buf (Elt Ideal) ℓ) (g : Dev Cert.BcRefIdeal.nD → PrngReg), Pre_BcRefIdeal m →
    θ_run (Cert.BcRefIdeal.defs (F := Ideal)) (onTc (τ := Cert.BcRefIdeal.τ) (Cert.BcRefIdeal.main (F := Ideal))) ⟨m, fun _ => 0, g⟩ (fun r => (∀ c : Dev Cert.BcRefIdeal.nD,
      r.2.mem ((c.tc : Thread Cert.BcRefIdeal.nD Cert.BcRefIdeal.τ).loc Cert.BcRefIdeal.main_arg0) = m ((c.tc : Thread Cert.BcRefIdeal.nD Cert.BcRefIdeal.τ).loc Cert.BcRefIdeal.main_arg0)
      ∧ r.2.mem ((c.tc : Thread Cert.BcRefIdeal.nD Cert.BcRefIdeal.τ).loc Cert.BcRefIdeal.main_arg1) = m ((c.tc : Thread Cert.BcRefIdeal.nD Cert.BcRefIdeal.τ).loc Cert.BcRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def quiescent_Ku [hKu : Cert.Ku.Facts] : Prop :=
  ∀ (m : (ℓ : Loc Cert.Ku.nD Cert.Ku.τ Cert.Ku.sig) → Buf (Elt Bits) ℓ) (g : Dev Cert.Ku.nD → PrngReg), Pre_Ku m →
    θ_run (Cert.Ku.defs (F := Bits)) (onTc (τ := Cert.Ku.τ) (Cert.Ku.main (F := Bits))) ⟨m, fun _ => 0, g⟩ (fun r => (∀ c : Dev Cert.Ku.nD,
      r.2.mem ((c.tc : Thread Cert.Ku.nD Cert.Ku.τ).loc Cert.Ku.main_arg0) = m ((c.tc : Thread Cert.Ku.nD Cert.Ku.τ).loc Cert.Ku.main_arg0)
      ∧ r.2.mem ((c.tc : Thread Cert.Ku.nD Cert.Ku.τ).loc Cert.Ku.main_arg1) = m ((c.tc : Thread Cert.Ku.nD Cert.Ku.τ).loc Cert.Ku.main_arg1)
      ∧ r.2.mem ((c.tc : Thread Cert.Ku.nD Cert.Ku.τ).loc Cert.Ku.main_arg2) = m ((c.tc : Thread Cert.Ku.nD Cert.Ku.τ).loc Cert.Ku.main_arg2)
      ∧ r.2.mem ((c.tc : Thread Cert.Ku.nD Cert.Ku.τ).loc Cert.Ku.main_arg3) = m ((c.tc : Thread Cert.Ku.nD Cert.Ku.τ).loc Cert.Ku.main_arg3))
      ∧ r.2.sem = fun _ => 0)

def quiescent_KuIdeal [hKuIdeal : Cert.KuIdeal.Facts] : Prop :=
  ∀ (m : (ℓ : Loc Cert.KuIdeal.nD Cert.KuIdeal.τ Cert.KuIdeal.sig) → Buf (Elt Ideal) ℓ) (g : Dev Cert.KuIdeal.nD → PrngReg), Pre_KuIdeal m →
    θ_run (Cert.KuIdeal.defs (F := Ideal)) (onTc (τ := Cert.KuIdeal.τ) (Cert.KuIdeal.main (F := Ideal))) ⟨m, fun _ => 0, g⟩ (fun r => (∀ c : Dev Cert.KuIdeal.nD,
      r.2.mem ((c.tc : Thread Cert.KuIdeal.nD Cert.KuIdeal.τ).loc Cert.KuIdeal.main_arg0) = m ((c.tc : Thread Cert.KuIdeal.nD Cert.KuIdeal.τ).loc Cert.KuIdeal.main_arg0)
      ∧ r.2.mem ((c.tc : Thread Cert.KuIdeal.nD Cert.KuIdeal.τ).loc Cert.KuIdeal.main_arg1) = m ((c.tc : Thread Cert.KuIdeal.nD Cert.KuIdeal.τ).loc Cert.KuIdeal.main_arg1)
      ∧ r.2.mem ((c.tc : Thread Cert.KuIdeal.nD Cert.KuIdeal.τ).loc Cert.KuIdeal.main_arg2) = m ((c.tc : Thread Cert.KuIdeal.nD Cert.KuIdeal.τ).loc Cert.KuIdeal.main_arg2)
      ∧ r.2.mem ((c.tc : Thread Cert.KuIdeal.nD Cert.KuIdeal.τ).loc Cert.KuIdeal.main_arg3) = m ((c.tc : Thread Cert.KuIdeal.nD Cert.KuIdeal.τ).loc Cert.KuIdeal.main_arg3))
      ∧ r.2.sem = fun _ => 0)

def quiescent_KuRefIdeal [hKuRefIdeal : Cert.KuRefIdeal.Facts] : Prop :=
  ∀ (m : (ℓ : Loc Cert.KuRefIdeal.nD Cert.KuRefIdeal.τ Cert.KuRefIdeal.sig) → Buf (Elt Ideal) ℓ) (g : Dev Cert.KuRefIdeal.nD → PrngReg), Pre_KuRefIdeal m →
    θ_run (Cert.KuRefIdeal.defs (F := Ideal)) (onTc (τ := Cert.KuRefIdeal.τ) (Cert.KuRefIdeal.main (F := Ideal))) ⟨m, fun _ => 0, g⟩ (fun r => (∀ c : Dev Cert.KuRefIdeal.nD,
      r.2.mem ((c.tc : Thread Cert.KuRefIdeal.nD Cert.KuRefIdeal.τ).loc Cert.KuRefIdeal.main_arg0) = m ((c.tc : Thread Cert.KuRefIdeal.nD Cert.KuRefIdeal.τ).loc Cert.KuRefIdeal.main_arg0)
      ∧ r.2.mem ((c.tc : Thread Cert.KuRefIdeal.nD Cert.KuRefIdeal.τ).loc Cert.KuRefIdeal.main_arg1) = m ((c.tc : Thread Cert.KuRefIdeal.nD Cert.KuRefIdeal.τ).loc Cert.KuRefIdeal.main_arg1)
      ∧ r.2.mem ((c.tc : Thread Cert.KuRefIdeal.nD Cert.KuRefIdeal.τ).loc Cert.KuRefIdeal.main_arg2) = m ((c.tc : Thread Cert.KuRefIdeal.nD Cert.KuRefIdeal.τ).loc Cert.KuRefIdeal.main_arg2)
      ∧ r.2.mem ((c.tc : Thread Cert.KuRefIdeal.nD Cert.KuRefIdeal.τ).loc Cert.KuRefIdeal.main_arg3) = m ((c.tc : Thread Cert.KuRefIdeal.nD Cert.KuRefIdeal.τ).loc Cert.KuRefIdeal.main_arg3))
      ∧ r.2.sem = fun _ => 0)

def quiescent_Bs [hBs : Cert.Bs.Facts] : Prop :=
  ∀ (m : (ℓ : Loc Cert.Bs.nD Cert.Bs.τ Cert.Bs.sig) → Buf (Elt Bits) ℓ) (g : Dev Cert.Bs.nD → PrngReg), Pre_Bs m →
    θ_run (Cert.Bs.defs (F := Bits)) (onTc (τ := Cert.Bs.τ) (Cert.Bs.main (F := Bits))) ⟨m, fun _ => 0, g⟩ (fun r => (∀ c : Dev Cert.Bs.nD,
      r.2.mem ((c.tc : Thread Cert.Bs.nD Cert.Bs.τ).loc Cert.Bs.main_arg0) = m ((c.tc : Thread Cert.Bs.nD Cert.Bs.τ).loc Cert.Bs.main_arg0)
      ∧ r.2.mem ((c.tc : Thread Cert.Bs.nD Cert.Bs.τ).loc Cert.Bs.main_arg1) = m ((c.tc : Thread Cert.Bs.nD Cert.Bs.τ).loc Cert.Bs.main_arg1))
      ∧ r.2.sem = fun _ => 0)

def quiescent_BsIdeal [hBsIdeal : Cert.BsIdeal.Facts] : Prop :=
  ∀ (m : (ℓ : Loc Cert.BsIdeal.nD Cert.BsIdeal.τ Cert.BsIdeal.sig) → Buf (Elt Ideal) ℓ) (g : Dev Cert.BsIdeal.nD → PrngReg), Pre_BsIdeal m →
    θ_run (Cert.BsIdeal.defs (F := Ideal)) (onTc (τ := Cert.BsIdeal.τ) (Cert.BsIdeal.main (F := Ideal))) ⟨m, fun _ => 0, g⟩ (fun r => (∀ c : Dev Cert.BsIdeal.nD,
      r.2.mem ((c.tc : Thread Cert.BsIdeal.nD Cert.BsIdeal.τ).loc Cert.BsIdeal.main_arg0) = m ((c.tc : Thread Cert.BsIdeal.nD Cert.BsIdeal.τ).loc Cert.BsIdeal.main_arg0)
      ∧ r.2.mem ((c.tc : Thread Cert.BsIdeal.nD Cert.BsIdeal.τ).loc Cert.BsIdeal.main_arg1) = m ((c.tc : Thread Cert.BsIdeal.nD Cert.BsIdeal.τ).loc Cert.BsIdeal.main_arg1))
      ∧ r.2.sem = fun _ => 0)

def quiescent_BsRefIdeal [hBsRefIdeal : Cert.BsRefIdeal.Facts] : Prop :=
  ∀ (m : (ℓ : Loc Cert.BsRefIdeal.nD Cert.BsRefIdeal.τ Cert.BsRefIdeal.sig) → Buf (Elt Ideal) ℓ) (g : Dev Cert.BsRefIdeal.nD → PrngReg), Pre_BsRefIdeal m →
    θ_run (Cert.BsRefIdeal.defs (F := Ideal)) (onTc (τ := Cert.BsRefIdeal.τ) (Cert.BsRefIdeal.main (F := Ideal))) ⟨m, fun _ => 0, g⟩ (fun r => (∀ c : Dev Cert.BsRefIdeal.nD,
      r.2.mem ((c.tc : Thread Cert.BsRefIdeal.nD Cert.BsRefIdeal.τ).loc Cert.BsRefIdeal.main_arg0) = m ((c.tc : Thread Cert.BsRefIdeal.nD Cert.BsRefIdeal.τ).loc Cert.BsRefIdeal.main_arg0)
      ∧ r.2.mem ((c.tc : Thread Cert.BsRefIdeal.nD Cert.BsRefIdeal.τ).loc Cert.BsRefIdeal.main_arg1) = m ((c.tc : Thread Cert.BsRefIdeal.nD Cert.BsRefIdeal.τ).loc Cert.BsRefIdeal.main_arg1))
      ∧ r.2.sem = fun _ => 0)

def quiescent_Fn [hFn : Cert.Fn.Facts] : Prop :=
  ∀ (m : (ℓ : Loc Cert.Fn.nD Cert.Fn.τ Cert.Fn.sig) → Buf (Elt Bits) ℓ) (g : Dev Cert.Fn.nD → PrngReg), Pre_Fn m →
    θ_run (Cert.Fn.defs (F := Bits)) (onTc (τ := Cert.Fn.τ) (Cert.Fn.main (F := Bits))) ⟨m, fun _ => 0, g⟩ (fun r => (∀ c : Dev Cert.Fn.nD,
      r.2.mem ((c.tc : Thread Cert.Fn.nD Cert.Fn.τ).loc Cert.Fn.main_arg0) = m ((c.tc : Thread Cert.Fn.nD Cert.Fn.τ).loc Cert.Fn.main_arg0)
      ∧ r.2.mem ((c.tc : Thread Cert.Fn.nD Cert.Fn.τ).loc Cert.Fn.main_arg1) = m ((c.tc : Thread Cert.Fn.nD Cert.Fn.τ).loc Cert.Fn.main_arg1))
      ∧ r.2.sem = fun _ => 0)

def quiescent_FnIdeal [hFnIdeal : Cert.FnIdeal.Facts] : Prop :=
  ∀ (m : (ℓ : Loc Cert.FnIdeal.nD Cert.FnIdeal.τ Cert.FnIdeal.sig) → Buf (Elt Ideal) ℓ) (g : Dev Cert.FnIdeal.nD → PrngReg), Pre_FnIdeal m →
    θ_run (Cert.FnIdeal.defs (F := Ideal)) (onTc (τ := Cert.FnIdeal.τ) (Cert.FnIdeal.main (F := Ideal))) ⟨m, fun _ => 0, g⟩ (fun r => (∀ c : Dev Cert.FnIdeal.nD,
      r.2.mem ((c.tc : Thread Cert.FnIdeal.nD Cert.FnIdeal.τ).loc Cert.FnIdeal.main_arg0) = m ((c.tc : Thread Cert.FnIdeal.nD Cert.FnIdeal.τ).loc Cert.FnIdeal.main_arg0)
      ∧ r.2.mem ((c.tc : Thread Cert.FnIdeal.nD Cert.FnIdeal.τ).loc Cert.FnIdeal.main_arg1) = m ((c.tc : Thread Cert.FnIdeal.nD Cert.FnIdeal.τ).loc Cert.FnIdeal.main_arg1))
      ∧ r.2.sem = fun _ => 0)

def quiescent_FnRefIdeal [hFnRefIdeal : Cert.FnRefIdeal.Facts] : Prop :=
  ∀ (m : (ℓ : Loc Cert.FnRefIdeal.nD Cert.FnRefIdeal.τ Cert.FnRefIdeal.sig) → Buf (Elt Ideal) ℓ) (g : Dev Cert.FnRefIdeal.nD → PrngReg), Pre_FnRefIdeal m →
    θ_run (Cert.FnRefIdeal.defs (F := Ideal)) (onTc (τ := Cert.FnRefIdeal.τ) (Cert.FnRefIdeal.main (F := Ideal))) ⟨m, fun _ => 0, g⟩ (fun r => (∀ c : Dev Cert.FnRefIdeal.nD,
      r.2.mem ((c.tc : Thread Cert.FnRefIdeal.nD Cert.FnRefIdeal.τ).loc Cert.FnRefIdeal.main_arg0) = m ((c.tc : Thread Cert.FnRefIdeal.nD Cert.FnRefIdeal.τ).loc Cert.FnRefIdeal.main_arg0)
      ∧ r.2.mem ((c.tc : Thread Cert.FnRefIdeal.nD Cert.FnRefIdeal.τ).loc Cert.FnRefIdeal.main_arg1) = m ((c.tc : Thread Cert.FnRefIdeal.nD Cert.FnRefIdeal.τ).loc Cert.FnRefIdeal.main_arg1))
      ∧ r.2.sem = fun _ => 0)

def preserves_Mla_MlaIdeal : Prop :=
  IdealRules.named_const.Statement Cert.MlaIdeal.κ "mask" .f32 0xF149F2CA#32 ⊥

def algebraic_MlaIdeal_MlaRefIdeal [hMlaIdeal : Cert.MlaIdeal.Facts] [hMlaRefIdeal : Cert.MlaRefIdeal.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v1)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v1) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v46) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3))

def preserves_Sb_SbIdeal : Prop :=
  IdealRules.named_const.Statement Cert.SbIdeal.κ "logzero" .f32 0xC2D00000#32 ⊥
  ∧ IdealRules.named_const.Statement Cert.SbIdeal.κ "mask" .f32 0xF149F2CA#32 ⊥

def algebraic_SbIdeal_SbRefIdeal [hSbIdeal : Cert.SbIdeal.Facts] [hSbRefIdeal : Cert.SbRefIdeal.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)) →
    ∃ (v0 : (c : Dev Cert.SbIdeal.nD) → Buf (Elt Ideal) ((c.tc : Thread Cert.SbIdeal.nD Cert.SbIdeal.τ).loc Cert.SbIdeal.main_v1)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v1) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v42) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v1_1)) (v2 : (c : Dev Cert.UpIdeal.nD) → Buf (Elt Ideal) ((c.tc : Thread Cert.UpIdeal.nD Cert.UpIdeal.τ).loc Cert.UpIdeal.main_v1_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v1_1) = v1 c
          ∧ r.2.mem ((c.tc : Thread Cert.UpIdeal.nD Cert.UpIdeal.τ).loc Cert.UpIdeal.main_v1_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v34) = v0 c
          ∧ r.2.mem ((c.tc : Thread Cert.UpRefIdeal.nD Cert.UpRefIdeal.τ).loc Cert.UpRefIdeal.main_v35) = v1 c
          ∧ r.2.mem ((c.tc : Thread Cert.UpRefIdeal.nD Cert.UpRefIdeal.τ).loc Cert.UpRefIdeal.main_v36) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Bc_BcIdeal : Prop :=
  True

def algebraic_BcIdeal_BcRefIdeal [hBcIdeal : Cert.BcIdeal.Facts] [hBcRefIdeal : Cert.BcRefIdeal.Facts] : Prop :=
  ∀ (m : (ℓ : Loc Cert.BcIdeal.nD Cert.BcIdeal.τ Cert.BcIdeal.sig) → Buf (Elt Ideal) ℓ) (g : Dev Cert.BcIdeal.nD → PrngReg)
    (m' : (ℓ : Loc Cert.BcRefIdeal.nD Cert.BcRefIdeal.τ Cert.BcRefIdeal.sig) → Buf (Elt Ideal) ℓ) (g' : Dev Cert.BcRefIdeal.nD → PrngReg), Pre_BcIdeal m →
    (∀ c : Dev Cert.BcIdeal.nD,
      m' ((c.tc : Thread Cert.BcRefIdeal.nD Cert.BcRefIdeal.τ).loc Cert.BcRefIdeal.main_arg0) = m ((c.tc : Thread Cert.BcIdeal.nD Cert.BcIdeal.τ).loc Cert.BcIdeal.main_arg0)
      ∧ m' ((c.tc : Thread Cert.BcRefIdeal.nD Cert.BcRefIdeal.τ).loc Cert.BcRefIdeal.main_arg1) = m ((c.tc : Thread Cert.BcIdeal.nD Cert.BcIdeal.τ).loc Cert.BcIdeal.main_arg1)) →
    ∃ (v0 : (c : Dev Cert.BcIdeal.nD) → Buf (Elt Ideal) ((c.tc : Thread Cert.BcIdeal.nD Cert.BcIdeal.τ).loc Cert.BcIdeal.main_v0_0)) (v1 : (c : Dev Cert.BcIdeal.nD) → Buf (Elt Ideal) ((c.tc : Thread Cert.BcIdeal.nD Cert.BcIdeal.τ).loc Cert.BcIdeal.main_v0_1)),
      θ_run (Cert.BcIdeal.defs (F := Ideal)) (onTc (τ := Cert.BcIdeal.τ) (Cert.BcIdeal.main (F := Ideal))) ⟨m, fun _ => 0, g⟩ (fun r => ∀ c : Dev Cert.BcIdeal.nD,
          r.2.mem ((c.tc : Thread Cert.BcIdeal.nD Cert.BcIdeal.τ).loc Cert.BcIdeal.main_v0_0) = v0 c
          ∧ r.2.mem ((c.tc : Thread Cert.BcIdeal.nD Cert.BcIdeal.τ).loc Cert.BcIdeal.main_v0_1) = v1 c
          ∧ r.2.mem ((c.tc : Thread Cert.BcIdeal.nD Cert.BcIdeal.τ).loc Cert.BcIdeal.main_arg0) = m ((c.tc : Thread Cert.BcIdeal.nD Cert.BcIdeal.τ).loc Cert.BcIdeal.main_arg0)
          ∧ r.2.mem ((c.tc : Thread Cert.BcIdeal.nD Cert.BcIdeal.τ).loc Cert.BcIdeal.main_arg1) = m ((c.tc : Thread Cert.BcIdeal.nD Cert.BcIdeal.τ).loc Cert.BcIdeal.main_arg1))
      ∧ θ_run (Cert.BcRefIdeal.defs (F := Ideal)) (onTc (τ := Cert.BcRefIdeal.τ) (Cert.BcRefIdeal.main (F := Ideal))) ⟨m', fun _ => 0, g'⟩ (fun r => ∀ c : Dev Cert.BcRefIdeal.nD,
          r.2.mem ((c.tc : Thread Cert.BcRefIdeal.nD Cert.BcRefIdeal.τ).loc Cert.BcRefIdeal.main_v3) = v0 c
          ∧ r.2.mem ((c.tc : Thread Cert.BcRefIdeal.nD Cert.BcRefIdeal.τ).loc Cert.BcRefIdeal.main_v4) = v1 c
          ∧ r.2.mem ((c.tc : Thread Cert.BcRefIdeal.nD Cert.BcRefIdeal.τ).loc Cert.BcRefIdeal.main_arg0) = m' ((c.tc : Thread Cert.BcRefIdeal.nD Cert.BcRefIdeal.τ).loc Cert.BcRefIdeal.main_arg0)
          ∧ r.2.mem ((c.tc : Thread Cert.BcRefIdeal.nD Cert.BcRefIdeal.τ).loc Cert.BcRefIdeal.main_arg1) = m' ((c.tc : Thread Cert.BcRefIdeal.nD Cert.BcRefIdeal.τ).loc Cert.BcRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v24_0)) (v1 : (c : Dev Cert.KvIdeal.nD) → Buf (Elt Ideal) ((c.tc : Thread Cert.KvIdeal.nD Cert.KvIdeal.τ).loc Cert.KvIdeal.main_v24_1)) (v2 : (c : Dev Cert.KvIdeal.nD) → Buf (Elt Ideal) ((c.tc : Thread Cert.KvIdeal.nD Cert.KvIdeal.τ).loc Cert.KvIdeal.main_v24_2)) (v3 : (c : Dev Cert.KvIdeal.nD) → Buf (Elt Ideal) ((c.tc : Thread Cert.KvIdeal.nD Cert.KvIdeal.τ).loc Cert.KvIdeal.main_v24_3)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v24_0) = v0 c
          ∧ r.2.mem ((c.tc : Thread Cert.KvIdeal.nD Cert.KvIdeal.τ).loc Cert.KvIdeal.main_v24_1) = v1 c
          ∧ r.2.mem ((c.tc : Thread Cert.KvIdeal.nD Cert.KvIdeal.τ).loc Cert.KvIdeal.main_v24_2) = v2 c
          ∧ r.2.mem ((c.tc : Thread Cert.KvIdeal.nD Cert.KvIdeal.τ).loc Cert.KvIdeal.main_v24_3) = v3 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v17) = v0 c
          ∧ r.2.mem ((c.tc : Thread Cert.KvRefIdeal.nD Cert.KvRefIdeal.τ).loc Cert.KvRefIdeal.main_v55) = v1 c
          ∧ r.2.mem ((c.tc : Thread Cert.KvRefIdeal.nD Cert.KvRefIdeal.τ).loc Cert.KvRefIdeal.main_v52) = v2 c
          ∧ r.2.mem ((c.tc : Thread Cert.KvRefIdeal.nD Cert.KvRefIdeal.τ).loc Cert.KvRefIdeal.main_v56) = v3 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3))

def preserves_Ku_KuIdeal : Prop :=
  True

def algebraic_KuIdeal_KuRefIdeal [hKuIdeal : Cert.KuIdeal.Facts] [hKuRefIdeal : Cert.KuRefIdeal.Facts] : Prop :=
  ∀ (m : (ℓ : Loc Cert.KuIdeal.nD Cert.KuIdeal.τ Cert.KuIdeal.sig) → Buf (Elt Ideal) ℓ) (g : Dev Cert.KuIdeal.nD → PrngReg)
    (m' : (ℓ : Loc Cert.KuRefIdeal.nD Cert.KuRefIdeal.τ Cert.KuRefIdeal.sig) → Buf (Elt Ideal) ℓ) (g' : Dev Cert.KuRefIdeal.nD → PrngReg), Pre_KuIdeal m →
    (∀ c : Dev Cert.KuIdeal.nD,
      m' ((c.tc : Thread Cert.KuRefIdeal.nD Cert.KuRefIdeal.τ).loc Cert.KuRefIdeal.main_arg0) = m ((c.tc : Thread Cert.KuIdeal.nD Cert.KuIdeal.τ).loc Cert.KuIdeal.main_arg0)
      ∧ m' ((c.tc : Thread Cert.KuRefIdeal.nD Cert.KuRefIdeal.τ).loc Cert.KuRefIdeal.main_arg1) = m ((c.tc : Thread Cert.KuIdeal.nD Cert.KuIdeal.τ).loc Cert.KuIdeal.main_arg1)
      ∧ m' ((c.tc : Thread Cert.KuRefIdeal.nD Cert.KuRefIdeal.τ).loc Cert.KuRefIdeal.main_arg2) = m ((c.tc : Thread Cert.KuIdeal.nD Cert.KuIdeal.τ).loc Cert.KuIdeal.main_arg2)
      ∧ m' ((c.tc : Thread Cert.KuRefIdeal.nD Cert.KuRefIdeal.τ).loc Cert.KuRefIdeal.main_arg3) = m ((c.tc : Thread Cert.KuIdeal.nD Cert.KuIdeal.τ).loc Cert.KuIdeal.main_arg3)) →
    ∃ (v0 : (c : Dev Cert.KuIdeal.nD) → Buf (Elt Ideal) ((c.tc : Thread Cert.KuIdeal.nD Cert.KuIdeal.τ).loc Cert.KuIdeal.main_v1_0)) (v1 : (c : Dev Cert.KuIdeal.nD) → Buf (Elt Ideal) ((c.tc : Thread Cert.KuIdeal.nD Cert.KuIdeal.τ).loc Cert.KuIdeal.main_v1_1)),
      θ_run (Cert.KuIdeal.defs (F := Ideal)) (onTc (τ := Cert.KuIdeal.τ) (Cert.KuIdeal.main (F := Ideal))) ⟨m, fun _ => 0, g⟩ (fun r => ∀ c : Dev Cert.KuIdeal.nD,
          r.2.mem ((c.tc : Thread Cert.KuIdeal.nD Cert.KuIdeal.τ).loc Cert.KuIdeal.main_v1_0) = v0 c
          ∧ r.2.mem ((c.tc : Thread Cert.KuIdeal.nD Cert.KuIdeal.τ).loc Cert.KuIdeal.main_v1_1) = v1 c
          ∧ r.2.mem ((c.tc : Thread Cert.KuIdeal.nD Cert.KuIdeal.τ).loc Cert.KuIdeal.main_arg0) = m ((c.tc : Thread Cert.KuIdeal.nD Cert.KuIdeal.τ).loc Cert.KuIdeal.main_arg0)
          ∧ r.2.mem ((c.tc : Thread Cert.KuIdeal.nD Cert.KuIdeal.τ).loc Cert.KuIdeal.main_arg1) = m ((c.tc : Thread Cert.KuIdeal.nD Cert.KuIdeal.τ).loc Cert.KuIdeal.main_arg1)
          ∧ r.2.mem ((c.tc : Thread Cert.KuIdeal.nD Cert.KuIdeal.τ).loc Cert.KuIdeal.main_arg2) = m ((c.tc : Thread Cert.KuIdeal.nD Cert.KuIdeal.τ).loc Cert.KuIdeal.main_arg2)
          ∧ r.2.mem ((c.tc : Thread Cert.KuIdeal.nD Cert.KuIdeal.τ).loc Cert.KuIdeal.main_arg3) = m ((c.tc : Thread Cert.KuIdeal.nD Cert.KuIdeal.τ).loc Cert.KuIdeal.main_arg3))
      ∧ θ_run (Cert.KuRefIdeal.defs (F := Ideal)) (onTc (τ := Cert.KuRefIdeal.τ) (Cert.KuRefIdeal.main (F := Ideal))) ⟨m', fun _ => 0, g'⟩ (fun r => ∀ c : Dev Cert.KuRefIdeal.nD,
          r.2.mem ((c.tc : Thread Cert.KuRefIdeal.nD Cert.KuRefIdeal.τ).loc Cert.KuRefIdeal.main_v9) = v0 c
          ∧ r.2.mem ((c.tc : Thread Cert.KuRefIdeal.nD Cert.KuRefIdeal.τ).loc Cert.KuRefIdeal.main_v12) = v1 c
          ∧ r.2.mem ((c.tc : Thread Cert.KuRefIdeal.nD Cert.KuRefIdeal.τ).loc Cert.KuRefIdeal.main_arg0) = m' ((c.tc : Thread Cert.KuRefIdeal.nD Cert.KuRefIdeal.τ).loc Cert.KuRefIdeal.main_arg0)
          ∧ r.2.mem ((c.tc : Thread Cert.KuRefIdeal.nD Cert.KuRefIdeal.τ).loc Cert.KuRefIdeal.main_arg1) = m' ((c.tc : Thread Cert.KuRefIdeal.nD Cert.KuRefIdeal.τ).loc Cert.KuRefIdeal.main_arg1)
          ∧ r.2.mem ((c.tc : Thread Cert.KuRefIdeal.nD Cert.KuRefIdeal.τ).loc Cert.KuRefIdeal.main_arg2) = m' ((c.tc : Thread Cert.KuRefIdeal.nD Cert.KuRefIdeal.τ).loc Cert.KuRefIdeal.main_arg2)
          ∧ r.2.mem ((c.tc : Thread Cert.KuRefIdeal.nD Cert.KuRefIdeal.τ).loc Cert.KuRefIdeal.main_arg3) = m' ((c.tc : Thread Cert.KuRefIdeal.nD Cert.KuRefIdeal.τ).loc Cert.KuRefIdeal.main_arg3))

def preserves_Bs_BsIdeal : Prop :=
  True

def algebraic_BsIdeal_BsRefIdeal [hBsIdeal : Cert.BsIdeal.Facts] [hBsRefIdeal : Cert.BsRefIdeal.Facts] : Prop :=
  ∀ (m : (ℓ : Loc Cert.BsIdeal.nD Cert.BsIdeal.τ Cert.BsIdeal.sig) → Buf (Elt Ideal) ℓ) (g : Dev Cert.BsIdeal.nD → PrngReg)
    (m' : (ℓ : Loc Cert.BsRefIdeal.nD Cert.BsRefIdeal.τ Cert.BsRefIdeal.sig) → Buf (Elt Ideal) ℓ) (g' : Dev Cert.BsRefIdeal.nD → PrngReg), Pre_BsIdeal m →
    (∀ c : Dev Cert.BsIdeal.nD,
      m' ((c.tc : Thread Cert.BsRefIdeal.nD Cert.BsRefIdeal.τ).loc Cert.BsRefIdeal.main_arg0) = m ((c.tc : Thread Cert.BsIdeal.nD Cert.BsIdeal.τ).loc Cert.BsIdeal.main_arg0)
      ∧ m' ((c.tc : Thread Cert.BsRefIdeal.nD Cert.BsRefIdeal.τ).loc Cert.BsRefIdeal.main_arg1) = m ((c.tc : Thread Cert.BsIdeal.nD Cert.BsIdeal.τ).loc Cert.BsIdeal.main_arg1)) →
    ∃ (v0 : (c : Dev Cert.BsIdeal.nD) → Buf (Elt Ideal) ((c.tc : Thread Cert.BsIdeal.nD Cert.BsIdeal.τ).loc Cert.BsIdeal.main_v3)),
      θ_run (Cert.BsIdeal.defs (F := Ideal)) (onTc (τ := Cert.BsIdeal.τ) (Cert.BsIdeal.main (F := Ideal))) ⟨m, fun _ => 0, g⟩ (fun r => ∀ c : Dev Cert.BsIdeal.nD,
          r.2.mem ((c.tc : Thread Cert.BsIdeal.nD Cert.BsIdeal.τ).loc Cert.BsIdeal.main_v3) = v0 c
          ∧ r.2.mem ((c.tc : Thread Cert.BsIdeal.nD Cert.BsIdeal.τ).loc Cert.BsIdeal.main_arg0) = m ((c.tc : Thread Cert.BsIdeal.nD Cert.BsIdeal.τ).loc Cert.BsIdeal.main_arg0)
          ∧ r.2.mem ((c.tc : Thread Cert.BsIdeal.nD Cert.BsIdeal.τ).loc Cert.BsIdeal.main_arg1) = m ((c.tc : Thread Cert.BsIdeal.nD Cert.BsIdeal.τ).loc Cert.BsIdeal.main_arg1))
      ∧ θ_run (Cert.BsRefIdeal.defs (F := Ideal)) (onTc (τ := Cert.BsRefIdeal.τ) (Cert.BsRefIdeal.main (F := Ideal))) ⟨m', fun _ => 0, g'⟩ (fun r => ∀ c : Dev Cert.BsRefIdeal.nD,
          r.2.mem ((c.tc : Thread Cert.BsRefIdeal.nD Cert.BsRefIdeal.τ).loc Cert.BsRefIdeal.main_v5) = v0 c
          ∧ r.2.mem ((c.tc : Thread Cert.BsRefIdeal.nD Cert.BsRefIdeal.τ).loc Cert.BsRefIdeal.main_arg0) = m' ((c.tc : Thread Cert.BsRefIdeal.nD Cert.BsRefIdeal.τ).loc Cert.BsRefIdeal.main_arg0)
          ∧ r.2.mem ((c.tc : Thread Cert.BsRefIdeal.nD Cert.BsRefIdeal.τ).loc Cert.BsRefIdeal.main_arg1) = m' ((c.tc : Thread Cert.BsRefIdeal.nD Cert.BsRefIdeal.τ).loc Cert.BsRefIdeal.main_arg1))

def preserves_Fn_FnIdeal : Prop :=
  True

def algebraic_FnIdeal_FnRefIdeal [hFnIdeal : Cert.FnIdeal.Facts] [hFnRefIdeal : Cert.FnRefIdeal.Facts] : Prop :=
  ∀ (m : (ℓ : Loc Cert.FnIdeal.nD Cert.FnIdeal.τ Cert.FnIdeal.sig) → Buf (Elt Ideal) ℓ) (g : Dev Cert.FnIdeal.nD → PrngReg)
    (m' : (ℓ : Loc Cert.FnRefIdeal.nD Cert.FnRefIdeal.τ Cert.FnRefIdeal.sig) → Buf (Elt Ideal) ℓ) (g' : Dev Cert.FnRefIdeal.nD → PrngReg), Pre_FnIdeal m →
    (∀ c : Dev Cert.FnIdeal.nD,
      m' ((c.tc : Thread Cert.FnRefIdeal.nD Cert.FnRefIdeal.τ).loc Cert.FnRefIdeal.main_arg0) = m ((c.tc : Thread Cert.FnIdeal.nD Cert.FnIdeal.τ).loc Cert.FnIdeal.main_arg0)
      ∧ m' ((c.tc : Thread Cert.FnRefIdeal.nD Cert.FnRefIdeal.τ).loc Cert.FnRefIdeal.main_arg1) = m ((c.tc : Thread Cert.FnIdeal.nD Cert.FnIdeal.τ).loc Cert.FnIdeal.main_arg1)) →
    ∃ (v0 : (c : Dev Cert.FnIdeal.nD) → Buf (Elt Ideal) ((c.tc : Thread Cert.FnIdeal.nD Cert.FnIdeal.τ).loc Cert.FnIdeal.main_v1)),
      θ_run (Cert.FnIdeal.defs (F := Ideal)) (onTc (τ := Cert.FnIdeal.τ) (Cert.FnIdeal.main (F := Ideal))) ⟨m, fun _ => 0, g⟩ (fun r => ∀ c : Dev Cert.FnIdeal.nD,
          r.2.mem ((c.tc : Thread Cert.FnIdeal.nD Cert.FnIdeal.τ).loc Cert.FnIdeal.main_v1) = v0 c
          ∧ r.2.mem ((c.tc : Thread Cert.FnIdeal.nD Cert.FnIdeal.τ).loc Cert.FnIdeal.main_arg0) = m ((c.tc : Thread Cert.FnIdeal.nD Cert.FnIdeal.τ).loc Cert.FnIdeal.main_arg0)
          ∧ r.2.mem ((c.tc : Thread Cert.FnIdeal.nD Cert.FnIdeal.τ).loc Cert.FnIdeal.main_arg1) = m ((c.tc : Thread Cert.FnIdeal.nD Cert.FnIdeal.τ).loc Cert.FnIdeal.main_arg1))
      ∧ θ_run (Cert.FnRefIdeal.defs (F := Ideal)) (onTc (τ := Cert.FnRefIdeal.τ) (Cert.FnRefIdeal.main (F := Ideal))) ⟨m', fun _ => 0, g'⟩ (fun r => ∀ c : Dev Cert.FnRefIdeal.nD,
          r.2.mem ((c.tc : Thread Cert.FnRefIdeal.nD Cert.FnRefIdeal.τ).loc Cert.FnRefIdeal.main_v12) = v0 c
          ∧ r.2.mem ((c.tc : Thread Cert.FnRefIdeal.nD Cert.FnRefIdeal.τ).loc Cert.FnRefIdeal.main_arg0) = m' ((c.tc : Thread Cert.FnRefIdeal.nD Cert.FnRefIdeal.τ).loc Cert.FnRefIdeal.main_arg0)
          ∧ r.2.mem ((c.tc : Thread Cert.FnRefIdeal.nD Cert.FnRefIdeal.τ).loc Cert.FnRefIdeal.main_arg1) = m' ((c.tc : Thread Cert.FnRefIdeal.nD Cert.FnRefIdeal.τ).loc Cert.FnRefIdeal.main_arg1))

def Claim : Prop :=
  ∃ (hMla : Cert.Mla.Facts) (hMlaIdeal : Cert.MlaIdeal.Facts) (hMlaRefIdeal : Cert.MlaRefIdeal.Facts) (hSb : Cert.Sb.Facts) (hSbIdeal : Cert.SbIdeal.Facts) (hSbRefIdeal : Cert.SbRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hBc : Cert.Bc.Facts) (hBcIdeal : Cert.BcIdeal.Facts) (hBcRefIdeal : Cert.BcRefIdeal.Facts) (hKv : Cert.Kv.Facts) (hKvIdeal : Cert.KvIdeal.Facts) (hKvRefIdeal : Cert.KvRefIdeal.Facts) (hKu : Cert.Ku.Facts) (hKuIdeal : Cert.KuIdeal.Facts) (hKuRefIdeal : Cert.KuRefIdeal.Facts) (hBs : Cert.Bs.Facts) (hBsIdeal : Cert.BsIdeal.Facts) (hBsRefIdeal : Cert.BsRefIdeal.Facts) (hFn : Cert.Fn.Facts) (hFnIdeal : Cert.FnIdeal.Facts) (hFnRefIdeal : Cert.FnRefIdeal.Facts),
    quiescent_Mla (hMla := hMla)
    ∧ quiescent_MlaIdeal (hMlaIdeal := hMlaIdeal)
    ∧ quiescent_MlaRefIdeal (hMlaRefIdeal := hMlaRefIdeal)
    ∧ quiescent_Sb (hSb := hSb)
    ∧ quiescent_SbIdeal (hSbIdeal := hSbIdeal)
    ∧ quiescent_SbRefIdeal (hSbRefIdeal := hSbRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Bc (hBc := hBc)
    ∧ quiescent_BcIdeal (hBcIdeal := hBcIdeal)
    ∧ quiescent_BcRefIdeal (hBcRefIdeal := hBcRefIdeal)
    ∧ quiescent_Kv (hKv := hKv)
    ∧ quiescent_KvIdeal (hKvIdeal := hKvIdeal)
    ∧ quiescent_KvRefIdeal (hKvRefIdeal := hKvRefIdeal)
    ∧ quiescent_Ku (hKu := hKu)
    ∧ quiescent_KuIdeal (hKuIdeal := hKuIdeal)
    ∧ quiescent_KuRefIdeal (hKuRefIdeal := hKuRefIdeal)
    ∧ quiescent_Bs (hBs := hBs)
    ∧ quiescent_BsIdeal (hBsIdeal := hBsIdeal)
    ∧ quiescent_BsRefIdeal (hBsRefIdeal := hBsRefIdeal)
    ∧ quiescent_Fn (hFn := hFn)
    ∧ quiescent_FnIdeal (hFnIdeal := hFnIdeal)
    ∧ quiescent_FnRefIdeal (hFnRefIdeal := hFnRefIdeal)
    ∧ preserves_Mla_MlaIdeal
    ∧ algebraic_MlaIdeal_MlaRefIdeal (hMlaIdeal := hMlaIdeal) (hMlaRefIdeal := hMlaRefIdeal)
    ∧ preserves_Sb_SbIdeal
    ∧ algebraic_SbIdeal_SbRefIdeal (hSbIdeal := hSbIdeal) (hSbRefIdeal := hSbRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Bc_BcIdeal
    ∧ algebraic_BcIdeal_BcRefIdeal (hBcIdeal := hBcIdeal) (hBcRefIdeal := hBcRefIdeal)
    ∧ preserves_Kv_KvIdeal
    ∧ algebraic_KvIdeal_KvRefIdeal (hKvIdeal := hKvIdeal) (hKvRefIdeal := hKvRefIdeal)
    ∧ preserves_Ku_KuIdeal
    ∧ algebraic_KuIdeal_KuRefIdeal (hKuIdeal := hKuIdeal) (hKuRefIdeal := hKuRefIdeal)
    ∧ preserves_Bs_BsIdeal
    ∧ algebraic_BsIdeal_BsRefIdeal (hBsIdeal := hBsIdeal) (hBsRefIdeal := hBsRefIdeal)
    ∧ preserves_Fn_FnIdeal
    ∧ algebraic_FnIdeal_FnRefIdeal (hFnIdeal := hFnIdeal) (hFnRefIdeal := hFnRefIdeal)
-- ==== Mla.lean ====
abbrev S2x16384x1024 : Shape := ⟨3, ![2, 16384, 1024]⟩
abbrev S2x16384x512 : Shape := ⟨3, ![2, 16384, 512]⟩
abbrev S1536 : Shape := ⟨1, ![1536]⟩
abbrev S12x1x128 : Shape := ⟨3, ![12, 1, 128]⟩
abbrev S1x512x256 : Shape := ⟨3, ![1, 512, 256]⟩
abbrev S1x16384x256 : Shape := ⟨3, ![1, 16384, 256]⟩
abbrev S1x16384x128 : Shape := ⟨3, ![1, 16384, 128]⟩
abbrev S1x1x128 : Shape := ⟨3, ![1, 1, 128]⟩
abbrev S1x512x128 : Shape := ⟨3, ![1, 512, 128]⟩
abbrev S512x256 : Shape := ⟨2, ![512, 256]⟩
abbrev S512x1 : Shape := ⟨2, ![512, 1]⟩
abbrev S512x128 : Shape := ⟨2, ![512, 128]⟩
abbrev S512x512 : Shape := ⟨2, ![512, 512]⟩
abbrev S512 : Shape := ⟨1, ![512]⟩
abbrev S1x512 : Shape := ⟨2, ![1, 512]⟩
abbrev S1x128 : Shape := ⟨2, ![1, 128]⟩

abbrev nBuf : Space → Nat
  | .hbm => 6
  | .vmem => 10
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x16384x512, .bf16⟩
  | .hbm, ⟨3, _⟩ => ⟨S1536, .f32⟩
  | .hbm, ⟨4, _⟩ => ⟨S12x1x128, .f32⟩
  | .hbm, ⟨5, _⟩ => ⟨S2x16384x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x16384x256, .bf16⟩
  | .local _ .vmem, ⟨3, _⟩ => ⟨S1x16384x256, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x1x128, .f32⟩
  | .local _ .vmem, ⟨7, _⟩ => ⟨S1x1x128, .f32⟩
  | .local _ .vmem, ⟨8, _⟩ => ⟨S1x512x128, .bf16⟩
  | .local _ .vmem, ⟨9, _⟩ => ⟨S1x512x128, .bf16⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 32], ![false, false, false]⟩

@[reducible] def k0_t1_loop (i : grid0.Coords) : Scf.Loop 32 :=
  let c0_i32_26 : BitVec 32 := 0#32
  let c0_i32 : BitVec 32 := 0#32
  let arg2 : BitVec 32 := BitVec.ofNat 32 (i 2).val
  let c512_i32 : BitVec 32 := 512#32
  let v2 : BitVec 32 := Scalar.muli arg2 c512_i32
  let v3 : BitVec 32 := Scalar.addi c0_i32 v2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c512_i32_2 : BitVec 32 := 512#32
  let c0_i32_5 : BitVec 32 := 0#32
  let v10 : BitVec 1 := Scalar.cmpi .sgt c512_i32_2 c0_i32_5
  let v11 : BitVec 32 := Scalar.extui v10
  let c0_i32_6 : BitVec 32 := 0#32
  let v12 : BitVec 1 := Scalar.cmpi .slt c512_i32_2 c0_i32_6
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_7 : BitVec 32 := 0#32
  let v17 : BitVec 1 := Scalar.cmpi .ne v16 c0_i32_7
  let v18 : BitVec 1 := Scalar.andi v15 v17
  let v4 : BitVec 32 := Scalar.divsi v3 c512_i32_2
  let c1_i32 : BitVec 32 := 1#32
  let v19 : BitVec 32 := Scalar.subi v4 c1_i32
  let v20 : BitVec 32 := Scalar.select v18 v19 v4
  let v71 : BitVec 32 := Scalar.subi v20 c0_i32_26
  let c1_i32_27 : BitVec 32 := 1#32
  let v73 : BitVec 32 := Scalar.divsi v71 c1_i32_27
  let v74 : BitVec 32 := Scalar.muli v73 c1_i32_27
  let v75 : BitVec 32 := Scalar.addi c0_i32_26 v74
  let c1_i32_28 : BitVec 32 := 1#32
  ⟨c0_i32_26, v75, c1_i32_28⟩
def k0_mult1 (i : grid0.Coords) (k0_t1 : Fin (k0_t1_loop i).trips) : BitVec 32 :=
  let c0_i32_26 : BitVec 32 := 0#32
  let c1_i32_28 : BitVec 32 := 1#32
  let arg8 : BitVec 32 := Scf.iv c0_i32_26 c1_i32_28 k0_t1
  let c512_i32_42 : BitVec 32 := 512#32
  let v105 : BitVec 32 := Scalar.muli arg8 c512_i32_42
  v105
def k0_off1 (i : grid0.Coords) (k0_t1 : Fin (k0_t1_loop i).trips) : Fin 3 → Nat :=
  let c0_43 : Index := 0#32
  let c0_i32_26 : BitVec 32 := 0#32
  let c1_i32_28 : BitVec 32 := 1#32
  let arg8 : BitVec 32 := Scf.iv c0_i32_26 c1_i32_28 k0_t1
  let c512_i32_42 : BitVec 32 := 512#32
  let v105 : BitVec 32 := Scalar.muli arg8 c512_i32_42
  let v106 : BitVec 32 := v105
  let v107 : Index := Scalar.indexCast v106
  let c0_44 : Index := 0#32
  ![0, v107.toNat, 0]
def k0_off2 (i : grid0.Coords) (k0_t1 : Fin (k0_t1_loop i).trips) : Fin 3 → Nat :=
  let c0_49 : Index := 0#32
  let c0_i32_26 : BitVec 32 := 0#32
  let c1_i32_28 : BitVec 32 := 1#32
  let arg8 : BitVec 32 := Scf.iv c0_i32_26 c1_i32_28 k0_t1
  let c512_i32_42 : BitVec 32 := 512#32
  let v105 : BitVec 32 := Scalar.muli arg8 c512_i32_42
  let v106 : BitVec 32 := v105
  let v128 : Index := Scalar.indexCast v106
  let c0_50 : Index := 0#32
  ![0, v128.toNat, 0]
@[reducible] def k0_t2_loop (i : grid0.Coords) : Scf.Loop 32 :=
  let c0_i32_26 : BitVec 32 := 0#32
  let c0_i32 : BitVec 32 := 0#32
  let arg2 : BitVec 32 := BitVec.ofNat 32 (i 2).val
  let c512_i32 : BitVec 32 := 512#32
  let v2 : BitVec 32 := Scalar.muli arg2 c512_i32
  let v3 : BitVec 32 := Scalar.addi c0_i32 v2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c512_i32_2 : BitVec 32 := 512#32
  let c0_i32_5 : BitVec 32 := 0#32
  let v10 : BitVec 1 := Scalar.cmpi .sgt c512_i32_2 c0_i32_5
  let v11 : BitVec 32 := Scalar.extui v10
  let c0_i32_6 : BitVec 32 := 0#32
  let v12 : BitVec 1 := Scalar.cmpi .slt c512_i32_2 c0_i32_6
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_7 : BitVec 32 := 0#32
  let v17 : BitVec 1 := Scalar.cmpi .ne v16 c0_i32_7
  let v18 : BitVec 1 := Scalar.andi v15 v17
  let v4 : BitVec 32 := Scalar.divsi v3 c512_i32_2
  let c1_i32 : BitVec 32 := 1#32
  let v19 : BitVec 32 := Scalar.subi v4 c1_i32
  let v20 : BitVec 32 := Scalar.select v18 v19 v4
  let v71 : BitVec 32 := Scalar.subi v20 c0_i32_26
  let c1_i32_27 : BitVec 32 := 1#32
  let v73 : BitVec 32 := Scalar.divsi v71 c1_i32_27
  let v74 : BitVec 32 := Scalar.muli v73 c1_i32_27
  let v75 : BitVec 32 := Scalar.addi c0_i32_26 v74
  let v72 : BitVec 32 := Scalar.addi c0_i32_26 v71
  let c1_i32_29 : BitVec 32 := 1#32
  ⟨v75, v72, c1_i32_29⟩
def k0_mult2 (i : grid0.Coords) (k0_t2 : Fin (k0_t2_loop i).trips) : BitVec 32 :=
  let c0_i32_26 : BitVec 32 := 0#32
  let c0_i32 : BitVec 32 := 0#32
  let arg2 : BitVec 32 := BitVec.ofNat 32 (i 2).val
  let c512_i32 : BitVec 32 := 512#32
  let v2 : BitVec 32 := Scalar.muli arg2 c512_i32
  let v3 : BitVec 32 := Scalar.addi c0_i32 v2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c512_i32_2 : BitVec 32 := 512#32
  let c0_i32_5 : BitVec 32 := 0#32
  let v10 : BitVec 1 := Scalar.cmpi .sgt c512_i32_2 c0_i32_5
  let v11 : BitVec 32 := Scalar.extui v10
  let c0_i32_6 : BitVec 32 := 0#32
  let v12 : BitVec 1 := Scalar.cmpi .slt c512_i32_2 c0_i32_6
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_7 : BitVec 32 := 0#32
  let v17 : BitVec 1 := Scalar.cmpi .ne v16 c0_i32_7
  let v18 : BitVec 1 := Scalar.andi v15 v17
  let v4 : BitVec 32 := Scalar.divsi v3 c512_i32_2
  let c1_i32 : BitVec 32 := 1#32
  let v19 : BitVec 32 := Scalar.subi v4 c1_i32
  let v20 : BitVec 32 := Scalar.select v18 v19 v4
  let v71 : BitVec 32 := Scalar.subi v20 c0_i32_26
  let c1_i32_27 : BitVec 32 := 1#32
  let v73 : BitVec 32 := Scalar.divsi v71 c1_i32_27
  let v74 : BitVec 32 := Scalar.muli v73 c1_i32_27
  let v75 : BitVec 32 := Scalar.addi c0_i32_26 v74
  let c1_i32_29 : BitVec 32 := 1#32
  let arg8 : BitVec 32 := Scf.iv v75 c1_i32_29 k0_t2
  let c512_i32_42 : BitVec 32 := 512#32
  let v105 : BitVec 32 := Scalar.muli arg8 c512_i32_42
  v105
def k0_off3 (i : grid0.Coords) (k0_t2 : Fin (k0_t2_loop i).trips) : Fin 3 → Nat :=
  let c0_43 : Index := 0#32
  let c0_i32_26 : BitVec 32 := 0#32
  let c0_i32 : BitVec 32 := 0#32
  let arg2 : BitVec 32 := BitVec.ofNat 32 (i 2).val
  let c512_i32 : BitVec 32 := 512#32
  let v2 : BitVec 32 := Scalar.muli arg2 c512_i32
  let v3 : BitVec 32 := Scalar.addi c0_i32 v2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c512_i32_2 : BitVec 32 := 512#32
  let c0_i32_5 : BitVec 32 := 0#32
  let v10 : BitVec 1 := Scalar.cmpi .sgt c512_i32_2 c0_i32_5
  let v11 : BitVec 32 := Scalar.extui v10
  let c0_i32_6 : BitVec 32 := 0#32
  let v12 : BitVec 1 := Scalar.cmpi .slt c512_i32_2 c0_i32_6
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_7 : BitVec 32 := 0#32
  let v17 : BitVec 1 := Scalar.cmpi .ne v16 c0_i32_7
  let v18 : BitVec 1 := Scalar.andi v15 v17
  let v4 : BitVec 32 := Scalar.divsi v3 c512_i32_2
  let c1_i32 : BitVec 32 := 1#32
  let v19 : BitVec 32 := Scalar.subi v4 c1_i32
  let v20 : BitVec 32 := Scalar.select v18 v19 v4
  let v71 : BitVec 32 := Scalar.subi v20 c0_i32_26
  let c1_i32_27 : BitVec 32 := 1#32
  let v73 : BitVec 32 := Scalar.divsi v71 c1_i32_27
  let v74 : BitVec 32 := Scalar.muli v73 c1_i32_27
  let v75 : BitVec 32 := Scalar.addi c0_i32_26 v74
  let c1_i32_29 : BitVec 32 := 1#32
  let arg8 : BitVec 32 := Scf.iv v75 c1_i32_29 k0_t2
  let c512_i32_42 : BitVec 32 := 512#32
  let v105 : BitVec 32 := Scalar.muli arg8 c512_i32_42
  let v106 : BitVec 32 := v105
  let v107 : Index := Scalar.indexCast v106
  let c0_44 : Index := 0#32
  ![0, v107.toNat, 0]
def k0_off4 (i : grid0.Coords) (k0_t2 : Fin (k0_t2_loop i).trips) : Fin 3 → Nat :=
  let c0_49 : Index := 0#32
  let c0_i32_26 : BitVec 32 := 0#32
  let c0_i32 : BitVec 32 := 0#32
  let arg2 : BitVec 32 := BitVec.ofNat 32 (i 2).val
  let c512_i32 : BitVec 32 := 512#32
  let v2 : BitVec 32 := Scalar.muli arg2 c512_i32
  let v3 : BitVec 32 := Scalar.addi c0_i32 v2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c512_i32_2 : BitVec 32 := 512#32
  let c0_i32_5 : BitVec 32 := 0#32
  let v10 : BitVec 1 := Scalar.cmpi .sgt c512_i32_2 c0_i32_5
  let v11 : BitVec 32 := Scalar.extui v10
  let c0_i32_6 : BitVec 32 := 0#32
  let v12 : BitVec 1 := Scalar.cmpi .slt c512_i32_2 c0_i32_6
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_7 : BitVec 32 := 0#32
  let v17 : BitVec 1 := Scalar.cmpi .ne v16 c0_i32_7
  let v18 : BitVec 1 := Scalar.andi v15 v17
  let v4 : BitVec 32 := Scalar.divsi v3 c512_i32_2
  let c1_i32 : BitVec 32 := 1#32
  let v19 : BitVec 32 := Scalar.subi v4 c1_i32
  let v20 : BitVec 32 := Scalar.select v18 v19 v4
  let v71 : BitVec 32 := Scalar.subi v20 c0_i32_26
  let c1_i32_27 : BitVec 32 := 1#32
  let v73 : BitVec 32 := Scalar.divsi v71 c1_i32_27
  let v74 : BitVec 32 := Scalar.muli v73 c1_i32_27
  let v75 : BitVec 32 := Scalar.addi c0_i32_26 v74
  let c1_i32_29 : BitVec 32 := 1#32
  let arg8 : BitVec 32 := Scf.iv v75 c1_i32_29 k0_t2
  let c512_i32_42 : BitVec 32 := 512#32
  let v105 : BitVec 32 := Scalar.muli arg8 c512_i32_42
  let v106 : BitVec 32 := v105
  let v128 : Index := Scalar.indexCast v106
  let c0_50 : Index := 0#32
  ![0, v128.toNat, 0]
@[reducible] def k0_t3_loop (i : grid0.Coords) : Scf.Loop 32 :=
  let c0_i32 : BitVec 32 := 0#32
  let arg2 : BitVec 32 := BitVec.ofNat 32 (i 2).val
  let c512_i32 : BitVec 32 := 512#32
  let v2 : BitVec 32 := Scalar.muli arg2 c512_i32
  let v3 : BitVec 32 := Scalar.addi c0_i32 v2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c512_i32_2 : BitVec 32 := 512#32
  let c0_i32_5 : BitVec 32 := 0#32
  let v10 : BitVec 1 := Scalar.cmpi .sgt c512_i32_2 c0_i32_5
  let v11 : BitVec 32 := Scalar.extui v10
  let c0_i32_6 : BitVec 32 := 0#32
  let v12 : BitVec 1 := Scalar.cmpi .slt c512_i32_2 c0_i32_6
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_7 : BitVec 32 := 0#32
  let v17 : BitVec 1 := Scalar.cmpi .ne v16 c0_i32_7
  let v18 : BitVec 1 := Scalar.andi v15 v17
  let v4 : BitVec 32 := Scalar.divsi v3 c512_i32_2
  let c1_i32 : BitVec 32 := 1#32
  let v19 : BitVec 32 := Scalar.subi v4 c1_i32
  let v20 : BitVec 32 := Scalar.select v18 v19 v4
  let c512_i32_8 : BitVec 32 := 512#32
  let v21 : BitVec 32 := Scalar.addi v3 c512_i32_8
  let c1_i32_9 : BitVec 32 := 1#32
  let v22 : BitVec 32 := Scalar.subi v21 c1_i32_9
  let c0_i32_11 : BitVec 32 := 0#32
  let v24 : BitVec 1 := Scalar.cmpi .sgt v22 c0_i32_11
  let v25 : BitVec 32 := Scalar.extui v24
  let c0_i32_12 : BitVec 32 := 0#32
  let v26 : BitVec 1 := Scalar.cmpi .slt v22 c0_i32_12
  let v27 : BitVec 32 := Scalar.extui v26
  let v28 : BitVec 32 := Scalar.subi v25 v27
  let c512_i32_10 : BitVec 32 := 512#32
  let c0_i32_13 : BitVec 32 := 0#32
  let v29 : BitVec 1 := Scalar.cmpi .sgt c512_i32_10 c0_i32_13
  let v30 : BitVec 32 := Scalar.extui v29
  let c0_i32_14 : BitVec 32 := 0#32
  let v31 : BitVec 1 := Scalar.cmpi .slt c512_i32_10 c0_i32_14
  let v32 : BitVec 32 := Scalar.extui v31
  let v33 : BitVec 32 := Scalar.subi v30 v32
  let v34 : BitVec 1 := Scalar.cmpi .ne v28 v33
  let v35 : BitVec 32 := Scalar.remsi v22 c512_i32_10
  let c0_i32_15 : BitVec 32 := 0#32
  let v36 : BitVec 1 := Scalar.cmpi .ne v35 c0_i32_15
  let v37 : BitVec 1 := Scalar.andi v34 v36
  let v23 : BitVec 32 := Scalar.divsi v22 c512_i32_10
  let c1_i32_16 : BitVec 32 := 1#32
  let v38 : BitVec 32 := Scalar.subi v23 c1_i32_16
  let v39 : BitVec 32 := Scalar.select v37 v38 v23
  let c1_i32_17 : BitVec 32 := 1#32
  let v40 : BitVec 32 := Scalar.addi v39 c1_i32_17
  let v78 : BitVec 32 := Scalar.subi v40 v20
  let c1_i32_30 : BitVec 32 := 1#32
  let v80 : BitVec 32 := Scalar.divsi v78 c1_i32_30
  let v81 : BitVec 32 := Scalar.muli v80 c1_i32_30
  let v82 : BitVec 32 := Scalar.addi v20 v81
  let c1_i32_31 : BitVec 32 := 1#32
  ⟨v20, v82, c1_i32_31⟩
def k0_mult3 (i : grid0.Coords) (k0_t3 : Fin (k0_t3_loop i).trips) : BitVec 32 :=
  let c0_i32 : BitVec 32 := 0#32
  let arg2 : BitVec 32 := BitVec.ofNat 32 (i 2).val
  let c512_i32 : BitVec 32 := 512#32
  let v2 : BitVec 32 := Scalar.muli arg2 c512_i32
  let v3 : BitVec 32 := Scalar.addi c0_i32 v2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c512_i32_2 : BitVec 32 := 512#32
  let c0_i32_5 : BitVec 32 := 0#32
  let v10 : BitVec 1 := Scalar.cmpi .sgt c512_i32_2 c0_i32_5
  let v11 : BitVec 32 := Scalar.extui v10
  let c0_i32_6 : BitVec 32 := 0#32
  let v12 : BitVec 1 := Scalar.cmpi .slt c512_i32_2 c0_i32_6
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_7 : BitVec 32 := 0#32
  let v17 : BitVec 1 := Scalar.cmpi .ne v16 c0_i32_7
  let v18 : BitVec 1 := Scalar.andi v15 v17
  let v4 : BitVec 32 := Scalar.divsi v3 c512_i32_2
  let c1_i32 : BitVec 32 := 1#32
  let v19 : BitVec 32 := Scalar.subi v4 c1_i32
  let v20 : BitVec 32 := Scalar.select v18 v19 v4
  let c1_i32_31 : BitVec 32 := 1#32
  let arg8 : BitVec 32 := Scf.iv v20 c1_i32_31 k0_t3
  let c512_i32_42 : BitVec 32 := 512#32
  let v105 : BitVec 32 := Scalar.muli arg8 c512_i32_42
  v105
def k0_off5 (i : grid0.Coords) (k0_t3 : Fin (k0_t3_loop i).trips) : Fin 3 → Nat :=
  let c0_43 : Index := 0#32
  let c0_i32 : BitVec 32 := 0#32
  let arg2 : BitVec 32 := BitVec.ofNat 32 (i 2).val
  let c512_i32 : BitVec 32 := 512#32
  let v2 : BitVec 32 := Scalar.muli arg2 c512_i32
  let v3 : BitVec 32 := Scalar.addi c0_i32 v2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c512_i32_2 : BitVec 32 := 512#32
  let c0_i32_5 : BitVec 32 := 0#32
  let v10 : BitVec 1 := Scalar.cmpi .sgt c512_i32_2 c0_i32_5
  let v11 : BitVec 32 := Scalar.extui v10
  let c0_i32_6 : BitVec 32 := 0#32
  let v12 : BitVec 1 := Scalar.cmpi .slt c512_i32_2 c0_i32_6
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_7 : BitVec 32 := 0#32
  let v17 : BitVec 1 := Scalar.cmpi .ne v16 c0_i32_7
  let v18 : BitVec 1 := Scalar.andi v15 v17
  let v4 : BitVec 32 := Scalar.divsi v3 c512_i32_2
  let c1_i32 : BitVec 32 := 1#32
  let v19 : BitVec 32 := Scalar.subi v4 c1_i32
  let v20 : BitVec 32 := Scalar.select v18 v19 v4
  let c1_i32_31 : BitVec 32 := 1#32
  let arg8 : BitVec 32 := Scf.iv v20 c1_i32_31 k0_t3
  let c512_i32_42 : BitVec 32 := 512#32
  let v105 : BitVec 32 := Scalar.muli arg8 c512_i32_42
  let v106 : BitVec 32 := v105
  let v107 : Index := Scalar.indexCast v106
  let c0_44 : Index := 0#32
  ![0, v107.toNat, 0]
def k0_off6 (i : grid0.Coords) (k0_t3 : Fin (k0_t3_loop i).trips) : Fin 3 → Nat :=
  let c0_57 : Index := 0#32
  let c0_i32 : BitVec 32 := 0#32
  let arg2 : BitVec 32 := BitVec.ofNat 32 (i 2).val
  let c512_i32 : BitVec 32 := 512#32
  let v2 : BitVec 32 := Scalar.muli arg2 c512_i32
  let v3 : BitVec 32 := Scalar.addi c0_i32 v2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c512_i32_2 : BitVec 32 := 512#32
  let c0_i32_5 : BitVec 32 := 0#32
  let v10 : BitVec 1 := Scalar.cmpi .sgt c512_i32_2 c0_i32_5
  let v11 : BitVec 32 := Scalar.extui v10
  let c0_i32_6 : BitVec 32 := 0#32
  let v12 : BitVec 1 := Scalar.cmpi .slt c512_i32_2 c0_i32_6
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_7 : BitVec 32 := 0#32
  let v17 : BitVec 1 := Scalar.cmpi .ne v16 c0_i32_7
  let v18 : BitVec 1 := Scalar.andi v15 v17
  let v4 : BitVec 32 := Scalar.divsi v3 c512_i32_2
  let c1_i32 : BitVec 32 := 1#32
  let v19 : BitVec 32 := Scalar.subi v4 c1_i32
  let v20 : BitVec 32 := Scalar.select v18 v19 v4
  let c1_i32_31 : BitVec 32 := 1#32
  let arg8 : BitVec 32 := Scf.iv v20 c1_i32_31 k0_t3
  let c512_i32_42 : BitVec 32 := 512#32
  let v105 : BitVec 32 := Scalar.muli arg8 c512_i32_42
  let v106 : BitVec 32 := v105
  let v160 : Index := Scalar.indexCast v106
  let c0_58 : Index := 0#32
  ![0, v160.toNat, 0]
@[reducible] def k0_t4_loop (i : grid0.Coords) : Scf.Loop 32 :=
  let c0_i32 : BitVec 32 := 0#32
  let arg2 : BitVec 32 := BitVec.ofNat 32 (i 2).val
  let c512_i32 : BitVec 32 := 512#32
  let v2 : BitVec 32 := Scalar.muli arg2 c512_i32
  let v3 : BitVec 32 := Scalar.addi c0_i32 v2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c512_i32_2 : BitVec 32 := 512#32
  let c0_i32_5 : BitVec 32 := 0#32
  let v10 : BitVec 1 := Scalar.cmpi .sgt c512_i32_2 c0_i32_5
  let v11 : BitVec 32 := Scalar.extui v10
  let c0_i32_6 : BitVec 32 := 0#32
  let v12 : BitVec 1 := Scalar.cmpi .slt c512_i32_2 c0_i32_6
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_7 : BitVec 32 := 0#32
  let v17 : BitVec 1 := Scalar.cmpi .ne v16 c0_i32_7
  let v18 : BitVec 1 := Scalar.andi v15 v17
  let v4 : BitVec 32 := Scalar.divsi v3 c512_i32_2
  let c1_i32 : BitVec 32 := 1#32
  let v19 : BitVec 32 := Scalar.subi v4 c1_i32
  let v20 : BitVec 32 := Scalar.select v18 v19 v4
  let c512_i32_8 : BitVec 32 := 512#32
  let v21 : BitVec 32 := Scalar.addi v3 c512_i32_8
  let c1_i32_9 : BitVec 32 := 1#32
  let v22 : BitVec 32 := Scalar.subi v21 c1_i32_9
  let c0_i32_11 : BitVec 32 := 0#32
  let v24 : BitVec 1 := Scalar.cmpi .sgt v22 c0_i32_11
  let v25 : BitVec 32 := Scalar.extui v24
  let c0_i32_12 : BitVec 32 := 0#32
  let v26 : BitVec 1 := Scalar.cmpi .slt v22 c0_i32_12
  let v27 : BitVec 32 := Scalar.extui v26
  let v28 : BitVec 32 := Scalar.subi v25 v27
  let c512_i32_10 : BitVec 32 := 512#32
  let c0_i32_13 : BitVec 32 := 0#32
  let v29 : BitVec 1 := Scalar.cmpi .sgt c512_i32_10 c0_i32_13
  let v30 : BitVec 32 := Scalar.extui v29
  let c0_i32_14 : BitVec 32 := 0#32
  let v31 : BitVec 1 := Scalar.cmpi .slt c512_i32_10 c0_i32_14
  let v32 : BitVec 32 := Scalar.extui v31
  let v33 : BitVec 32 := Scalar.subi v30 v32
  let v34 : BitVec 1 := Scalar.cmpi .ne v28 v33
  let v35 : BitVec 32 := Scalar.remsi v22 c512_i32_10
  let c0_i32_15 : BitVec 32 := 0#32
  let v36 : BitVec 1 := Scalar.cmpi .ne v35 c0_i32_15
  let v37 : BitVec 1 := Scalar.andi v34 v36
  let v23 : BitVec 32 := Scalar.divsi v22 c512_i32_10
  let c1_i32_16 : BitVec 32 := 1#32
  let v38 : BitVec 32 := Scalar.subi v23 c1_i32_16
  let v39 : BitVec 32 := Scalar.select v37 v38 v23
  let c1_i32_17 : BitVec 32 := 1#32
  let v40 : BitVec 32 := Scalar.addi v39 c1_i32_17
  let v78 : BitVec 32 := Scalar.subi v40 v20
  let c1_i32_30 : BitVec 32 := 1#32
  let v80 : BitVec 32 := Scalar.divsi v78 c1_i32_30
  let v81 : BitVec 32 := Scalar.muli v80 c1_i32_30
  let v82 : BitVec 32 := Scalar.addi v20 v81
  let v79 : BitVec 32 := Scalar.addi v20 v78
  let c1_i32_32 : BitVec 32 := 1#32
  ⟨v82, v79, c1_i32_32⟩
def k0_mult4 (i : grid0.Coords) (k0_t4 : Fin (k0_t4_loop i).trips) : BitVec 32 :=
  let c0_i32 : BitVec 32 := 0#32
  let arg2 : BitVec 32 := BitVec.ofNat 32 (i 2).val
  let c512_i32 : BitVec 32 := 512#32
  let v2 : BitVec 32 := Scalar.muli arg2 c512_i32
  let v3 : BitVec 32 := Scalar.addi c0_i32 v2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c512_i32_2 : BitVec 32 := 512#32
  let c0_i32_5 : BitVec 32 := 0#32
  let v10 : BitVec 1 := Scalar.cmpi .sgt c512_i32_2 c0_i32_5
  let v11 : BitVec 32 := Scalar.extui v10
  let c0_i32_6 : BitVec 32 := 0#32
  let v12 : BitVec 1 := Scalar.cmpi .slt c512_i32_2 c0_i32_6
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_7 : BitVec 32 := 0#32
  let v17 : BitVec 1 := Scalar.cmpi .ne v16 c0_i32_7
  let v18 : BitVec 1 := Scalar.andi v15 v17
  let v4 : BitVec 32 := Scalar.divsi v3 c512_i32_2
  let c1_i32 : BitVec 32 := 1#32
  let v19 : BitVec 32 := Scalar.subi v4 c1_i32
  let v20 : BitVec 32 := Scalar.select v18 v19 v4
  let c512_i32_8 : BitVec 32 := 512#32
  let v21 : BitVec 32 := Scalar.addi v3 c512_i32_8
  let c1_i32_9 : BitVec 32 := 1#32
  let v22 : BitVec 32 := Scalar.subi v21 c1_i32_9
  let c0_i32_11 : BitVec 32 := 0#32
  let v24 : BitVec 1 := Scalar.cmpi .sgt v22 c0_i32_11
  let v25 : BitVec 32 := Scalar.extui v24
  let c0_i32_12 : BitVec 32 := 0#32
  let v26 : BitVec 1 := Scalar.cmpi .slt v22 c0_i32_12
  let v27 : BitVec 32 := Scalar.extui v26
  let v28 : BitVec 32 := Scalar.subi v25 v27
  let c512_i32_10 : BitVec 32 := 512#32
  let c0_i32_13 : BitVec 32 := 0#32
  let v29 : BitVec 1 := Scalar.cmpi .sgt c512_i32_10 c0_i32_13
  let v30 : BitVec 32 := Scalar.extui v29
  let c0_i32_14 : BitVec 32 := 0#32
  let v31 : BitVec 1 := Scalar.cmpi .slt c512_i32_10 c0_i32_14
  let v32 : BitVec 32 := Scalar.extui v31
  let v33 : BitVec 32 := Scalar.subi v30 v32
  let v34 : BitVec 1 := Scalar.cmpi .ne v28 v33
  let v35 : BitVec 32 := Scalar.remsi v22 c512_i32_10
  let c0_i32_15 : BitVec 32 := 0#32
  let v36 : BitVec 1 := Scalar.cmpi .ne v35 c0_i32_15
  let v37 : BitVec 1 := Scalar.andi v34 v36
  let v23 : BitVec 32 := Scalar.divsi v22 c512_i32_10
  let c1_i32_16 : BitVec 32 := 1#32
  let v38 : BitVec 32 := Scalar.subi v23 c1_i32_16
  let v39 : BitVec 32 := Scalar.select v37 v38 v23
  let c1_i32_17 : BitVec 32 := 1#32
  let v40 : BitVec 32 := Scalar.addi v39 c1_i32_17
  let v78 : BitVec 32 := Scalar.subi v40 v20
  let c1_i32_30 : BitVec 32 := 1#32
  let v80 : BitVec 32 := Scalar.divsi v78 c1_i32_30
  let v81 : BitVec 32 := Scalar.muli v80 c1_i32_30
  let v82 : BitVec 32 := Scalar.addi v20 v81
  let c1_i32_32 : BitVec 32 := 1#32
  let arg8 : BitVec 32 := Scf.iv v82 c1_i32_32 k0_t4
  let c512_i32_42 : BitVec 32 := 512#32
  let v105 : BitVec 32 := Scalar.muli arg8 c512_i32_42
  v105
def k0_off7 (i : grid0.Coords) (k0_t4 : Fin (k0_t4_loop i).trips) : Fin 3 → Nat :=
  let c0_43 : Index := 0#32
  let c0_i32 : BitVec 32 := 0#32
  let arg2 : BitVec 32 := BitVec.ofNat 32 (i 2).val
  let c512_i32 : BitVec 32 := 512#32
  let v2 : BitVec 32 := Scalar.muli arg2 c512_i32
  let v3 : BitVec 32 := Scalar.addi c0_i32 v2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c512_i32_2 : BitVec 32 := 512#32
  let c0_i32_5 : BitVec 32 := 0#32
  let v10 : BitVec 1 := Scalar.cmpi .sgt c512_i32_2 c0_i32_5
  let v11 : BitVec 32 := Scalar.extui v10
  let c0_i32_6 : BitVec 32 := 0#32
  let v12 : BitVec 1 := Scalar.cmpi .slt c512_i32_2 c0_i32_6
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_7 : BitVec 32 := 0#32
  let v17 : BitVec 1 := Scalar.cmpi .ne v16 c0_i32_7
  let v18 : BitVec 1 := Scalar.andi v15 v17
  let v4 : BitVec 32 := Scalar.divsi v3 c512_i32_2
  let c1_i32 : BitVec 32 := 1#32
  let v19 : BitVec 32 := Scalar.subi v4 c1_i32
  let v20 : BitVec 32 := Scalar.select v18 v19 v4
  let c512_i32_8 : BitVec 32 := 512#32
  let v21 : BitVec 32 := Scalar.addi v3 c512_i32_8
  let c1_i32_9 : BitVec 32 := 1#32
  let v22 : BitVec 32 := Scalar.subi v21 c1_i32_9
  let c0_i32_11 : BitVec 32 := 0#32
  let v24 : BitVec 1 := Scalar.cmpi .sgt v22 c0_i32_11
  let v25 : BitVec 32 := Scalar.extui v24
  let c0_i32_12 : BitVec 32 := 0#32
  let v26 : BitVec 1 := Scalar.cmpi .slt v22 c0_i32_12
  let v27 : BitVec 32 := Scalar.extui v26
  let v28 : BitVec 32 := Scalar.subi v25 v27
  let c512_i32_10 : BitVec 32 := 512#32
  let c0_i32_13 : BitVec 32 := 0#32
  let v29 : BitVec 1 := Scalar.cmpi .sgt c512_i32_10 c0_i32_13
  let v30 : BitVec 32 := Scalar.extui v29
  let c0_i32_14 : BitVec 32 := 0#32
  let v31 : BitVec 1 := Scalar.cmpi .slt c512_i32_10 c0_i32_14
  let v32 : BitVec 32 := Scalar.extui v31
  let v33 : BitVec 32 := Scalar.subi v30 v32
  let v34 : BitVec 1 := Scalar.cmpi .ne v28 v33
  let v35 : BitVec 32 := Scalar.remsi v22 c512_i32_10
  let c0_i32_15 : BitVec 32 := 0#32
  let v36 : BitVec 1 := Scalar.cmpi .ne v35 c0_i32_15
  let v37 : BitVec 1 := Scalar.andi v34 v36
  let v23 : BitVec 32 := Scalar.divsi v22 c512_i32_10
  let c1_i32_16 : BitVec 32 := 1#32
  let v38 : BitVec 32 := Scalar.subi v23 c1_i32_16
  let v39 : BitVec 32 := Scalar.select v37 v38 v23
  let c1_i32_17 : BitVec 32 := 1#32
  let v40 : BitVec 32 := Scalar.addi v39 c1_i32_17
  let v78 : BitVec 32 := Scalar.subi v40 v20
  let c1_i32_30 : BitVec 32 := 1#32
  let v80 : BitVec 32 := Scalar.divsi v78 c1_i32_30
  let v81 : BitVec 32 := Scalar.muli v80 c1_i32_30
  let v82 : BitVec 32 := Scalar.addi v20 v81
  let c1_i32_32 : BitVec 32 := 1#32
  let arg8 : BitVec 32 := Scf.iv v82 c1_i32_32 k0_t4
  let c512_i32_42 : BitVec 32 := 512#32
  let v105 : BitVec 32 := Scalar.muli arg8 c512_i32_42
  let v106 : BitVec 32 := v105
  let v107 : Index := Scalar.indexCast v106
  let c0_44 : Index := 0#32
  ![0, v107.toNat, 0]
def k0_off8 (i : grid0.Coords) (k0_t4 : Fin (k0_t4_loop i).trips) : Fin 3 → Nat :=
  let c0_57 : Index := 0#32
  let c0_i32 : BitVec 32 := 0#32
  let arg2 : BitVec 32 := BitVec.ofNat 32 (i 2).val
  let c512_i32 : BitVec 32 := 512#32
  let v2 : BitVec 32 := Scalar.muli arg2 c512_i32
  let v3 : BitVec 32 := Scalar.addi c0_i32 v2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c512_i32_2 : BitVec 32 := 512#32
  let c0_i32_5 : BitVec 32 := 0#32
  let v10 : BitVec 1 := Scalar.cmpi .sgt c512_i32_2 c0_i32_5
  let v11 : BitVec 32 := Scalar.extui v10
  let c0_i32_6 : BitVec 32 := 0#32
  let v12 : BitVec 1 := Scalar.cmpi .slt c512_i32_2 c0_i32_6
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_7 : BitVec 32 := 0#32
  let v17 : BitVec 1 := Scalar.cmpi .ne v16 c0_i32_7
  let v18 : BitVec 1 := Scalar.andi v15 v17
  let v4 : BitVec 32 := Scalar.divsi v3 c512_i32_2
  let c1_i32 : BitVec 32 := 1#32
  let v19 : BitVec 32 := Scalar.subi v4 c1_i32
  let v20 : BitVec 32 := Scalar.select v18 v19 v4
  let c512_i32_8 : BitVec 32 := 512#32
  let v21 : BitVec 32 := Scalar.addi v3 c512_i32_8
  let c1_i32_9 : BitVec 32 := 1#32
  let v22 : BitVec 32 := Scalar.subi v21 c1_i32_9
  let c0_i32_11 : BitVec 32 := 0#32
  let v24 : BitVec 1 := Scalar.cmpi .sgt v22 c0_i32_11
  let v25 : BitVec 32 := Scalar.extui v24
  let c0_i32_12 : BitVec 32 := 0#32
  let v26 : BitVec 1 := Scalar.cmpi .slt v22 c0_i32_12
  let v27 : BitVec 32 := Scalar.extui v26
  let v28 : BitVec 32 := Scalar.subi v25 v27
  let c512_i32_10 : BitVec 32 := 512#32
  let c0_i32_13 : BitVec 32 := 0#32
  let v29 : BitVec 1 := Scalar.cmpi .sgt c512_i32_10 c0_i32_13
  let v30 : BitVec 32 := Scalar.extui v29
  let c0_i32_14 : BitVec 32 := 0#32
  let v31 : BitVec 1 := Scalar.cmpi .slt c512_i32_10 c0_i32_14
  let v32 : BitVec 32 := Scalar.extui v31
  let v33 : BitVec 32 := Scalar.subi v30 v32
  let v34 : BitVec 1 := Scalar.cmpi .ne v28 v33
  let v35 : BitVec 32 := Scalar.remsi v22 c512_i32_10
  let c0_i32_15 : BitVec 32 := 0#32
  let v36 : BitVec 1 := Scalar.cmpi .ne v35 c0_i32_15
  let v37 : BitVec 1 := Scalar.andi v34 v36
  let v23 : BitVec 32 := Scalar.divsi v22 c512_i32_10
  let c1_i32_16 : BitVec 32 := 1#32
  let v38 : BitVec 32 := Scalar.subi v23 c1_i32_16
  let v39 : BitVec 32 := Scalar.select v37 v38 v23
  let c1_i32_17 : BitVec 32 := 1#32
  let v40 : BitVec 32 := Scalar.addi v39 c1_i32_17
  let v78 : BitVec 32 := Scalar.subi v40 v20
  let c1_i32_30 : BitVec 32 := 1#32
  let v80 : BitVec 32 := Scalar.divsi v78 c1_i32_30
  let v81 : BitVec 32 := Scalar.muli v80 c1_i32_30
  let v82 : BitVec 32 := Scalar.addi v20 v81
  let c1_i32_32 : BitVec 32 := 1#32
  let arg8 : BitVec 32 := Scf.iv v82 c1_i32_32 k0_t4
  let c512_i32_42 : BitVec 32 := 512#32
  let v105 : BitVec 32 := Scalar.muli arg8 c512_i32_42
  let v106 : BitVec 32 := v105
  let v160 : Index := Scalar.indexCast v106
  let c0_58 : Index := 0#32
  ![0, v160.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== MlaIdeal.lean ====
variable {F : FTy → Type} [FloatOps F] [Named F]
def κ : String → Option EReal := fun
  | "mask" => some ⊥
  | _ => none
-- ==== MlaRefIdeal.lean ====
abbrev S2x16384x1024 : Shape := ⟨3, ![2, 16384, 1024]⟩
abbrev S2x16384x512 : Shape := ⟨3, ![2, 16384, 512]⟩
abbrev S1536 : Shape := ⟨1, ![1536]⟩
abbrev S2x16384x4x256 : Shape := ⟨4, ![2, 16384, 4, 256]⟩
abbrev S2x16384x4x128 : Shape := ⟨4, ![2, 16384, 4, 128]⟩
abbrev S16384 : Shape := ⟨1, ![16384]⟩
abbrev S2x4x16384x16384 : Shape := ⟨4, ![2, 4, 16384, 16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S2x4x16384 : Shape := ⟨3, ![2, 4, 16384]⟩
abbrev S2x4x16384x1 : Shape := ⟨4, ![2, 4, 16384, 1]⟩
abbrev S2x16384x4 : Shape := ⟨3, ![2, 16384, 4]⟩
abbrev S2x16384x4x1 : Shape := ⟨4, ![2, 16384, 4, 1]⟩
abbrev S2x4x128x16384 : Shape := ⟨4, ![2, 4, 128, 16384]⟩
abbrev S12x128 : Shape := ⟨2, ![12, 128]⟩
abbrev S4x128 : Shape := ⟨2, ![4, 128]⟩
abbrev S1x1x4x128 : Shape := ⟨4, ![1, 1, 4, 128]⟩

abbrev nBuf : Space → Nat
  | .hbm => 95
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S2x16384x512, .bf16⟩
  | .hbm, ⟨3, _⟩ => ⟨S1536, .f32⟩
  | .hbm, ⟨4, _⟩ => ⟨S2x16384x1024, .f32⟩
  | .hbm, ⟨5, _⟩ => ⟨S2x16384x4x256, .f32⟩
  | .hbm, ⟨6, _⟩ => ⟨S2x16384x1024, .f32⟩
  | .hbm, ⟨7, _⟩ => ⟨S2x16384x4x256, .f32⟩
  | .hbm, ⟨8, _⟩ => ⟨S2x16384x512, .f32⟩
  | .hbm, ⟨9, _⟩ => ⟨S2x16384x4x128, .f32⟩
  | .hbm, ⟨10, _⟩ => ⟨S16384, .i32⟩
  | .hbm, ⟨11, _⟩ => ⟨S2x4x16384x16384, .f32⟩
  | .hbm, ⟨12, _⟩ => ⟨S_, .f32⟩
  | .hbm, ⟨13, _⟩ => ⟨S2x4x16384x16384, .f32⟩
  | .hbm, ⟨14, _⟩ => ⟨S2x4x16384x16384, .f32⟩
  | .hbm, ⟨15, _⟩ => ⟨S1x16384, .i32⟩
  | .hbm, ⟨16, _⟩ => ⟨S_, .i32⟩
  | .hbm, ⟨17, _⟩ => ⟨S_, .i32⟩
  | .hbm, ⟨18, _⟩ => ⟨S1x16384, .i32⟩
  | .hbm, ⟨19, _⟩ => ⟨S1x16384, .i32⟩
  | .hbm, ⟨20, _⟩ => ⟨S1x16384, .i32⟩
  | .hbm, ⟨21, _⟩ => ⟨S_, .i32⟩
  | .hbm, ⟨22, _⟩ => ⟨S1x16384, .i32⟩
  | .hbm, ⟨23, _⟩ => ⟨S1x16384, .i1⟩
  | .hbm, ⟨24, _⟩ => ⟨S1x16384, .i32⟩
  | .hbm, ⟨25, _⟩ => ⟨S1x16384, .i32⟩
  | .hbm, ⟨26, _⟩ => ⟨S_, .i32⟩
  | .hbm, ⟨27, _⟩ => ⟨S1x16384, .i32⟩
  | .hbm, ⟨28, _⟩ => ⟨S1x16384, .i1⟩
  | .hbm, ⟨29, _⟩ => ⟨S1x16384, .i1⟩
  | .hbm, ⟨30, _⟩ => ⟨S_, .i32⟩
  | .hbm, ⟨31, _⟩ => ⟨S1x16384, .i32⟩
  | .hbm, ⟨32, _⟩ => ⟨S1x16384, .i32⟩
  | .hbm, ⟨33, _⟩ => ⟨S1x16384, .i32⟩
  | .hbm, ⟨34, _⟩ => ⟨S16384x1, .i32⟩
  | .hbm, ⟨35, _⟩ => ⟨S_, .i32⟩
  | .hbm, ⟨36, _⟩ => ⟨S_, .i32⟩
  | .hbm, ⟨37, _⟩ => ⟨S16384x1, .i32⟩
  | .hbm, ⟨38, _⟩ => ⟨S16384x1, .i32⟩
  | .hbm, ⟨39, _⟩ => ⟨S16384x1, .i32⟩
  | .hbm, ⟨40, _⟩ => ⟨S_, .i32⟩
  | .hbm, ⟨41, _⟩ => ⟨S16384x1, .i32⟩
  | .hbm, ⟨42, _⟩ => ⟨S16384x1, .i1⟩
  | .hbm, ⟨43, _⟩ => ⟨S16384x1, .i32⟩
  | .hbm, ⟨44, _⟩ => ⟨S16384x1, .i32⟩
  | .hbm, ⟨45, _⟩ => ⟨S_, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i32⟩
  | .hbm, ⟨50, _⟩ => ⟨S16384x1, .i32⟩
  | .hbm, ⟨51, _⟩ => ⟨S16384x1, .i32⟩
  | .hbm, ⟨52, _⟩ => ⟨S16384x1, .i32⟩
  | .hbm, ⟨53, _⟩ => ⟨S16384x16384, .i32⟩
  | .hbm, ⟨54, _⟩ => ⟨S16384x16384, .i32⟩
  | .hbm, ⟨55, _⟩ => ⟨S16384x16384, .i1⟩
  | .hbm, ⟨56, _⟩ => ⟨S_, .f32⟩
  | .hbm, ⟨57, _⟩ => ⟨S_, .f32⟩
  | .hbm, ⟨58, _⟩ => ⟨S2x4x16384x16384, .i1⟩
  | .hbm, ⟨59, _⟩ => ⟨S2x4x16384x16384, .f32⟩
  | .hbm, ⟨60, _⟩ => ⟨S2x4x16384x16384, .f32⟩
  | .hbm, ⟨61, _⟩ => ⟨S_, .f32⟩
  | .hbm, ⟨62, _⟩ => ⟨S2x4x16384, .f32⟩
  | .hbm, ⟨63, _⟩ => ⟨S2x4x16384x1, .f32⟩
  | .hbm, ⟨64, _⟩ => ⟨S2x4x16384x16384, .f32⟩
  | .hbm, ⟨65, _⟩ => ⟨S2x4x16384x16384, .f32⟩
  | .hbm, ⟨66, _⟩ => ⟨S2x4x16384x16384, .f32⟩
  | .hbm, ⟨67, _⟩ => ⟨S_, .f32⟩
  | .hbm, ⟨68, _⟩ => ⟨S2x4x16384, .f32⟩
  | .hbm, ⟨69, _⟩ => ⟨S2x16384x4, .f32⟩
  | .hbm, ⟨70, _⟩ => ⟨S2x16384x4x1, .f32⟩
  | .hbm, ⟨71, _⟩ => ⟨S2x4x128x16384, .f32⟩
  | .hbm, ⟨72, _⟩ => ⟨S2x16384x4x128, .f32⟩
  | .hbm, ⟨73, _⟩ => ⟨S2x16384x4x128, .f32⟩
  | .hbm, ⟨74, _⟩ => ⟨S2x16384x4x128, .f32⟩
  | .hbm, ⟨75, _⟩ => ⟨S12x128, .f32⟩
  | .hbm, ⟨76, _⟩ => ⟨S4x128, .f32⟩
  | .hbm, ⟨77, _⟩ => ⟨S2x16384x4x128, .f32⟩
  | .hbm, ⟨78, _⟩ => ⟨S_, .f32⟩
  | .hbm, ⟨79, _⟩ => ⟨S2x16384x4, .f32⟩
  | .hbm, ⟨80, _⟩ => ⟨S2x16384x4x1, .f32⟩
  | .hbm, ⟨81, _⟩ => ⟨S_, .f32⟩
  | .hbm, ⟨82, _⟩ => ⟨S2x16384x4x1, .f32⟩
  | .hbm, ⟨83, _⟩ => ⟨S2x16384x4x1, .f32⟩
  | .hbm, ⟨84, _⟩ => ⟨S_, .f32⟩
  | .hbm, ⟨85, _⟩ => ⟨S2x16384x4x1, .f32⟩
  | .hbm, ⟨86, _⟩ => ⟨S2x16384x4x1, .f32⟩
  | .hbm, ⟨87, _⟩ => ⟨S2x16384x4x1, .f32⟩
  | .hbm, ⟨88, _⟩ => ⟨S2x16384x4x128, .f32⟩
  | .hbm, ⟨89, _⟩ => ⟨S2x16384x4x128, .f32⟩
  | .hbm, ⟨90, _⟩ => ⟨S1x1x4x128, .f32⟩
  | .hbm, ⟨91, _⟩ => ⟨S2x16384x4x128, .f32⟩
  | .hbm, ⟨92, _⟩ => ⟨S2x16384x4x128, .f32⟩
  | .hbm, ⟨93, _⟩ => ⟨S2x16384x512, .f32⟩
  | .hbm, ⟨94, _⟩ => ⟨S2x16384x512, .bf16⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst_1 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v17 : Ref sig .tc := ⟨.hbm, 60, rfl⟩
abbrev main_cst_2 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_cst_3 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_cst_4 : Ref sig .tc := ⟨.hbm, 78, rfl⟩
abbrev main_v33 : Ref sig .tc := ⟨.hbm, 79, rfl⟩
abbrev main_v34 : Ref sig .tc := ⟨.hbm, 80, rfl⟩
abbrev main_cst_5 : Ref sig .tc := ⟨.hbm, 81, rfl⟩
abbrev main_v35 : Ref sig .tc := ⟨.hbm, 82, rfl⟩
abbrev main_v36 : Ref sig .tc := ⟨.hbm, 83, rfl⟩
abbrev main_cst_6 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩

abbrev nD : Nat := 1
abbrev τ : Topo := Topo.v7x

variable {F : FTy → Type} [FloatOps F]
-- ==== Sb.lean ====
abbrev S2x16384x3072 : Shape := ⟨3, ![2, 16384, 3072]⟩
abbrev S1536 : Shape := ⟨1, ![1536]⟩
abbrev S12x1x128 : Shape := ⟨3, ![12, 1, 128]⟩
abbrev S2x16384x512 : Shape := ⟨3, ![2, 16384, 512]⟩
abbrev S1x256x128 : Shape := ⟨3, ![1, 256, 128]⟩
abbrev S1x16384x128 : Shape := ⟨3, ![1, 16384, 128]⟩
abbrev S1x1x128 : Shape := ⟨3, ![1, 1, 128]⟩
abbrev S256x128 : Shape := ⟨2, ![256, 128]⟩
abbrev S256x1 : Shape := ⟨2, ![256, 1]⟩
abbrev S128x128 : Shape := ⟨2, ![128, 128]⟩
abbrev S1x256x1 : Shape := ⟨3, ![1, 256, 1]⟩
abbrev S1 : Shape := ⟨1, ![1]⟩
abbrev S1x1x1 : Shape := ⟨3, ![1, 1, 1]⟩
abbrev S1x128x128 : Shape := ⟨3, ![1, 128, 128]⟩
abbrev S1x128 : Shape := ⟨2, ![1, 128]⟩
abbrev S256 : Shape := ⟨1, ![256]⟩

abbrev nBuf : Space → Nat
  | .hbm => 4
  | .vmem => 10
  | .smem => 0
  | _ => 0

abbrev bufTy : (tb : Table) → Fin (tcTables nBuf tb) → BufTy
  | .hbm, ⟨0, _⟩ => ⟨S2x16384x3072, .bf16⟩
  | .hbm, ⟨1, _⟩ => ⟨S1536, .f32⟩
  | .hbm, ⟨2, _⟩ => ⟨S12x1x128, .f32⟩
  | .hbm, ⟨3, _⟩ => ⟨S2x16384x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x1x128, .f32⟩
  | .local _ .vmem, ⟨7, _⟩ => ⟨S1x1x128, .f32⟩
  | .local _ .vmem, ⟨8, _⟩ => ⟨S1x256x128, .bf16⟩
  | .local _ .vmem, ⟨9, _⟩ => ⟨S1x256x128, .bf16⟩
  | _, _ => ⟨S2x16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 64], ![false, false, false]⟩

def k0_mult1 (arg8 : BitVec 32) : BitVec 32 :=
  let c128_i32_20 : BitVec 32 := 128#32
  let v55 : BitVec 32 := Scalar.muli arg8 c128_i32_20
  v55

def k0_off1 (arg8 : BitVec 32) : Fin 3 → Nat :=
  let c0_21 : Index := 0#32
  let c128_i32_20 : BitVec 32 := 128#32
  let v55 : BitVec 32 := Scalar.muli arg8 c128_i32_20
  let v56 : BitVec 32 := v55
  let v57 : Index := Scalar.indexCast v56
  let c0_22 : Index := 0#32
  ![0, v57.toNat, 0]

def k0_chk1 (arg8 : BitVec 32) : Prop :=
  (128 ∣ (k0_mult1 arg8).toNat) ∧
  (∀ a, (k0_off1 arg8) a + S1x128x128.size a ≤ S1x16384x128.size a)
theorem k0_mult1_dvd : ∀ (arg8 : BitVec 32) (k0_hw1 : k0_chk1 arg8), 128 ∣ (k0_mult1 arg8).toNat := fun arg8 k0_hw1 => k0_hw1.1
theorem k0_off1_inb : ∀ (arg8 : BitVec 32) (k0_hw1 : k0_chk1 arg8), ∀ a, (k0_off1 arg8) a + S1x128x128.size a ≤ S1x16384x128.size a := fun arg8 k0_hw1 => k0_hw1.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== SbIdeal.lean ====
variable {F : FTy → Type} [FloatOps F] [Named F]
def κ : String → Option EReal := fun
  | "logzero" => some ⊥
  | "mask" => some ⊥
  | _ => none
-- ==== SbRefIdeal.lean ====
abbrev S2x16384x3072 : Shape := ⟨3, ![2, 16384, 3072]⟩
abbrev S1536 : Shape := ⟨1, ![1536]⟩
abbrev S2x16384x6x4x128 : Shape := ⟨5, ![2, 16384, 6, 4, 128]⟩
abbrev S2x16384x1x4x128 : Shape := ⟨5, ![2, 16384, 1, 4, 128]⟩
abbrev S2x16384x4x128 : Shape := ⟨4, ![2, 16384, 4, 128]⟩
abbrev S16384 : Shape := ⟨1, ![16384]⟩
abbrev S2x4x16384x16384 : Shape := ⟨4, ![2, 4, 16384, 16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S2x4x128x16384 : Shape := ⟨4, ![2, 4, 128, 16384]⟩
abbrev S12x128 : Shape := ⟨2, ![12, 128]⟩
abbrev S4x128 : Shape := ⟨2, ![4, 128]⟩
abbrev S2x16384x4 : Shape := ⟨3, ![2, 16384, 4]⟩
abbrev S2x16384x4x1 : Shape := ⟨4, ![2, 16384, 4, 1]⟩
abbrev S1x1x4x128 : Shape := ⟨4, ![1, 1, 4, 128]⟩
abbrev S2x16384x512 : Shape := ⟨3, ![2, 16384, 512]⟩

abbrev nBuf : Space → Nat
  | .hbm => 74
  | .vmem => 0
  | .smem => 0
  | _ => 0

abbrev bufTy : (tb : Table) → Fin (tcTables nBuf tb) → BufTy
  | .hbm, ⟨0, _⟩ => ⟨S2x16384x3072, .bf16⟩
  | .hbm, ⟨1, _⟩ => ⟨S1536, .f32⟩
  | .hbm, ⟨2, _⟩ => ⟨S2x16384x3072, .f32⟩
  | .hbm, ⟨3, _⟩ => ⟨S2x16384x6x4x128, .f32⟩
  | .hbm, ⟨4, _⟩ => ⟨S2x16384x1x4x128, .f32⟩
  | .hbm, ⟨5, _⟩ => ⟨S2x16384x4x128, .f32⟩
  | .hbm, ⟨6, _⟩ => ⟨S2x16384x1x4x128, .f32⟩
  | .hbm, ⟨7, _⟩ => ⟨S2x16384x4x128, .f32⟩
  | .hbm, ⟨8, _⟩ => ⟨S2x16384x1x4x128, .f32⟩
  | .hbm, ⟨9, _⟩ => ⟨S2x16384x4x128, .f32⟩
  | .hbm, ⟨10, _⟩ => ⟨S16384, .i32⟩
  | .hbm, ⟨11, _⟩ => ⟨S2x4x16384x16384, .f32⟩
  | .hbm, ⟨12, _⟩ => ⟨S_, .f32⟩
  | .hbm, ⟨13, _⟩ => ⟨S2x4x16384x16384, .f32⟩
  | .hbm, ⟨14, _⟩ => ⟨S2x4x16384x16384, .f32⟩
  | .hbm, ⟨15, _⟩ => ⟨S1x16384, .i32⟩
  | .hbm, ⟨16, _⟩ => ⟨S16384x1, .i32⟩
  | .hbm, ⟨17, _⟩ => ⟨S16384x16384, .i32⟩
  | .hbm, ⟨18, _⟩ => ⟨S16384x16384, .i32⟩
  | .hbm, ⟨19, _⟩ => ⟨S16384x16384, .i1⟩
  | .hbm, ⟨20, _⟩ => ⟨S2x4x16384x16384, .f32⟩
  | .hbm, ⟨21, _⟩ => ⟨S2x4x16384x16384, .f32⟩
  | .hbm, ⟨22, _⟩ => ⟨S_, .f32⟩
  | .hbm, ⟨23, _⟩ => ⟨S2x4x16384x16384, .f32⟩
  | .hbm, ⟨24, _⟩ => ⟨S2x4x16384x16384, .f32⟩
  | .hbm, ⟨25, _⟩ => ⟨S2x4x16384x16384, .f32⟩
  | .hbm, ⟨26, _⟩ => ⟨S2x4x16384x16384, .f32⟩
  | .hbm, ⟨27, _⟩ => ⟨S2x4x16384x16384, .i1⟩
  | .hbm, ⟨28, _⟩ => ⟨S2x4x16384x16384, .f32⟩
  | .hbm, ⟨29, _⟩ => ⟨S2x4x16384x16384, .f32⟩
  | .hbm, ⟨30, _⟩ => ⟨S2x4x16384x16384, .f32⟩
  | .hbm, ⟨31, _⟩ => ⟨S2x4x16384x16384, .f32⟩
  | .hbm, ⟨32, _⟩ => ⟨S2x4x16384x16384, .f32⟩
  | .hbm, ⟨33, _⟩ => ⟨S2x4x16384x16384, .f32⟩
  | .hbm, ⟨34, _⟩ => ⟨S2x4x16384x16384, .f32⟩
  | .hbm, ⟨35, _⟩ => ⟨S2x4x16384x16384, .f32⟩
  | .hbm, ⟨36, _⟩ => ⟨S2x4x16384x16384, .f32⟩
  | .hbm, ⟨37, _⟩ => ⟨S_, .f32⟩
  | .hbm, ⟨38, _⟩ => ⟨S_, .f32⟩
  | .hbm, ⟨39, _⟩ => ⟨S2x4x16384x16384, .i1⟩
  | .hbm, ⟨40, _⟩ => ⟨S2x4x16384x16384, .f32⟩
  | .hbm, ⟨41, _⟩ => ⟨S2x4x16384x16384, .f32⟩
  | .hbm, ⟨42, _⟩ => ⟨S_, .f32⟩
  | .hbm, ⟨43, _⟩ => ⟨S_, .f32⟩
  | .hbm, ⟨44, _⟩ => ⟨S2x4x16384x16384, .f32⟩
  | .hbm, ⟨45, _⟩ => ⟨S2x4x16384x16384, .f32⟩
  | .hbm, ⟨46, _⟩ => ⟨S_, .f32⟩
  | .hbm, ⟨47, _⟩ => ⟨S_, .f32⟩
  | .hbm, ⟨48, _⟩ => ⟨S2x4x16384x16384, .i1⟩
  | .hbm, ⟨49, _⟩ => ⟨S2x4x16384x16384, .f32⟩
  | .hbm, ⟨50, _⟩ => ⟨S2x4x16384x16384, .f32⟩
  | .hbm, ⟨51, _⟩ => ⟨S2x4x16384x16384, .f32⟩
  | .hbm, ⟨52, _⟩ => ⟨S2x4x128x16384, .f32⟩
  | .hbm, ⟨53, _⟩ => ⟨S2x16384x4x128, .f32⟩
  | .hbm, ⟨54, _⟩ => ⟨S12x128, .f32⟩
  | .hbm, ⟨55, _⟩ => ⟨S4x128, .f32⟩
  | .hbm, ⟨56, _⟩ => ⟨S2x16384x4x128, .f32⟩
  | .hbm, ⟨57, _⟩ => ⟨S_, .f32⟩
  | .hbm, ⟨58, _⟩ => ⟨S2x16384x4, .f32⟩
  | .hbm, ⟨59, _⟩ => ⟨S2x16384x4x1, .f32⟩
  | .hbm, ⟨60, _⟩ => ⟨S_, .f32⟩
  | .hbm, ⟨61, _⟩ => ⟨S2x16384x4x1, .f32⟩
  | .hbm, ⟨62, _⟩ => ⟨S2x16384x4x1, .f32⟩
  | .hbm, ⟨63, _⟩ => ⟨S_, .f32⟩
  | .hbm, ⟨64, _⟩ => ⟨S2x16384x4x1, .f32⟩
  | .hbm, ⟨65, _⟩ => ⟨S2x16384x4x1, .f32⟩
  | .hbm, ⟨66, _⟩ => ⟨S2x16384x4x1, .f32⟩
  | .hbm, ⟨67, _⟩ => ⟨S2x16384x4x128, .f32⟩
  | .hbm, ⟨68, _⟩ => ⟨S2x16384x4x128, .f32⟩
  | .hbm, ⟨69, _⟩ => ⟨S1x1x4x128, .f32⟩
  | .hbm, ⟨70, _⟩ => ⟨S2x16384x4x128, .f32⟩
  | .hbm, ⟨71, _⟩ => ⟨S2x16384x4x128, .f32⟩
  | .hbm, ⟨72, _⟩ => ⟨S2x16384x512, .f32⟩
  | .hbm, ⟨73, _⟩ => ⟨S2x16384x512, .bf16⟩
  | _, _ => ⟨S2x16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_call2_cst : Ref sig .tc := ⟨.hbm, 42, rfl⟩
abbrev main_call2_v0 : Ref sig .tc := ⟨.hbm, 43, rfl⟩
abbrev main_v20 : Ref sig .tc := ⟨.hbm, 44, rfl⟩
abbrev main_v21 : Ref sig .tc := ⟨.hbm, 45, rfl⟩
abbrev main_cst_1 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_2 : Ref sig .tc := ⟨.hbm, 57, rfl⟩
abbrev main_v29 : Ref sig .tc := ⟨.hbm, 58, rfl⟩
abbrev main_v30 : Ref sig .tc := ⟨.hbm, 59, rfl⟩
abbrev main_cst_3 : Ref sig .tc := ⟨.hbm, 60, rfl⟩
abbrev main_v31 : Ref sig .tc := ⟨.hbm, 61, rfl⟩
abbrev main_v32 : Ref sig .tc := ⟨.hbm, 62, rfl⟩
abbrev main_cst_4 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩

abbrev nD : Nat := 1
abbrev τ : Topo := Topo.v7x

variable {F : FTy → Type} [FloatOps F]
-- ==== Up.lean ====
abbrev S32768x2048 : Shape := ⟨2, ![32768, 2048]⟩
abbrev S2048x11264 : Shape := ⟨2, ![2048, 11264]⟩
abbrev S3x11264 : Shape := ⟨2, ![3, 11264]⟩
abbrev S11264 : Shape := ⟨1, ![11264]⟩
abbrev S2x2x11264 : Shape := ⟨3, ![2, 2, 11264]⟩
abbrev S1x11264 : Shape := ⟨2, ![1, 11264]⟩
abbrev S32768x5632 : Shape := ⟨2, ![32768, 5632]⟩
abbrev S2x2x5632 : Shape := ⟨3, ![2, 2, 5632]⟩
abbrev S512x2048 : Shape := ⟨2, ![512, 2048]⟩
abbrev S2048x512 : Shape := ⟨2, ![2048, 512]⟩
abbrev S3x512 : Shape := ⟨2, ![3, 512]⟩
abbrev S1x512 : Shape := ⟨2, ![1, 512]⟩
abbrev S1x2x512 : Shape := ⟨3, ![1, 2, 512]⟩
abbrev S512x512 : Shape := ⟨2, ![512, 512]⟩
abbrev S2x512 : Shape := ⟨2, ![2, 512]⟩

abbrev nBuf : Space → Nat
  | .hbm => 9
  | .vmem => 26
  | .smem => 0
  | _ => 0

abbrev bufTy : (tb : Table) → Fin (tcTables nBuf tb) → BufTy
  | .hbm, ⟨0, _⟩ => ⟨S32768x2048, .bf16⟩
  | .hbm, ⟨1, _⟩ => ⟨S2048x11264, .bf16⟩
  | .hbm, ⟨2, _⟩ => ⟨S3x11264, .f32⟩
  | .hbm, ⟨3, _⟩ => ⟨S11264, .f32⟩
  | .hbm, ⟨4, _⟩ => ⟨S2x2x11264, .f32⟩
  | .hbm, ⟨5, _⟩ => ⟨S1x11264, .f32⟩
  | .hbm, ⟨6, _⟩ => ⟨S32768x5632, .bf16⟩
  | .hbm, ⟨7, _⟩ => ⟨S2x2x5632, .f32⟩
  | .hbm, ⟨8, _⟩ => ⟨S2x2x5632, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x2x512, .f32⟩
  | .local _ .vmem, ⟨15, _⟩ => ⟨S1x2x512, .f32⟩
  | .local _ .vmem, ⟨16, _⟩ => ⟨S1x2x512, .f32⟩
  | .local _ .vmem, ⟨17, _⟩ => ⟨S1x2x512, .f32⟩
  | .local _ .vmem, ⟨18, _⟩ => ⟨S512x512, .bf16⟩
  | .local _ .vmem, ⟨19, _⟩ => ⟨S512x512, .bf16⟩
  | .local _ .vmem, ⟨20, _⟩ => ⟨S1x2x512, .f32⟩
  | .local _ .vmem, ⟨21, _⟩ => ⟨S1x2x512, .f32⟩
  | .local _ .vmem, ⟨22, _⟩ => ⟨S1x2x512, .f32⟩
  | .local _ .vmem, ⟨23, _⟩ => ⟨S1x2x512, .f32⟩
  | .local _ .vmem, ⟨24, _⟩ => ⟨S2x512, .f32⟩
  | .local _ .vmem, ⟨25, _⟩ => ⟨S2x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![11, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.divsi arg1 c32_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg1 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_8 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.divsi arg1 c32_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg1 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32 : BitVec 32 := 11#32
  let v17 : BitVec 32 := Scalar.addi arg0 c11_i32
  let c0_i32_4 : BitVec 32 := 0#32
  let c0_i32_5 : BitVec 32 := 0#32
  ![v16.toNat, c0_i32_4.toNat, v17.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.divsi arg1 c32_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg1 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_11 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.divsi arg1 c32_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg1 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== UpRefIdeal.lean ====
abbrev S32768x2048 : Shape := ⟨2, ![32768, 2048]⟩
abbrev S2048x11264 : Shape := ⟨2, ![2048, 11264]⟩
abbrev S3x11264 : Shape := ⟨2, ![3, 11264]⟩
abbrev S11264 : Shape := ⟨1, ![11264]⟩
abbrev S2x2x11264 : Shape := ⟨3, ![2, 2, 11264]⟩
abbrev S2x16384x2048 : Shape := ⟨3, ![2, 16384, 2048]⟩
abbrev S2x16384x11264 : Shape := ⟨3, ![2, 16384, 11264]⟩
abbrev S2x16386x11264 : Shape := ⟨3, ![2, 16386, 11264]⟩
abbrev S1x11264 : Shape := ⟨2, ![1, 11264]⟩
abbrev S1x1x11264 : Shape := ⟨3, ![1, 1, 11264]⟩
abbrev S2x16384x5632 : Shape := ⟨3, ![2, 16384, 5632]⟩
abbrev S_ : Shape := ⟨0, ![]⟩
abbrev S32768x5632 : Shape := ⟨2, ![32768, 5632]⟩
abbrev S2x2x5632 : Shape := ⟨3, ![2, 2, 5632]⟩

abbrev nBuf : Space → Nat
  | .hbm => 50
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x11264, .bf16⟩
  | .hbm, ⟨2, _⟩ => ⟨S3x11264, .f32⟩
  | .hbm, ⟨3, _⟩ => ⟨S11264, .f32⟩
  | .hbm, ⟨4, _⟩ => ⟨S2x2x11264, .f32⟩
  | .hbm, ⟨5, _⟩ => ⟨S32768x2048, .f32⟩
  | .hbm, ⟨6, _⟩ => ⟨S2x16384x2048, .f32⟩
  | .hbm, ⟨7, _⟩ => ⟨S2048x11264, .f32⟩
  | .hbm, ⟨8, _⟩ => ⟨S2x16384x11264, .f32⟩
  | .hbm, ⟨9, _⟩ => ⟨S2x16386x11264, .f32⟩
  | .hbm, ⟨10, _⟩ => ⟨S1x11264, .f32⟩
  | .hbm, ⟨11, _⟩ => ⟨S11264, .f32⟩
  | .hbm, ⟨12, _⟩ => ⟨S2x16384x11264, .f32⟩
  | .hbm, ⟨13, _⟩ => ⟨S1x1x11264, .f32⟩
  | .hbm, ⟨14, _⟩ => ⟨S2x16384x11264, .f32⟩
  | .hbm, ⟨15, _⟩ => ⟨S2x16384x11264, .f32⟩
  | .hbm, ⟨16, _⟩ => ⟨S1x1x11264, .f32⟩
  | .hbm, ⟨17, _⟩ => ⟨S2x16384x11264, .f32⟩
  | .hbm, ⟨18, _⟩ => ⟨S2x16384x11264, .f32⟩
  | .hbm, ⟨19, _⟩ => ⟨S1x11264, .f32⟩
  | .hbm, ⟨20, _⟩ => ⟨S11264, .f32⟩
  | .hbm, ⟨21, _⟩ => ⟨S2x16384x11264, .f32⟩
  | .hbm, ⟨22, _⟩ => ⟨S1x1x11264, .f32⟩
  | .hbm, ⟨23, _⟩ => ⟨S2x16384x11264, .f32⟩
  | .hbm, ⟨24, _⟩ => ⟨S2x16384x11264, .f32⟩
  | .hbm, ⟨25, _⟩ => ⟨S2x16384x11264, .f32⟩
  | .hbm, ⟨26, _⟩ => ⟨S1x11264, .f32⟩
  | .hbm, ⟨27, _⟩ => ⟨S11264, .f32⟩
  | .hbm, ⟨28, _⟩ => ⟨S2x16384x11264, .f32⟩
  | .hbm, ⟨29, _⟩ => ⟨S1x1x11264, .f32⟩
  | .hbm, ⟨30, _⟩ => ⟨S2x16384x11264, .f32⟩
  | .hbm, ⟨31, _⟩ => ⟨S2x16384x11264, .f32⟩
  | .hbm, ⟨32, _⟩ => ⟨S2x16384x11264, .f32⟩
  | .hbm, ⟨33, _⟩ => ⟨S2x16384x5632, .f32⟩
  | .hbm, ⟨34, _⟩ => ⟨S2x16384x5632, .f32⟩
  | .hbm, ⟨35, _⟩ => ⟨S2x2x11264, .f32⟩
  | .hbm, ⟨36, _⟩ => ⟨S2x16384x5632, .f32⟩
  | .hbm, ⟨37, _⟩ => ⟨S2x16384x5632, .f32⟩
  | .hbm, ⟨38, _⟩ => ⟨S_, .f32⟩
  | .hbm, ⟨39, _⟩ => ⟨S2x16384x5632, .f32⟩
  | .hbm, ⟨40, _⟩ => ⟨S2x16384x5632, .f32⟩
  | .hbm, ⟨41, _⟩ => ⟨S_, .f32⟩
  | .hbm, ⟨42, _⟩ => ⟨S2x16384x5632, .f32⟩
  | .hbm, ⟨43, _⟩ => ⟨S2x16384x5632, .f32⟩
  | .hbm, ⟨44, _⟩ => ⟨S2x16384x5632, .f32⟩
  | .hbm, ⟨45, _⟩ => ⟨S2x16384x5632, .f32⟩
  | .hbm, ⟨46, _⟩ => ⟨S32768x5632, .f32⟩
  | .hbm, ⟨47, _⟩ => ⟨S32768x5632, .bf16⟩
  | .hbm, ⟨48, _⟩ => ⟨S2x2x5632, .f32⟩
  | .hbm, ⟨49, _⟩ => ⟨S2x2x5632, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Down.lean ====
abbrev S32768x5632 : Shape := ⟨2, ![32768, 5632]⟩
abbrev S5632x2048 : Shape := ⟨2, ![5632, 2048]⟩
abbrev S32768x2048 : Shape := ⟨2, ![32768, 2048]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S32768x5632, .bf16⟩
  | .hbm, ⟨1, _⟩ => ⟨S5632x2048, .bf16⟩
  | .hbm, ⟨2, _⟩ => ⟨S32768x2048, .f32⟩
  | .hbm, ⟨3, _⟩ => ⟨S32768x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S32768x5632 : Shape := ⟨2, ![32768, 5632]⟩
abbrev S5632x2048 : Shape := ⟨2, ![5632, 2048]⟩
abbrev S32768x2048 : Shape := ⟨2, ![32768, 2048]⟩

abbrev nBuf : Space → Nat
  | .hbm => 7
  | .vmem => 0
  | .smem => 0
  | _ => 0

abbrev bufTy : (tb : Table) → Fin (tcTables nBuf tb) → BufTy
  | .hbm, ⟨0, _⟩ => ⟨S32768x5632, .bf16⟩
  | .hbm, ⟨1, _⟩ => ⟨S5632x2048, .bf16⟩
  | .hbm, ⟨2, _⟩ => ⟨S32768x2048, .f32⟩
  | .hbm, ⟨3, _⟩ => ⟨S32768x5632, .f32⟩
  | .hbm, ⟨4, _⟩ => ⟨S5632x2048, .f32⟩
  | .hbm, ⟨5, _⟩ => ⟨S32768x2048, .f32⟩
  | .hbm, ⟨6, _⟩ => ⟨S32768x2048, .f32⟩
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S32768x1536 : Shape := ⟨2, ![32768, 1536]⟩
abbrev S1536x2048 : Shape := ⟨2, ![1536, 2048]⟩
abbrev S32768x2048 : Shape := ⟨2, ![32768, 2048]⟩
abbrev S512x1536 : Shape := ⟨2, ![512, 1536]⟩
abbrev S1536x512 : Shape := ⟨2, ![1536, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S32768x1536, .bf16⟩
  | .hbm, ⟨1, _⟩ => ⟨S1536x2048, .bf16⟩
  | .hbm, ⟨2, _⟩ => ⟨S32768x2048, .f32⟩
  | .hbm, ⟨3, _⟩ => ⟨S32768x2048, .f32⟩
  | .local _ .vmem, ⟨0, _⟩ => ⟨S512x1536, .bf16⟩
  | .local _ .vmem, ⟨1, _⟩ => ⟨S512x1536, .bf16⟩
  | .local _ .vmem, ⟨2, _⟩ => ⟨S1536x512, .bf16⟩
  | .local _ .vmem, ⟨3, _⟩ => ⟨S1536x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S32768x1536 : Shape := ⟨2, ![32768, 1536]⟩
abbrev S1536x2048 : Shape := ⟨2, ![1536, 2048]⟩
abbrev S32768x2048 : Shape := ⟨2, ![32768, 2048]⟩

abbrev nBuf : Space → Nat
  | .hbm => 7
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S1536x2048, .bf16⟩
  | .hbm, ⟨2, _⟩ => ⟨S32768x2048, .f32⟩
  | .hbm, ⟨3, _⟩ => ⟨S32768x1536, .f32⟩
  | .hbm, ⟨4, _⟩ => ⟨S1536x2048, .f32⟩
  | .hbm, ⟨5, _⟩ => ⟨S32768x2048, .f32⟩
  | .hbm, ⟨6, _⟩ => ⟨S32768x2048, .f32⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Bc.lean ====
abbrev S32768x2048 : Shape := ⟨2, ![32768, 2048]⟩
abbrev S2048x3072 : Shape := ⟨2, ![2048, 3072]⟩
abbrev S32768x3072 : Shape := ⟨2, ![32768, 3072]⟩
abbrev S32768x1024 : Shape := ⟨2, ![32768, 1024]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x3072, .bf16⟩
  | .hbm, ⟨2, _⟩ => ⟨S32768x3072, .bf16⟩
  | .hbm, ⟨3, _⟩ => ⟨S32768x1024, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 6], ![false, false]⟩

def k0_cond1 (i : grid0.Coords) : BitVec 1 :=
  let arg1 : BitVec 32 := BitVec.ofNat 32 (i 1).val
  let c4_i32 : BitVec 32 := 4#32
  let v5 : BitVec 1 := Scalar.cmpi .sge arg1 c4_i32
  let v6 : BitVec 32 := Scalar.extui v5
  let c0_i32 : BitVec 32 := 0#32
  let v7 : BitVec 1 := Scalar.cmpi .ne v6 c0_i32
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== BcRefIdeal.lean ====
abbrev S32768x2048 : Shape := ⟨2, ![32768, 2048]⟩
abbrev S2048x3072 : Shape := ⟨2, ![2048, 3072]⟩
abbrev S32768x3072 : Shape := ⟨2, ![32768, 3072]⟩
abbrev S32768x1024 : Shape := ⟨2, ![32768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x3072, .bf16⟩
  | .hbm, ⟨2, _⟩ => ⟨S32768x2048, .f32⟩
  | .hbm, ⟨3, _⟩ => ⟨S2048x3072, .f32⟩
  | .hbm, ⟨4, _⟩ => ⟨S32768x3072, .f32⟩
  | .hbm, ⟨5, _⟩ => ⟨S32768x3072, .bf16⟩
  | .hbm, ⟨6, _⟩ => ⟨S32768x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kv.lean ====
abbrev S32768x2048 : Shape := ⟨2, ![32768, 2048]⟩
abbrev S2048x512 : Shape := ⟨2, ![2048, 512]⟩
abbrev S2048x64 : Shape := ⟨2, ![2048, 64]⟩
abbrev S512 : Shape := ⟨1, ![512]⟩
abbrev S_ : Shape := ⟨0, ![]⟩
abbrev S2048x640 : Shape := ⟨2, ![2048, 640]⟩
abbrev S16384 : Shape := ⟨1, ![16384]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S16384x128 : Shape := ⟨2, ![16384, 128]⟩
abbrev S1x512 : Shape := ⟨2, ![1, 512]⟩
abbrev S32768x512 : Shape := ⟨2, ![32768, 512]⟩
abbrev S32768x64 : Shape := ⟨2, ![32768, 64]⟩
abbrev S32768x128 : Shape := ⟨2, ![32768, 128]⟩
abbrev S512x2048 : Shape := ⟨2, ![512, 2048]⟩
abbrev S512x128 : Shape := ⟨2, ![512, 128]⟩
abbrev S512x512 : Shape := ⟨2, ![512, 512]⟩
abbrev S512x64 : Shape := ⟨2, ![512, 64]⟩
abbrev S512x640 : Shape := ⟨2, ![512, 640]⟩
abbrev S512x1 : Shape := ⟨2, ![512, 1]⟩

abbrev nBuf : Space → Nat
  | .hbm => 36
  | .vmem => 18
  | .smem => 0
  | _ => 0

abbrev bufTy : (tb : Table) → Fin (tcTables nBuf tb) → BufTy
  | .hbm, ⟨0, _⟩ => ⟨S32768x2048, .bf16⟩
  | .hbm, ⟨1, _⟩ => ⟨S2048x512, .bf16⟩
  | .hbm, ⟨2, _⟩ => ⟨S2048x64, .bf16⟩
  | .hbm, ⟨3, _⟩ => ⟨S512, .f32⟩
  | .hbm, ⟨4, _⟩ => ⟨S_, .bf16⟩
  | .hbm, ⟨5, _⟩ => ⟨S2048x64, .bf16⟩
  | .hbm, ⟨6, _⟩ => ⟨S2048x640, .bf16⟩
  | .hbm, ⟨7, _⟩ => ⟨S16384, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S16384, .f32⟩
  | .hbm, ⟨17, _⟩ => ⟨S16384x1, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S_, .f32⟩
  | .hbm, ⟨25, _⟩ => ⟨S16384x32, .f32⟩
  | .hbm, ⟨26, _⟩ => ⟨S16384x64, .f32⟩
  | .hbm, ⟨27, _⟩ => ⟨S16384x128, .f32⟩
  | .hbm, ⟨28, _⟩ => ⟨S16384x128, .f32⟩
  | .hbm, ⟨29, _⟩ => ⟨S16384x32, .f32⟩
  | .hbm, ⟨30, _⟩ => ⟨S16384x128, .f32⟩
  | .hbm, ⟨31, _⟩ => ⟨S1x512, .f32⟩
  | .hbm, ⟨32, _⟩ => ⟨S32768x512, .f32⟩
  | .hbm, ⟨33, _⟩ => ⟨S32768x512, .bf16⟩
  | .hbm, ⟨34, _⟩ => ⟨S32768x64, .f32⟩
  | .hbm, ⟨35, _⟩ => ⟨S32768x128, .bf16⟩
  | .local _ .vmem, ⟨0, _⟩ => ⟨S512x2048, .bf16⟩
  | .local _ .vmem, ⟨1, _⟩ => ⟨S512x2048, .bf16⟩
  | .local _ .vmem, ⟨2, _⟩ => ⟨S2048x640, .bf16⟩
  | .local _ .vmem, ⟨3, _⟩ => ⟨S1x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x64, .f32⟩
  | .local _ .vmem, ⟨15, _⟩ => ⟨S512x64, .f32⟩
  | .local _ .vmem, ⟨16, _⟩ => ⟨S512x128, .bf16⟩
  | .local _ .vmem, ⟨17, _⟩ => ⟨S512x128, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_v24_2 : Ref sig .tc := ⟨.hbm, 34, rfl⟩
abbrev main_v24_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KvRefIdeal.lean ====
abbrev S32768x2048 : Shape := ⟨2, ![32768, 2048]⟩
abbrev S2048x512 : Shape := ⟨2, ![2048, 512]⟩
abbrev S2048x64 : Shape := ⟨2, ![2048, 64]⟩
abbrev S512 : Shape := ⟨1, ![512]⟩
abbrev S2x16384x2048 : Shape := ⟨3, ![2, 16384, 2048]⟩
abbrev S2x16384x512 : Shape := ⟨3, ![2, 16384, 512]⟩
abbrev S_ : Shape := ⟨0, ![]⟩
abbrev S2x16384 : Shape := ⟨2, ![2, 16384]⟩
abbrev S2x16384x1 : Shape := ⟨3, ![2, 16384, 1]⟩
abbrev S1x1x512 : Shape := ⟨3, ![1, 1, 512]⟩
abbrev S32768x512 : Shape := ⟨2, ![32768, 512]⟩
abbrev S2x16384x64 : Shape := ⟨3, ![2, 16384, 64]⟩
abbrev S16384 : Shape := ⟨1, ![16384]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S2x16384x32 : Shape := ⟨3, ![2, 16384, 32]⟩
abbrev S1x16384x32 : Shape := ⟨3, ![1, 16384, 32]⟩
abbrev S32768x64 : Shape := ⟨2, ![32768, 64]⟩
abbrev S32768x128 : Shape := ⟨2, ![32768, 128]⟩

abbrev nBuf : Space → Nat
  | .hbm => 67
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x512, .bf16⟩
  | .hbm, ⟨2, _⟩ => ⟨S2048x64, .bf16⟩
  | .hbm, ⟨3, _⟩ => ⟨S512, .f32⟩
  | .hbm, ⟨4, _⟩ => ⟨S32768x2048, .f32⟩
  | .hbm, ⟨5, _⟩ => ⟨S2x16384x2048, .f32⟩
  | .hbm, ⟨6, _⟩ => ⟨S2048x512, .f32⟩
  | .hbm, ⟨7, _⟩ => ⟨S2x16384x512, .f32⟩
  | .hbm, ⟨8, _⟩ => ⟨S2x16384x512, .f32⟩
  | .hbm, ⟨9, _⟩ => ⟨S_, .f32⟩
  | .hbm, ⟨10, _⟩ => ⟨S2x16384, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S2x16384x1, .f32⟩
  | .hbm, ⟨19, _⟩ => ⟨S2x16384x512, .f32⟩
  | .hbm, ⟨20, _⟩ => ⟨S2x16384x512, .f32⟩
  | .hbm, ⟨21, _⟩ => ⟨S1x1x512, .f32⟩
  | .hbm, ⟨22, _⟩ => ⟨S2x16384x512, .f32⟩
  | .hbm, ⟨23, _⟩ => ⟨S2x16384x512, .f32⟩
  | .hbm, ⟨24, _⟩ => ⟨S32768x512, .f32⟩
  | .hbm, ⟨25, _⟩ => ⟨S2048x64, .f32⟩
  | .hbm, ⟨26, _⟩ => ⟨S2x16384x64, .f32⟩
  | .hbm, ⟨27, _⟩ => ⟨S16384, .i32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S16384, .f32⟩
  | .hbm, ⟨37, _⟩ => ⟨S16384x1, .f32⟩
  | .hbm, ⟨38, _⟩ => ⟨S1x32, .f32⟩
  | .hbm, ⟨39, _⟩ => ⟨S16384x32, .f32⟩
  | .hbm, ⟨40, _⟩ => ⟨S16384x32, .f32⟩
  | .hbm, ⟨41, _⟩ => ⟨S16384x32, .f32⟩
  | .hbm, ⟨42, _⟩ => ⟨S16384x32, .f32⟩
  | .hbm, ⟨43, _⟩ => ⟨S16384x32, .f32⟩
  | .hbm, ⟨44, _⟩ => ⟨S2x16384x32, .f32⟩
  | .hbm, ⟨45, _⟩ => ⟨S2x16384x32, .f32⟩
  | .hbm, ⟨46, _⟩ => ⟨S1x16384x32, .f32⟩
  | .hbm, ⟨47, _⟩ => ⟨S2x16384x32, .f32⟩
  | .hbm, ⟨48, _⟩ => ⟨S2x16384x32, .f32⟩
  | .hbm, ⟨49, _⟩ => ⟨S1x16384x32, .f32⟩
  | .hbm, ⟨50, _⟩ => ⟨S2x16384x32, .f32⟩
  | .hbm, ⟨51, _⟩ => ⟨S2x16384x32, .f32⟩
  | .hbm, ⟨52, _⟩ => ⟨S2x16384x32, .f32⟩
  | .hbm, ⟨53, _⟩ => ⟨S1x16384x32, .f32⟩
  | .hbm, ⟨54, _⟩ => ⟨S2x16384x32, .f32⟩
  | .hbm, ⟨55, _⟩ => ⟨S2x16384x32, .f32⟩
  | .hbm, ⟨56, _⟩ => ⟨S1x16384x32, .f32⟩
  | .hbm, ⟨57, _⟩ => ⟨S2x16384x32, .f32⟩
  | .hbm, ⟨58, _⟩ => ⟨S2x16384x32, .f32⟩
  | .hbm, ⟨59, _⟩ => ⟨S2x16384x32, .f32⟩
  | .hbm, ⟨60, _⟩ => ⟨S2x16384x64, .f32⟩
  | .hbm, ⟨61, _⟩ => ⟨S32768x64, .f32⟩
  | .hbm, ⟨62, _⟩ => ⟨S_, .f32⟩
  | .hbm, ⟨63, _⟩ => ⟨S32768x64, .f32⟩
  | .hbm, ⟨64, _⟩ => ⟨S32768x128, .f32⟩
  | .hbm, ⟨65, _⟩ => ⟨S32768x512, .bf16⟩
  | .hbm, ⟨66, _⟩ => ⟨S32768x128, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_4 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩

abbrev nD : Nat := 1
abbrev τ : Topo := Topo.v7x

variable {F : FTy → Type} [FloatOps F]
-- ==== Ku.lean ====
abbrev S32768x512 : Shape := ⟨2, ![32768, 512]⟩
abbrev S32768x128 : Shape := ⟨2, ![32768, 128]⟩
abbrev S512x512 : Shape := ⟨2, ![512, 512]⟩
abbrev S512x1024 : Shape := ⟨2, ![512, 1024]⟩
abbrev S32768x1024 : Shape := ⟨2, ![32768, 1024]⟩
abbrev S512x128 : Shape := ⟨2, ![512, 128]⟩

abbrev nBuf : Space → Nat
  | .hbm => 7
  | .vmem => 9
  | .smem => 0
  | _ => 0

abbrev bufTy : (tb : Table) → Fin (tcTables nBuf tb) → BufTy
  | .hbm, ⟨0, _⟩ => ⟨S32768x512, .bf16⟩
  | .hbm, ⟨1, _⟩ => ⟨S32768x128, .bf16⟩
  | .hbm, ⟨2, _⟩ => ⟨S512x512, .bf16⟩
  | .hbm, ⟨3, _⟩ => ⟨S512x512, .bf16⟩
  | .hbm, ⟨4, _⟩ => ⟨S512x1024, .bf16⟩
  | .hbm, ⟨5, _⟩ => ⟨S32768x1024, .bf16⟩
  | .hbm, ⟨6, _⟩ => ⟨S32768x512, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x512, .bf16⟩
  | .local _ .vmem, ⟨8, _⟩ => ⟨S512x512, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KuRefIdeal.lean ====
abbrev S32768x512 : Shape := ⟨2, ![32768, 512]⟩
abbrev S32768x128 : Shape := ⟨2, ![32768, 128]⟩
abbrev S512x512 : Shape := ⟨2, ![512, 512]⟩
abbrev S32768x4x128 : Shape := ⟨3, ![32768, 4, 128]⟩
abbrev S32768x1x128 : Shape := ⟨3, ![32768, 1, 128]⟩
abbrev S32768x4x256 : Shape := ⟨3, ![32768, 4, 256]⟩
abbrev S32768x1024 : Shape := ⟨2, ![32768, 1024]⟩

abbrev nBuf : Space → Nat
  | .hbm => 17
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x128, .bf16⟩
  | .hbm, ⟨2, _⟩ => ⟨S512x512, .bf16⟩
  | .hbm, ⟨3, _⟩ => ⟨S512x512, .bf16⟩
  | .hbm, ⟨4, _⟩ => ⟨S32768x512, .f32⟩
  | .hbm, ⟨5, _⟩ => ⟨S512x512, .f32⟩
  | .hbm, ⟨6, _⟩ => ⟨S32768x512, .f32⟩
  | .hbm, ⟨7, _⟩ => ⟨S32768x4x128, .f32⟩
  | .hbm, ⟨8, _⟩ => ⟨S32768x128, .f32⟩
  | .hbm, ⟨9, _⟩ => ⟨S32768x1x128, .f32⟩
  | .hbm, ⟨10, _⟩ => ⟨S32768x4x128, .f32⟩
  | .hbm, ⟨11, _⟩ => ⟨S32768x4x256, .f32⟩
  | .hbm, ⟨12, _⟩ => ⟨S32768x1024, .f32⟩
  | .hbm, ⟨13, _⟩ => ⟨S32768x1024, .bf16⟩
  | .hbm, ⟨14, _⟩ => ⟨S512x512, .f32⟩
  | .hbm, ⟨15, _⟩ => ⟨S32768x512, .f32⟩
  | .hbm, ⟨16, _⟩ => ⟨S32768x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Bs.lean ====
abbrev S32768x2048 : Shape := ⟨2, ![32768, 2048]⟩
abbrev S2048x1024 : Shape := ⟨2, ![2048, 1024]⟩
abbrev S2x16384x2048 : Shape := ⟨3, ![2, 16384, 2048]⟩
abbrev S2x512x2048 : Shape := ⟨3, ![2, 512, 2048]⟩
abbrev S1024x2048 : Shape := ⟨2, ![1024, 2048]⟩
abbrev S1024x1024 : Shape := ⟨2, ![1024, 1024]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .bf16⟩
  | .hbm, ⟨2, _⟩ => ⟨S2x16384x2048, .bf16⟩
  | .hbm, ⟨3, _⟩ => ⟨S2x512x2048, .bf16⟩
  | .hbm, ⟨4, _⟩ => ⟨S1024x2048, .bf16⟩
  | .hbm, ⟨5, _⟩ => ⟨S1024x1024, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BsRefIdeal.lean ====
abbrev S32768x2048 : Shape := ⟨2, ![32768, 2048]⟩
abbrev S2048x1024 : Shape := ⟨2, ![2048, 1024]⟩
abbrev S2x16384x2048 : Shape := ⟨3, ![2, 16384, 2048]⟩
abbrev S2x16384x1024 : Shape := ⟨3, ![2, 16384, 1024]⟩
abbrev S2x512x1024 : Shape := ⟨3, ![2, 512, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .bf16⟩
  | .hbm, ⟨2, _⟩ => ⟨S32768x2048, .f32⟩
  | .hbm, ⟨3, _⟩ => ⟨S2x16384x2048, .f32⟩
  | .hbm, ⟨4, _⟩ => ⟨S2048x1024, .f32⟩
  | .hbm, ⟨5, _⟩ => ⟨S2x16384x1024, .f32⟩
  | .hbm, ⟨6, _⟩ => ⟨S2x512x1024, .f32⟩
  | .hbm, ⟨7, _⟩ => ⟨S1024x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Fn.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S1x2048, .f32⟩
  | .hbm, ⟨3, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FnRefIdeal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S32768x2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x2048, .f32⟩
  | .hbm, ⟨14, _⟩ => ⟨S32768x2048, .f32⟩
  | .hbm, ⟨15, _⟩ => ⟨S1x2048, .f32⟩
  | .hbm, ⟨16, _⟩ => ⟨S32768x2048, .f32⟩
  | .hbm, ⟨17, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Mla.Trips.lean ====
/- One trip of each of the kernel's loops over the key blocks, opened to what it computes from the block it loads. -/
module

public import proofs.«01_k».proof.Defs
public import proofs.«01_k».proof.Proof.Gen.MlaIdeal.Value
public import Idealize.ShloMosaic.Lib.Pointwise
public import Idealize.ShloMosaic.Lib.Pipeline.ValueKit
public import Idealize.ShloMosaic.Lib.WholeRead

@[expose] public section

set_option maxRecDepth 16384

noncomputable section

namespace Cert.Proof.Mla

open Idealize.ShloMosaic Idealize.ShloMosaic.TcCoe Idealize.SL.Sem
open Cert.MlaIdeal Cert.MlaIdeal.Gen

/-- What the loops carry: the largest scores, the sums of exponentials, the weighted sums. -/
abbrev Carried := FVec Ideal S512x1 .f32 × FVec Ideal S512x1 .f32 × FVec Ideal S512x128 .f32

variable (𝒱 : Variants) (c : Dev nD) (bd : Option 𝒱.V) (i : grid0.Coords)
  (arg3 : Memref sig .tc .vmem S1x512x256 .bf16) (harg3 : arg3.IsWhole)
  (arg4 : Memref sig .tc .vmem S1x16384x256 .bf16) (harg4 : arg4.IsWhole)
  (arg5 : Memref sig .tc .vmem S1x16384x128 .bf16) (harg5 : arg5.IsWhole)
  (arg6 : Memref sig .tc .vmem S1x1x128 .f32) (harg6 : arg6.IsWhole)
  (arg7 : Memref sig .tc .vmem S1x512x128 .bf16) (harg7 : arg7.IsWhole)
  (v1 : FVec Ideal S512x256 .bf16) (v3 v20 v23 : BitVec 32) (v34 v36 : BitVec 1) (v67 : IVec S512x1 32)
  (X4 : BufTy.Contents (Elt Ideal) arg4.view.ty) (X5 : BufTy.Contents (Elt Ideal) arg5.view.ty)

/-- A trip over a block every query may see. -/
theorem trip_full (k : Fin (k0_t1_loop i).trips) (acc : Carried) :
    tripR_k0_t1 (F := Ideal) 𝒱 c bd i arg3 harg3 arg4 harg4 arg5 harg5 arg6 harg6 arg7 harg7 v1 v3 v20 v23 v34 v36 X4 X5 k acc
      = (k0_pay20 v1 acc.1 (arg4.view.readAt (Elt Ideal) (Rect.unit (s := S1x16384x256) (k0_off1 i k) S1x512x256.size (k0_off1_inb i k)).toLoadRect X4),
         k0_pay23 v1 acc.1 acc.2.1 (arg4.view.readAt (Elt Ideal) (Rect.unit (s := S1x16384x256) (k0_off1 i k) S1x512x256.size (k0_off1_inb i k)).toLoadRect X4),
         k0_pay24 v1 acc.1 acc.2.2 (arg4.view.readAt (Elt Ideal) (Rect.unit (s := S1x16384x256) (k0_off1 i k) S1x512x256.size (k0_off1_inb i k)).toLoadRect X4)
           (arg5.view.readAt (Elt Ideal) (Rect.unit (s := S1x16384x128) (k0_off2 i k) S1x512x128.size (k0_off2_inb i k)).toLoadRect X5)) := by
  unfold tripR_k0_t1 trip_k0_t1
  rfl

/-- A trip over a block on the diagonal, where the later chunks are masked. -/
theorem trip_masked (k : Fin (k0_t3_loop i).trips) (acc : Carried) :
    tripR_k0_t3 (F := Ideal) 𝒱 c bd i arg3 harg3 arg4 harg4 arg5 harg5 arg6 harg6 arg7 harg7 v1 v20 v67 X4 X5 k acc
      = (k0_pay9 i v1 v20 v67 1#32 k acc.1 (arg4.view.readAt (Elt Ideal) (Rect.unit (s := S1x16384x256) (k0_off5 i k) S1x512x256.size (k0_off5_inb i k)).toLoadRect X4),
         k0_pay2 acc.2.1
           (k0_pay8 i v1 v20 v67 1#32 k (arg4.view.readAt (Elt Ideal) (Rect.unit (s := S1x16384x256) (k0_off5 i k) S1x512x256.size (k0_off5_inb i k)).toLoadRect X4))
           (k0_pay9 i v1 v20 v67 1#32 k acc.1 (arg4.view.readAt (Elt Ideal) (Rect.unit (s := S1x16384x256) (k0_off5 i k) S1x512x256.size (k0_off5_inb i k)).toLoadRect X4))
           (k0_pay10 i v1 v20 v67 1#32 k acc.1 (arg4.view.readAt (Elt Ideal) (Rect.unit (s := S1x16384x256) (k0_off5 i k) S1x512x256.size (k0_off5_inb i k)).toLoadRect X4)),
         k0_pay3 acc.2.2
           (k0_pay8 i v1 v20 v67 1#32 k (arg4.view.readAt (Elt Ideal) (Rect.unit (s := S1x16384x256) (k0_off5 i k) S1x512x256.size (k0_off5_inb i k)).toLoadRect X4))
           (k0_pay9 i v1 v20 v67 1#32 k acc.1 (arg4.view.readAt (Elt Ideal) (Rect.unit (s := S1x16384x256) (k0_off5 i k) S1x512x256.size (k0_off5_inb i k)).toLoadRect X4))
           (k0_pay10 i v1 v20 v67 1#32 k acc.1 (arg4.view.readAt (Elt Ideal) (Rect.unit (s := S1x16384x256) (k0_off5 i k) S1x512x256.size (k0_off5_inb i k)).toLoadRect X4))
           (arg5.view.readAt (Elt Ideal) (Rect.unit (s := S1x16384x128) (k0_off6 i k) S1x512x128.size (k0_off6_inb i k)).toLoadRect X5)) := by
  unfold tripR_k0_t3 trip_k0_t3
  rfl

end Cert.Proof.Mla

end
-- ==== Proof.Mla.Consts.lean ====
/- The constants the programs spell, as extended reals, and the mask's name. -/
module

public import proofs.«01_k».proof.Defs
public import Idealize.ShloMosaic.PureOps.Ideal

@[expose] public section

noncomputable section

namespace Cert.Proof.Mla

open Idealize.ShloMosaic

/-- The pattern a maximum starts from denotes `-∞`. -/
theorem ofBits_neg_inf : Ideal.ofBits .f32 0xFF800000#32 = ⊥ := by
  simp [Ideal.ofBits, Ideal.ieee]

/-- The kernel's mask denotes `-∞` under its name. -/
theorem mask : Named.named (F := Ideal) Cert.MlaIdeal.κ "mask" (φ := .f32) 0xF149F2CA#32 = (⊥ : EReal) :=
  IdealRules.named_const.ideal_named_scalar _ _ _ _ rfl

end Cert.Proof.Mla

end
-- ==== Proof.Mla.Softmax.lean ====
/- A softmax average taken block by block. A row of scores `s` is read in blocks; what is kept is the largest score
   so far, the sum of the exponentials below it, and the sum of the values weighted by those exponentials. When the
   largest score rises, both sums are multiplied by one factor. The statements hold on all extended reals. -/
module

public import Idealize.ShloMosaic.Lib.Pointwise

@[expose] public section

noncomputable section

namespace Cert.Proof.Softmax

open Idealize.ShloMosaic

/-- The largest of the first `n` scores. -/
def peak (s : ℕ → EReal) (n : ℕ) : EReal := (Finset.range n).sup s

/-- The sum of the exponentials of the first `n` scores, each below the largest. -/
def mass (s : ℕ → EReal) (n : ℕ) : EReal := ∑ k ∈ Finset.range n, Ideal.exp (s k - peak s n)

/-- The sum of the first `n` values, each weighted by its score's exponential below the largest. -/
def gather (s v : ℕ → EReal) (n : ℕ) : EReal := ∑ k ∈ Finset.range n, Ideal.exp (s k - peak s n) * v k

theorem exp_nonneg (x : EReal) : 0 ≤ Ideal.exp x := by
  induction x with
  | bot => simp
  | top => simp
  | coe r => simpa using Real.exp_nonneg r

/-- Raising the reference point from `M` to `M'` multiplies an exponential by `exp (M - M')`. -/
theorem shift {s M M' : EReal} (h : s ≤ M) (h' : M ≤ M') :
    Ideal.exp (M - M') * Ideal.exp (s - M) = Ideal.exp (s - M') := by
  induction M with
  | bot =>
    obtain rfl : s = ⊥ := le_bot_iff.mp h
    simp [EReal.bot_sub]
  | top =>
    obtain rfl : M' = ⊤ := top_le_iff.mp h'
    simp [EReal.sub_top]
  | coe M =>
    induction M' with
    | bot => simp at h'
    | top => simp [EReal.sub_top]
    | coe M' =>
      induction s with
      | bot => simp [EReal.bot_sub]
      | top => simp at h
      | coe s =>
        rw [← EReal.coe_sub, ← EReal.coe_sub, ← EReal.coe_sub, Ideal.exp_coe, Ideal.exp_coe, Ideal.exp_coe,
          ← EReal.coe_mul, ← Real.exp_add]
        congr 2
        ring

/-- The factor is finite when the reference point rises. -/
theorem factor_ne_top {M M' : EReal} (h : M ≤ M') : Ideal.exp (M - M') ≠ ⊤ := by
  induction M with
  | bot => simp [EReal.bot_sub]
  | top =>
    obtain rfl : M' = ⊤ := top_le_iff.mp h
    simp [EReal.sub_top]
  | coe M =>
    induction M' with
    | bot => simp at h
    | top => simp [EReal.sub_top]
    | coe M' =>
      rw [← EReal.coe_sub, Ideal.exp_coe]
      exact EReal.coe_ne_top _

/-- A finite nonnegative factor distributes over a sum. -/
theorem mul_sum {ι : Type} (a : EReal) (h : 0 ≤ a) (h' : a ≠ ⊤) (t : Finset ι) (f : ι → EReal) :
    a * ∑ k ∈ t, f k = ∑ k ∈ t, a * f k := by
  classical
  induction t using Finset.induction_on with
  | empty => simp
  | insert x t hx ih =>
    rw [Finset.sum_insert hx, Finset.sum_insert hx, EReal.left_distrib_of_nonneg_of_ne_top h h', ih]

theorem peak_mono (s : ℕ → EReal) {n m : ℕ} (h : n ≤ m) : peak s n ≤ peak s m :=
  Finset.sup_mono (Finset.range_mono h)

theorem le_peak (s : ℕ → EReal) {n k : ℕ} (h : k < n) : s k ≤ peak s n :=
  Finset.le_sup (Finset.mem_range.mpr h)

/-- The largest of a row of `n` scores, folded from `-∞`. -/
theorem fold_eq_peak (s : ℕ → EReal) (n : ℕ) :
    (Finset.univ : Finset (Fin n)).fold max ⊥ (fun k => s k.val) = peak s n := by
  have e : (Finset.univ : Finset (Fin n)).fold max ⊥ (fun k => s k.val) = Finset.univ.sup fun k : Fin n => s k.val := rfl
  rw [e]
  exact le_antisymm (Finset.sup_le fun k _ => le_peak s k.isLt)
    (Finset.sup_le fun k hk => Finset.le_sup (f := fun k : Fin n => s k.val)
      (Finset.mem_univ ⟨k, Finset.mem_range.mp hk⟩))

/-- One more block: the largest score. -/
theorem peak_step (s : ℕ → EReal) (n b : ℕ) :
    peak s (n + b) = max (peak s n) ((Finset.univ : Finset (Fin b)).fold max ⊥ fun k => s (n + k.val)) := by
  rw [fold_eq_peak (fun k => s (n + k)) b]
  refine le_antisymm (Finset.sup_le fun k hk => ?_) (max_le (peak_mono s (by omega)) (Finset.sup_le fun k hk => ?_))
  · by_cases h : k < n
    · exact le_max_of_le_left (le_peak s h)
    · refine le_max_of_le_right ?_
      have := le_peak (fun k => s (n + k)) (n := b) (k := k - n) (by have := Finset.mem_range.mp hk; omega)
      simpa [Nat.add_sub_cancel' (not_lt.mp h)] using this
  · exact le_peak s (by have := Finset.mem_range.mp hk; omega)

/-- One more block: the sum of the exponentials. -/
theorem mass_step (s : ℕ → EReal) (n b : ℕ) :
    mass s (n + b) = Ideal.exp (peak s n - peak s (n + b)) * mass s n
      + ∑ k : Fin b, Ideal.exp (s (n + k.val) - peak s (n + b)) := by
  have h : peak s n ≤ peak s (n + b) := peak_mono s (by omega)
  unfold mass
  rw [Finset.sum_range_add, mul_sum _ (exp_nonneg _) (factor_ne_top h),
    Finset.sum_range (fun k => Ideal.exp (s (n + k) - peak s (n + b)))]
  refine congrArg (· + _) (Finset.sum_congr rfl fun k hk => ?_)
  exact (shift (le_peak s (Finset.mem_range.mp hk)) h).symm

/-- One more block: the weighted sum of the values. -/
theorem gather_step (s v : ℕ → EReal) (n b : ℕ) :
    gather s v (n + b) = Ideal.exp (peak s n - peak s (n + b)) * gather s v n
      + ∑ k : Fin b, Ideal.exp (s (n + k.val) - peak s (n + b)) * v (n + k.val) := by
  have h : peak s n ≤ peak s (n + b) := peak_mono s (by omega)
  unfold gather
  rw [Finset.sum_range_add, mul_sum _ (exp_nonneg _) (factor_ne_top h),
    Finset.sum_range (fun k => Ideal.exp (s (n + k) - peak s (n + b)) * v (n + k))]
  refine congrArg (· + _) (Finset.sum_congr rfl fun k hk => ?_)
  rw [← mul_assoc, shift (le_peak s (Finset.mem_range.mp hk)) h]

/-- Scores of `-∞` from `n` on leave the largest score as it is. -/
theorem peak_tail (s : ℕ → EReal) (n b : ℕ) (h : ∀ k, n ≤ k → s k = ⊥) : peak s (n + b) = peak s n := by
  refine le_antisymm (Finset.sup_le fun k hk => ?_) (peak_mono s (by omega))
  by_cases hk' : k < n
  · exact le_peak s hk'
  · rw [h k (by omega)]
    exact bot_le

/-- Scores of `-∞` from `n` on leave the sum of the exponentials as it is. -/
theorem mass_tail (s : ℕ → EReal) (n b : ℕ) (h : ∀ k, n ≤ k → s k = ⊥) : mass s (n + b) = mass s n := by
  unfold mass
  rw [Finset.sum_range_add, peak_tail s n b h]
  simp [h, EReal.bot_sub]

/-- Scores of `-∞` from `n` on leave the weighted sum of the values as it is. -/
theorem gather_tail (s v : ℕ → EReal) (n b : ℕ) (h : ∀ k, n ≤ k → s k = ⊥) :
    gather s v (n + b) = gather s v n := by
  unfold gather
  rw [Finset.sum_range_add, peak_tail s n b h]
  simp [h, EReal.bot_sub]

end Cert.Proof.Softmax

end
-- ==== Proof.Mla.Spec.lean ====
/- The attention as a function of its arrays: a query attends to the keys of its own chunk of 64 and of earlier ones,
   the values are averaged by the scores' softmax, and each head's average is scaled to a mean square of one. -/
module

public import proofs.«01_k».proof.Defs
public import proofs.«01_k».proof.Proof.Mla.Softmax

@[expose] public section

set_option maxRecDepth 16384

noncomputable section

namespace Cert.Proof.Mla

open Idealize.ShloMosaic Idealize.ShloMosaic.TcCoe Idealize.SL.Sem
open Cert.MlaIdeal Cert.Proof.Softmax

/-- The scale of the scores. -/
abbrev scale : EReal := Ideal.ofBits .f32 0x3D93CD3A#32

/-- A row scaled to a mean square of one, then weighted. -/
def normed (y g : Fin 128 → EReal) (d : Fin 128) : EReal :=
  y d * Ideal.rsqrt (Ideal.div (∑ e : Fin 128, y e * y e) (Ideal.ofBits .f32 0x43000000#32)
    + Ideal.ofBits .f32 0x358637BD#32) * g d

variable (q k : FVec Ideal S2x16384x1024 .bf16) (v : FVec Ideal S2x16384x512 .bf16) (g : FVec Ideal S1536 .f32)

/-- Column `d` of head `h` of the queries and keys. -/
abbrev wide (h : Fin 4) (d : Fin 256) : Fin 1024 := ⟨h.val * 256 + d.val, by omega⟩

/-- Column `d` of head `h` of the values and the result. -/
abbrev narrow (h : Fin 4) (d : Fin 128) : Fin 512 := ⟨h.val * 128 + d.val, by omega⟩

/-- The score of key `x` for query `r`: `-∞` where the key's chunk comes later. -/
def score (b : Fin 2) (h : Fin 4) (r : Fin 16384) (x : ℕ) : EReal :=
  if hx : x < 16384 then
    if x / 64 ≤ r.val / 64 then (∑ d : Fin 256, q (ix3 b r (wide h d)) * k (ix3 b ⟨x, hx⟩ (wide h d))) * scale else ⊥
  else ⊥

/-- Entry `d` of the value of key `x`. -/
def value (b : Fin 2) (h : Fin 4) (d : Fin 128) (x : ℕ) : EReal :=
  if hx : x < 16384 then v (ix3 b ⟨x, hx⟩ (narrow h d)) else 0

/-- The softmax average of the values of query `r`. -/
def average (b : Fin 2) (h : Fin 4) (r : Fin 16384) (d : Fin 128) : EReal :=
  Ideal.div (gather (score q k b h r) (value v b h d) 16384) (mass (score q k b h r) 16384)

/-- The result of one head at one query. -/
def headAt (b : Fin 2) (h : Fin 4) (r : Fin 16384) (d : Fin 128) : EReal :=
  normed (average q k v b h r) (fun e => g (ix1 ⟨h.val * 128 + e.val, by omega⟩)) d

/-- The attention's result. -/
def attention : FVec Ideal S2x16384x512 .bf16 := fun j =>
  headAt q k v g (j 0) ⟨(j 2).val / 128, by have := (j 2).isLt; change (j 2).val < 512 at this; omega⟩ (j 1)
    ⟨(j 2).val % 128, Nat.mod_lt _ (by decide)⟩

end Cert.Proof.Mla

end
-- ==== Proof.Mla.Chunk.lean ====
/- The position's chunk of 64, as a word and as a number. -/
module

public import Idealize.ShloMosaic.Lib.Pointwise

@[expose] public section

set_option maxRecDepth 16384

noncomputable section

namespace Cert.Proof.Mla

open Idealize.ShloMosaic

/-- A position's chunk of 64, as the programs compute it: a quotient rounded towards zero, one less where a remainder
    is left and the signs differ. -/
def chunk (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi ArithUnit.vector x 64#32) 0#32))
    (IntOp.subi (IntOp.divsi ArithUnit.vector x 64#32) 1#32)
    (IntOp.divsi ArithUnit.vector x 64#32)

/-- Up to 16384 a position's chunk is its quotient by 64. -/
theorem chunk_nat : ∀ n : Fin 16384, chunk (BitVec.ofNat 32 n.val) = BitVec.ofNat 32 (n.val / 64) := by
  decide +kernel

/-- A small word read as an integer. -/
theorem word_int : ∀ n : Fin 256, (BitVec.ofNat 32 n.val).toInt = (n.val : ℤ) := by
  decide +kernel

/-- Chunks compare as numbers. -/
theorem chunk_le (a b : ℕ) (ha : a < 16384) (hb : b < 16384) :
    IntOp.cmpi .sle (chunk (BitVec.ofNat 32 a)) (chunk (BitVec.ofNat 32 b)) = if a / 64 ≤ b / 64 then 1#1 else 0#1 := by
  rw [chunk_nat ⟨a, ha⟩, chunk_nat ⟨b, hb⟩]
  have e : (BitVec.ofNat 32 (a / 64)).toInt = ((a / 64 : ℕ) : ℤ) := word_int ⟨a / 64, by omega⟩
  have f : (BitVec.ofNat 32 (b / 64)).toInt = ((b / 64 : ℕ) : ℤ) := word_int ⟨b / 64, by omega⟩
  simp only [IntOp.cmpi, BitVec.sle, e, f, Nat.cast_le]
  by_cases h : a / 64 ≤ b / 64 <;> simp [h]

end Cert.Proof.Mla

end
-- ==== Proof.Mla.Blocks.lean ====
/- The values of the kernel's operations on one key block, at an index. -/
module

public import proofs.«01_k».proof.Defs
public import proofs.«01_k».proof.Proof.Gen.MlaIdeal.Value
public import proofs.«01_k».proof.Proof.Mla.Consts
public import proofs.«01_k».proof.Proof.Mla.Spec
public import proofs.«01_k».proof.Proof.Mla.Chunk
public import Idealize.ShloMosaic.Lib.Pointwise

@[expose] public section

set_option maxRecDepth 16384

noncomputable section

namespace Cert.Proof.Mla

open Idealize.ShloMosaic Idealize.ShloMosaic.TcCoe Idealize.SL.Sem
open Cert.MlaIdeal Cert.MlaIdeal.Gen

variable (q : FVec Ideal S512x256 .bf16) (k : FVec Ideal S1x512x256 .bf16) (v : FVec Ideal S1x512x128 .bf16)
  (s : FVec Ideal S512x512 .f32) (m a l : FVec Ideal S512x1 .f32) (o : FVec Ideal S512x128 .f32)

/-- A score: the scaled product of a query and a key. -/
theorem score_value (r : Fin 512) (x : Fin 512) :
    k0_pay19 q k (ix2 r x) = (∑ d : Fin 256, q (ix2 r d) * k (ix3 0 x d)) * scale := by
  pointwise [k0_pay19]

/-- The largest score of a row after a block. -/
theorem max_value (r : Fin 512) (z : Fin 1) :
    k0_pay20 q m k (ix2 r z) = max (m (ix2 r z)) ((Finset.univ : Finset (Fin 512)).fold max ⊥ fun x => k0_pay19 q k (ix2 r x)) := by
  pointwise [k0_pay20, ofBits_neg_inf]

/-- The sum of exponentials of a row after a block. -/
theorem mass_value (r : Fin 512) (z : Fin 1) :
    k0_pay23 q m l k (ix2 r z) = Ideal.exp (m (ix2 r z) - k0_pay20 q m k (ix2 r z)) * l (ix2 r z)
      + ∑ x : Fin 512, Ideal.exp (k0_pay19 q k (ix2 r x) - k0_pay20 q m k (ix2 r 0)) := by
  pointwise [k0_pay23, k0_pay22, k0_pay21]

/-- The weighted sum of the values after a block. -/
theorem gather_value (r : Fin 512) (d : Fin 128) :
    k0_pay24 q m o k v (ix2 r d) = Ideal.exp (m (ix2 r 0) - k0_pay20 q m k (ix2 r 0)) * o (ix2 r d)
      + ∑ x : Fin 512, Ideal.exp (k0_pay19 q k (ix2 r x) - k0_pay20 q m k (ix2 r 0)) * v (ix3 0 x d) := by
  pointwise [k0_pay24, k0_pay22, k0_pay21]

/-- The sum of exponentials after a masked block. -/
theorem mass_masked_value (r : Fin 512) (z : Fin 1) :
    k0_pay2 l s m a (ix2 r z) = a (ix2 r z) * l (ix2 r z) + ∑ x : Fin 512, Ideal.exp (s (ix2 r x) - m (ix2 r 0)) := by
  pointwise [k0_pay2, k0_pay1]

/-- The weighted sum of the values after a masked block. -/
theorem gather_masked_value (r : Fin 512) (d : Fin 128) :
    k0_pay3 o s m a v (ix2 r d) = a (ix2 r 0) * o (ix2 r d) + ∑ x : Fin 512, Ideal.exp (s (ix2 r x) - m (ix2 r 0)) * v (ix3 0 x d) := by
  pointwise [k0_pay3, k0_pay1]

variable (i : grid0.Coords) (w : BitVec 32) (ch : IVec S512x1 32) (t : Fin (k0_t3_loop i).trips)

/-- The largest score of a row after a masked block. -/
theorem max_masked_value (r : Fin 512) (z : Fin 1) :
    k0_pay9 i q w ch 1#32 t m k (ix2 r z)
      = max (m (ix2 r z)) ((Finset.univ : Finset (Fin 512)).fold max ⊥ fun x => k0_pay8 i q w ch 1#32 t k (ix2 r x)) := by
  pointwise [k0_pay9, ofBits_neg_inf]

/-- The factor a masked block puts on what was carried. -/
theorem factor_masked_value (r : Fin 512) (z : Fin 1) :
    k0_pay10 i q w ch 1#32 t m k (ix2 r z) = Ideal.exp (m (ix2 r z) - k0_pay9 i q w ch 1#32 t m k (ix2 r z)) := by
  pointwise [k0_pay10]

/-- The result: the weighted sums over the sums of exponentials, normalized. -/
theorem result_value (z : Fin 1) (r : Fin 512) (d : Fin 128) (g : FVec Ideal S1x1x128 .f32) :
    k0_pay7 l o g (ix3 z r d) = normed (fun e => Ideal.div (o (ix2 r e)) (l (ix2 r 0))) (fun e => g (ix3 0 0 e)) d := by
  pointwise [k0_pay7, normed]

/-- Before any block the largest score is `-∞`. -/
theorem start_max (r : Fin 512) (z : Fin 1) : (k0_pay16 (F := Ideal)) (ix2 r z) = ⊥ := by
  pointwise [k0_pay16, mask]

/-- Before any block the sum of exponentials is zero. -/
theorem start_mass (r : Fin 512) (z : Fin 1) : (k0_pay17 (F := Ideal)) (ix2 r z) = 0 := by
  pointwise [k0_pay17]

/-- Before any block the weighted sum is zero. -/
theorem start_gather (r : Fin 512) (d : Fin 128) : (k0_pay18 (F := Ideal)) (ix2 r d) = 0 := by
  pointwise [k0_pay18]

/-- The queries without their leading axis. -/
theorem query (u : FVec Ideal S1x512x256 .bf16) (r : Fin 512) (d : Fin 256) : k0_pay14 u (ix2 r d) = u (ix3 0 r d) := by
  pointwise [k0_pay14]

/-- A score on the diagonal block: `-∞` where the key's chunk comes after the query's. -/
theorem masked_score (r x : Fin 512) :
    k0_pay8 i q w ch 1#32 t k (ix2 r x)
      = Scalar.select (IntOp.cmpi .sle (chunk (IntOp.addi (Scalar.muli (Scf.iv w 1#32 ↑t) 512#32) (BitVec.ofNat 32 x.val)))
          (ch (ix2 r 0))) (k0_pay19 q k (ix2 r x)) ⊥ := by
  rw [score_value]
  pointwise [k0_pay8, mask, chunk]

/-- The queries' chunks. -/
theorem query_chunk (r : Fin 512) (z : Fin 1) :
    k0_pay15 w (ix2 r z) = chunk (IntOp.addi w (BitVec.ofNat 32 r.val)) := by
  pointwise [k0_pay15, chunk]

end Cert.Proof.Mla

end
-- ==== Proof.Mla.Points.lean ====
/- The kernel's loops at each grid point: how many key blocks each visits, and which block a trip loads. -/
module

public import proofs.«01_k».proof.Defs
public import proofs.«01_k».proof.Proof.Gen.MlaIdeal.Value
public import Idealize.ShloMosaic.Lib.Pointwise

@[expose] public section

set_option maxRecDepth 16384

noncomputable section

namespace Cert.Proof.Mla

open Idealize.ShloMosaic Idealize.ShloMosaic.TcCoe Idealize.SL.Sem
open Cert.MlaIdeal Cert.MlaIdeal.Gen

/-- The number of the query block a grid point works on. -/
abbrev block (t : Fin grid0.N) : ℕ := (grid0.coords t 2).val

/-- There are 32 query blocks. -/
theorem block_lt (t : Fin grid0.N) : block t < 32 := (grid0.coords t 2).isLt

/-- The first loop visits every key block before the diagonal. -/
theorem trips_before : ∀ t : Fin grid0.N, (k0_t1_loop (grid0.coords t)).trips = block t := by decide +kernel
/-- The loop over the rest of the blocks before the diagonal is empty. -/
theorem trips_before_rest : ∀ t : Fin grid0.N, (k0_t2_loop (grid0.coords t)).trips = 0 := by decide +kernel
/-- The masked loop visits the diagonal block alone. -/
theorem trips_diagonal : ∀ t : Fin grid0.N, (k0_t3_loop (grid0.coords t)).trips = 1 := by decide +kernel
/-- The loop over the rest of the diagonal is empty. -/
theorem trips_diagonal_rest : ∀ t : Fin grid0.N, (k0_t4_loop (grid0.coords t)).trips = 0 := by decide +kernel

/-- Trip `j` before the diagonal loads the keys of block `j`. -/
theorem keys_before : ∀ t : Fin grid0.N, ∀ j : Fin (k0_t1_loop (grid0.coords t)).trips,
    k0_off1 (grid0.coords t) j = ![0, j.val * 512, 0] := by decide +kernel
/-- Trip `j` before the diagonal loads the values of block `j`. -/
theorem values_before : ∀ t : Fin grid0.N, ∀ j : Fin (k0_t1_loop (grid0.coords t)).trips,
    k0_off2 (grid0.coords t) j = ![0, j.val * 512, 0] := by decide +kernel
/-- The trip on the diagonal loads the keys of the query block. -/
theorem keys_diagonal : ∀ t : Fin grid0.N, ∀ j : Fin (k0_t3_loop (grid0.coords t)).trips,
    k0_off5 (grid0.coords t) j = ![0, block t * 512, 0] := by decide +kernel
/-- The trip on the diagonal loads the values of the query block. -/
theorem values_diagonal : ∀ t : Fin grid0.N, ∀ j : Fin (k0_t3_loop (grid0.coords t)).trips,
    k0_off6 (grid0.coords t) j = ![0, block t * 512, 0] := by decide +kernel

/-- A word of the sum of a block's first row and a row in it. -/
theorem word_row (a b : ℕ) : IntOp.addi (BitVec.ofNat 32 (a * 512)) (BitVec.ofNat 32 b) = BitVec.ofNat 32 (a * 512 + b) := by
  simp [IntOp.addi, BitVec.ofNat_add]

/-- The first row of the block the diagonal trip visits. -/
theorem word_diagonal (a : ℕ) : Scalar.muli (Scf.iv (BitVec.ofNat 32 a) 1#32 0) 512#32 = BitVec.ofNat 32 (a * 512) := by
  simp [Scalar.muli, IntOp.muli, Scf.iv, BitVec.ofNat_mul]

/-- The first row of the query block. -/
theorem word_first (a : ℕ) : Scalar.addi 0#32 (Scalar.muli (BitVec.ofNat 32 a) 512#32) = BitVec.ofNat 32 (a * 512) := by
  simp [Scalar.muli, IntOp.muli, Scalar.addi, IntOp.addi, BitVec.ofNat_mul]

end Cert.Proof.Mla

end
-- ==== Proof.Mla.Loops.lean ====
/- What the loops carry after any number of key blocks: the largest score, the sum of exponentials and the weighted sum
   of the keys visited so far. -/
module

public import proofs.«01_k».proof.Defs
public import proofs.«01_k».proof.Proof.Mla.Trips
public import proofs.«01_k».proof.Proof.Mla.Blocks
public import proofs.«01_k».proof.Proof.Mla.Points

@[expose] public section

set_option maxRecDepth 16384

noncomputable section

namespace Cert.Proof.Mla

open Idealize.ShloMosaic Idealize.ShloMosaic.TcCoe Idealize.SL.Sem
open Cert.MlaIdeal Cert.MlaIdeal.Gen Cert.Proof.Softmax

/-- What is carried is right after the first `n` keys, for the rows of scores `s` and columns of values `u`. -/
structure Right (s : Fin 512 → ℕ → EReal) (u : Fin 128 → ℕ → EReal) (n : ℕ) (acc : Carried) : Prop where
  peak : ∀ r, acc.1 (ix2 r 0) = Softmax.peak (s r) n
  mass : ∀ r, acc.2.1 (ix2 r 0) = Softmax.mass (s r) n
  gather : ∀ r d, acc.2.2 (ix2 r d) = Softmax.gather (s r) (u d) n

variable (s : Fin 512 → ℕ → EReal) (u : Fin 128 → ℕ → EReal)

/-- Nothing visited, nothing carried. -/
theorem right_start : Right s u 0 (k0_pay16, k0_pay17, k0_pay18) :=
  ⟨fun r => (start_max r 0).trans (by simp [Softmax.peak]), fun r => (start_mass r 0).trans (by simp [Softmax.mass]),
   fun r d => (start_gather r d).trans (by simp [Softmax.gather])⟩

/-- A block before the diagonal keeps what is carried right. -/
theorem right_full (q : FVec Ideal S512x256 .bf16) (k : FVec Ideal S1x512x256 .bf16) (v : FVec Ideal S1x512x128 .bf16)
    (n : ℕ) (acc : Carried) (h : Right s u n acc)
    (hs : ∀ r x : Fin 512, k0_pay19 q k (ix2 r x) = s r (n + x.val))
    (hu : ∀ (x : Fin 512) d, v (ix3 0 x d) = u d (n + x.val)) :
    Right s u (n + 512) (k0_pay20 q acc.1 k, k0_pay23 q acc.1 acc.2.1 k, k0_pay24 q acc.1 acc.2.2 k v) := by
  have hp : ∀ r, k0_pay20 q acc.1 k (ix2 r 0) = Softmax.peak (s r) (n + 512) := fun r => by
    rw [max_value, h.peak, peak_step]
    simp only [hs]
  refine ⟨hp, fun r => ?_, fun r d => ?_⟩
  · show k0_pay23 q acc.1 acc.2.1 k (ix2 r 0) = _
    rw [mass_value, hp, h.peak, h.mass, mass_step]
    simp only [hs]
  · show k0_pay24 q acc.1 acc.2.2 k v (ix2 r d) = _
    rw [gather_value, hp, h.peak, h.gather, gather_step]
    simp only [hs, hu]

/-- The block on the diagonal keeps what is carried right. -/
theorem right_masked (i : grid0.Coords) (w : BitVec 32) (ch : IVec S512x1 32) (t : Fin (k0_t3_loop i).trips)
    (q : FVec Ideal S512x256 .bf16) (k : FVec Ideal S1x512x256 .bf16) (v : FVec Ideal S1x512x128 .bf16)
    (n : ℕ) (acc : Carried) (h : Right s u n acc)
    (hs : ∀ r x : Fin 512, k0_pay8 i q w ch 1#32 t k (ix2 r x) = s r (n + x.val))
    (hu : ∀ (x : Fin 512) d, v (ix3 0 x d) = u d (n + x.val)) :
    Right s u (n + 512) (k0_pay9 i q w ch 1#32 t acc.1 k,
      k0_pay2 acc.2.1 (k0_pay8 i q w ch 1#32 t k) (k0_pay9 i q w ch 1#32 t acc.1 k) (k0_pay10 i q w ch 1#32 t acc.1 k),
      k0_pay3 acc.2.2 (k0_pay8 i q w ch 1#32 t k) (k0_pay9 i q w ch 1#32 t acc.1 k) (k0_pay10 i q w ch 1#32 t acc.1 k) v) := by
  have hp : ∀ r, k0_pay9 i q w ch 1#32 t acc.1 k (ix2 r 0) = Softmax.peak (s r) (n + 512) := fun r => by
    rw [max_masked_value, h.peak, peak_step]
    simp only [hs]
  refine ⟨hp, fun r => ?_, fun r d => ?_⟩
  · show k0_pay2 _ _ _ _ (ix2 r 0) = _
    rw [mass_masked_value, factor_masked_value, hp, h.peak, h.mass, mass_step]
    simp only [hs]
  · show k0_pay3 _ _ _ _ _ (ix2 r d) = _
    rw [gather_masked_value, factor_masked_value, hp, h.peak, h.gather, gather_step]
    simp only [hs, hu]

variable (𝒱 : Variants) (c : Dev nD) (bd : Option 𝒱.V) (t : Fin grid0.N)
  (arg3 : Memref sig .tc .vmem S1x512x256 .bf16) (harg3 : arg3.IsWhole)
  (arg4 : Memref sig .tc .vmem S1x16384x256 .bf16) (harg4 : arg4.IsWhole)
  (arg5 : Memref sig .tc .vmem S1x16384x128 .bf16) (harg5 : arg5.IsWhole)
  (arg6 : Memref sig .tc .vmem S1x1x128 .f32) (harg6 : arg6.IsWhole)
  (arg7 : Memref sig .tc .vmem S1x512x128 .bf16) (harg7 : arg7.IsWhole)
  (v1 : FVec Ideal S512x256 .bf16) (v3 v20 v23 : BitVec 32) (v34 v36 : BitVec 1) (v67 : IVec S512x1 32)
  (X4 : FVec Ideal S1x16384x256 .bf16) (X5 : FVec Ideal S1x16384x128 .bf16) (init : Carried)

/-- The loop over the rest before the diagonal carries its start through. -/
theorem rest_before :
    st_k0_t2 (F := Ideal) 𝒱 c bd (grid0.coords t) arg3 harg3 arg4 harg4 arg5 harg5 arg6 harg6 arg7 harg7 v1 v3 v20 v23 v34 v36
      (harg4.unread X4) (harg5.unread X5) init (k0_t2_loop (grid0.coords t)).trips = init := by
  rw [trips_before_rest]
  exact st_k0_t2_zero ..

/-- A key of the blocks before the diagonal, as the trip loads it. -/
theorem load_key (j : Fin (k0_t1_loop (grid0.coords t)).trips) (x : Fin 512) (d : Fin 256) (hx : j.val * 512 + x.val < 16384) :
    arg4.view.readAt (Elt Ideal) (Rect.unit (s := S1x16384x256) (k0_off1 (grid0.coords t) j) S1x512x256.size
      (k0_off1_inb (grid0.coords t) j)).toLoadRect (harg4.unread X4) (ix3 0 x d) = X4 (ix3 0 ⟨j.val * 512 + x.val, hx⟩ d) := by
  rw [harg4.readAt_unread]
  refine congrArg X4 (funext fun a => Fin.ext ?_)
  fin_cases a <;> simp [Rect.unit, keys_before t j, Rect.toLoadRect]

/-- A value of the blocks before the diagonal, as the trip loads it. -/
theorem load_value (j : Fin (k0_t1_loop (grid0.coords t)).trips) (x : Fin 512) (d : Fin 128) (hx : j.val * 512 + x.val < 16384) :
    arg5.view.readAt (Elt Ideal) (Rect.unit (s := S1x16384x128) (k0_off2 (grid0.coords t) j) S1x512x128.size
      (k0_off2_inb (grid0.coords t) j)).toLoadRect (harg5.unread X5) (ix3 0 x d) = X5 (ix3 0 ⟨j.val * 512 + x.val, hx⟩ d) := by
  rw [harg5.readAt_unread]
  refine congrArg X5 (funext fun a => Fin.ext ?_)
  fin_cases a <;> simp [Rect.unit, values_before t j, Rect.toLoadRect]

/-- A key of the diagonal block, as the trip loads it. -/
theorem load_key_diagonal (j : Fin (k0_t3_loop (grid0.coords t)).trips) (x : Fin 512) (d : Fin 256)
    (hx : block t * 512 + x.val < 16384) :
    arg4.view.readAt (Elt Ideal) (Rect.unit (s := S1x16384x256) (k0_off5 (grid0.coords t) j) S1x512x256.size
      (k0_off5_inb (grid0.coords t) j)).toLoadRect (harg4.unread X4) (ix3 0 x d) = X4 (ix3 0 ⟨block t * 512 + x.val, hx⟩ d) := by
  rw [harg4.readAt_unread]
  refine congrArg X4 (funext fun a => Fin.ext ?_)
  fin_cases a <;> simp [Rect.unit, keys_diagonal t j, Rect.toLoadRect]

/-- A value of the diagonal block, as the trip loads it. -/
theorem load_value_diagonal (j : Fin (k0_t3_loop (grid0.coords t)).trips) (x : Fin 512) (d : Fin 128)
    (hx : block t * 512 + x.val < 16384) :
    arg5.view.readAt (Elt Ideal) (Rect.unit (s := S1x16384x128) (k0_off6 (grid0.coords t) j) S1x512x128.size
      (k0_off6_inb (grid0.coords t) j)).toLoadRect (harg5.unread X5) (ix3 0 x d) = X5 (ix3 0 ⟨block t * 512 + x.val, hx⟩ d) := by
  rw [harg5.readAt_unread]
  refine congrArg X5 (funext fun a => Fin.ext ?_)
  fin_cases a <;> simp [Rect.unit, values_diagonal t j, Rect.toLoadRect]

/-- The loop over the rest of the diagonal carries its start through. -/
theorem rest_diagonal (v82 : BitVec 32) :
    st_k0_t4 (F := Ideal) 𝒱 c bd (grid0.coords t) arg3 harg3 arg4 harg4 arg5 harg5 arg6 harg6 arg7 harg7 v1 v67 v82
      (harg4.unread X4) (harg5.unread X5) init (k0_t4_loop (grid0.coords t)).trips = init := by
  rw [trips_diagonal_rest]
  exact st_k0_t4_zero ..

/-- The scores before the diagonal are the products with the keys of the earlier blocks, scaled. -/
def Before : Prop := ∀ (r : Fin 512) (x : ℕ) (hx : x < 16384), x < block t * 512 →
  s r x = (∑ d : Fin 256, v1 (ix2 r d) * X4 (ix3 0 ⟨x, hx⟩ d)) * scale

/-- On the diagonal block the scores are masked by chunk. -/
def Diagonal : Prop := ∀ (r x : Fin 512) (hx : block t * 512 + x.val < 16384),
  s r (block t * 512 + x.val) = if (block t * 512 + x.val) / 64 ≤ (block t * 512 + r.val) / 64
    then (∑ d : Fin 256, v1 (ix2 r d) * X4 (ix3 0 ⟨block t * 512 + x.val, hx⟩ d)) * scale else ⊥

/-- The values are the columns of the value array. -/
def Values : Prop := ∀ (d : Fin 128) (x : ℕ) (hx : x < 16384), u d x = X5 (ix3 0 ⟨x, hx⟩ d)

/-- What is carried before the diagonal. -/
theorem right_before (hs : Before s t v1 X4) (hu : Values u X5) (k : ℕ) (hk : k ≤ (k0_t1_loop (grid0.coords t)).trips) :
    Right s u (k * 512) (st_k0_t1 (F := Ideal) 𝒱 c bd (grid0.coords t) arg3 harg3 arg4 harg4 arg5 harg5 arg6 harg6 arg7 harg7 v1
      v3 v20 v23 v34 v36 (harg4.unread X4) (harg5.unread X5) (k0_pay16, k0_pay17, k0_pay18) k) := by
  induction k with
  | zero => rw [Nat.zero_mul, st_k0_t1_zero]; exact right_start s u
  | succ k ih =>
    have hb : k < block t := by rw [← trips_before t]; omega
    have hl := block_lt t
    rw [st_k0_t1_succ (F := Ideal) 𝒱 c bd (grid0.coords t) arg3 harg3 arg4 harg4 arg5 harg5 arg6 harg6 arg7 harg7 v1
      v3 v20 v23 v34 v36 (harg4.unread X4) (harg5.unread X5) (k0_pay16, k0_pay17, k0_pay18) ⟨k, hk⟩, trip_full,
      Nat.add_mul, Nat.one_mul]
    refine right_full s u _ _ _ _ _ (ih (by omega)) (fun r x => ?_) fun x d => ?_
    · rw [score_value, hs r (k * 512 + x.val) (by omega) (by omega)]
      refine congrArg (· * scale) (Finset.sum_congr rfl fun d _ => ?_)
      rw [load_key t arg4 harg4 X4 ⟨k, hk⟩ x d (by show k * 512 + x.val < 16384; omega)]
    · rw [load_value t arg5 harg5 X5 ⟨k, hk⟩ x d (by show k * 512 + x.val < 16384; omega), hu]

/-- What is carried at the end. -/
theorem right_end (hs : Before s t v1 X4) (hd : Diagonal s t v1 X4) (hu : Values u X5)
    (hw : v20 = BitVec.ofNat 32 (block t))
    (hc : ∀ r : Fin 512, v67 (ix2 r 0) = chunk (BitVec.ofNat 32 (block t * 512 + r.val))) :
    Right s u (block t * 512 + 512) (st_k0_t3 (F := Ideal) 𝒱 c bd (grid0.coords t) arg3 harg3 arg4 harg4 arg5 harg5 arg6 harg6
      arg7 harg7 v1 v20 v67 (harg4.unread X4) (harg5.unread X5)
      (st_k0_t1 (F := Ideal) 𝒱 c bd (grid0.coords t) arg3 harg3 arg4 harg4 arg5 harg5 arg6 harg6 arg7 harg7 v1
        v3 v20 v23 v34 v36 (harg4.unread X4) (harg5.unread X5) (k0_pay16, k0_pay17, k0_pay18) (k0_t1_loop (grid0.coords t)).trips)
      (k0_t3_loop (grid0.coords t)).trips) := by
  have h1 := right_before s u 𝒱 c bd t arg3 harg3 arg4 harg4 arg5 harg5 arg6 harg6 arg7 harg7 v1 v3 v20 v23 v34 v36 X4 X5 hs hu _
    (le_refl (k0_t1_loop (grid0.coords t)).trips)
  generalize st_k0_t1 (F := Ideal) 𝒱 c bd (grid0.coords t) arg3 harg3 arg4 harg4 arg5 harg5 arg6 harg6 arg7 harg7 v1
        v3 v20 v23 v34 v36 (harg4.unread X4) (harg5.unread X5) (k0_pay16, k0_pay17, k0_pay18)
        (k0_t1_loop (grid0.coords t)).trips = acc at h1 ⊢
  rw [trips_before t] at h1
  have hl := block_lt t
  have h0 : 0 < (k0_t3_loop (grid0.coords t)).trips := by rw [trips_diagonal t]; decide
  rw [trips_diagonal t, show (1 : ℕ) = (⟨0, h0⟩ : Fin (k0_t3_loop (grid0.coords t)).trips).val + 1 from rfl,
    st_k0_t3_succ (F := Ideal) 𝒱 c bd (grid0.coords t) arg3 harg3 arg4 harg4 arg5 harg5 arg6 harg6 arg7 harg7 v1
      v20 v67 (harg4.unread X4) (harg5.unread X5) acc ⟨0, h0⟩, trip_masked, st_k0_t3_zero]
  refine right_masked s u _ _ _ _ _ _ _ _ _ h1 (fun r x => ?_) fun x d => ?_
  · rw [masked_score, hd r x (by omega), score_value, hc, hw, word_diagonal, word_row,
      chunk_le _ _ (by omega) (by omega)]
    simp only [load_key_diagonal t arg4 harg4 X4 ⟨0, h0⟩ x _ (by omega : block t * 512 + x.val < 16384)]
    split <;> rfl
  · rw [load_value_diagonal t arg5 harg5 X5 ⟨0, h0⟩ x d (by omega), hu]

end Cert.Proof.Mla

end
-- ==== Proof.Mla.Block.lean ====
/- What one grid point of the attention kernel writes: the weighted sums the four loops leave, divided by the sums of
   exponentials and normalized. -/
module

public import proofs.«01_k».proof.Defs
public import proofs.«01_k».proof.Proof.Gen.MlaIdeal.Value
public import proofs.«01_k».proof.Proof.Mla.Loops
public import Idealize.ShloMosaic.Lib.Pointwise
public import Idealize.ShloMosaic.Lib.Pipeline.ValueKit

@[expose] public section

set_option maxRecDepth 16384

noncomputable section

namespace Cert.Proof.Mla

open Idealize.ShloMosaic Idealize.ShloMosaic.TcCoe Idealize.SL.Sem
open Cert.MlaIdeal Cert.MlaIdeal.Gen Cert.Proof.Softmax

/-- The number of blocks before the diagonal, as the kernel computes it from the first row. -/
theorem word_block : ∀ n : Fin 32, Scalar.select
    (Scalar.andi
      (Scalar.cmpi .ne
        (Scalar.subi
          (Scalar.extui (Scalar.cmpi .sgt (Scalar.addi 0#32 (Scalar.muli (BitVec.ofNat 32 n.val) 512#32)) 0#32))
          (Scalar.extui (Scalar.cmpi .slt (Scalar.addi 0#32 (Scalar.muli (BitVec.ofNat 32 n.val) 512#32)) 0#32))) 1#32)
      (Scalar.cmpi .ne (Scalar.remsi (Scalar.addi 0#32 (Scalar.muli (BitVec.ofNat 32 n.val) 512#32)) 512#32) 0#32))
    (Scalar.subi (Scalar.divsi (Scalar.addi 0#32 (Scalar.muli (BitVec.ofNat 32 n.val) 512#32)) 512#32) 1#32)
    (Scalar.divsi (Scalar.addi 0#32 (Scalar.muli (BitVec.ofNat 32 n.val) 512#32)) 512#32) = BitVec.ofNat 32 n.val := by
  decide +kernel

variable (c : Dev nD) (i : grid0.Coords)
  (arg3 : Memref sig .tc .vmem S1x512x256 .bf16) (harg3 : arg3.IsWhole)
  (arg4 : Memref sig .tc .vmem S1x16384x256 .bf16) (harg4 : arg4.IsWhole)
  (arg5 : Memref sig .tc .vmem S1x16384x128 .bf16) (harg5 : arg5.IsWhole)
  (arg6 : Memref sig .tc .vmem S1x1x128 .f32) (harg6 : arg6.IsWhole)
  (arg7 : Memref sig .tc .vmem S1x512x128 .bf16) (harg7 : arg7.IsWhole)
  (x0 : Vec Ideal S1x512x256 .bf16) (x1 : Vec Ideal S1x16384x256 .bf16) (x2 : Vec Ideal S1x16384x128 .bf16)
  (x3 : Vec Ideal S1x1x128 .f32)

/-- The block written is the last step of the kernel on what its four loops leave, one after the other. -/
theorem written : ∃ (v3 v20 v23 : BitVec 32) (v34 v36 : BitVec 1) (v82 : BitVec 32),
    out0_A_4 c i arg3 harg3 arg4 harg4 arg5 harg5 arg6 harg6 arg7 harg7 x0 x1 x2 x3 =
    (fun acc : Carried => k0_pay7 acc.2.1 acc.2.2 x3)
      (st_k0_t4 (F := Ideal) Variants.none c none i arg3 harg3 arg4 harg4 arg5 harg5 arg6 harg6 arg7 harg7 (k0_pay14 x0)
        (k0_pay15 v3) v82 (harg4.unread x1) (harg5.unread x2)
        (st_k0_t3 (F := Ideal) Variants.none c none i arg3 harg3 arg4 harg4 arg5 harg5 arg6 harg6 arg7 harg7 (k0_pay14 x0)
          v20 (k0_pay15 v3) (harg4.unread x1) (harg5.unread x2)
          (st_k0_t2 (F := Ideal) Variants.none c none i arg3 harg3 arg4 harg4 arg5 harg5 arg6 harg6 arg7 harg7 (k0_pay14 x0)
            v3 v20 v23 v34 v36 (harg4.unread x1) (harg5.unread x2)
            (st_k0_t1 (F := Ideal) Variants.none c none i arg3 harg3 arg4 harg4 arg5 harg5 arg6 harg6 arg7 harg7 (k0_pay14 x0)
              v3 v20 v23 v34 v36 (harg4.unread x1) (harg5.unread x2) (k0_pay16, k0_pay17, k0_pay18) (k0_t1_loop i).trips)
            (k0_t2_loop i).trips)
          (k0_t3_loop i).trips)
        (k0_t4_loop i).trips)
      ∧ v3 = BitVec.ofNat 32 ((i 2).val * 512) ∧ v20 = BitVec.ofNat 32 (i 2).val := by
  refine ⟨?v3, ?v20, ?v23, ?v34, ?v36, ?v82, ?e, ?h3, ?h20⟩
  case e =>
    frame_out
    simp only [Prod.mk.eta]
    with_reducible rfl
  case h3 => exact word_first _
  case h20 => exact word_block (i 2)

/-- The block written, at an index. -/
theorem written_value (t : Fin grid0.N) (s : Fin 512 → ℕ → EReal) (u : Fin 128 → ℕ → EReal)
    (hs : Before s t (k0_pay14 x0) x1) (hd : Diagonal s t (k0_pay14 x0) x1) (hu : Values u x2) (z : Fin 1) (r : Fin 512)
    (d : Fin 128) :
    out0_A_4 c (grid0.coords t) arg3 harg3 arg4 harg4 arg5 harg5 arg6 harg6 arg7 harg7 x0 x1 x2 x3 (ix3 z r d)
      = normed (fun e => Ideal.div (gather (s r) (u e) (block t * 512 + 512)) (mass (s r) (block t * 512 + 512)))
          (fun e => x3 (ix3 0 0 e)) d := by
  obtain ⟨v3, v20, v23, v34, v36, v82, e, h3, h20⟩ :=
    written c (grid0.coords t) arg3 harg3 arg4 harg4 arg5 harg5 arg6 harg6 arg7 harg7 x0 x1 x2 x3
  rw [e, rest_diagonal, rest_before]
  have h := right_end s u Variants.none c none t arg3 harg3 arg4 harg4 arg5 harg5 arg6 harg6 arg7 harg7 (k0_pay14 x0) v3 v20
    v23 v34 v36 (k0_pay15 v3) x1 x2 hs hd hu h20 (fun r => by rw [query_chunk, h3, word_row])
  refine (result_value _ _ z r d x3).trans ?_
  simp only [h.mass, h.gather]

end Cert.Proof.Mla

end
-- ==== Proof.Mla.Reads.lean ====
/- The blocks the pipeline hands the attention kernel, as entries of the argument arrays. -/
module

public import proofs.«01_k».proof.Defs
public import proofs.«01_k».proof.Proof.Gen.MlaIdeal.Value
public import proofs.«01_k».proof.Proof.Mla.Points
public import Idealize.ShloMosaic.Lib.Pointwise
public import Idealize.ShloMosaic.Lib.Pipeline.ValueKit
public import Idealize.ShloMosaic.Lib.StableHlo.Run

@[expose] public section

set_option maxRecDepth 16384

noncomputable section

namespace Cert.Proof.Mla

open Idealize.ShloMosaic Idealize.ShloMosaic.TcCoe Idealize.SL.Sem
open Cert.MlaIdeal Cert.MlaIdeal.Gen

/-- The grid's first two coordinates are the sequence and the head, the third is the query block. -/
theorem index_queries : ∀ t : Fin grid0.N,
    win0_0.index t = ![(grid0.coords t 0).val, block t, (grid0.coords t 1).val] := by decide +kernel
/-- All keys of the point's sequence and head. -/
theorem index_keys : ∀ t : Fin grid0.N, win0_1.index t = ![(grid0.coords t 0).val, 0, (grid0.coords t 1).val] := by
  decide +kernel
/-- All values of the point's sequence and head. -/
theorem index_values : ∀ t : Fin grid0.N, win0_2.index t = ![(grid0.coords t 0).val, 0, (grid0.coords t 1).val] := by
  decide +kernel
/-- The weights of the point's head. -/
theorem index_gains : ∀ t : Fin grid0.N, win0_3.index t = ![(grid0.coords t 1).val, 0, 0] := by decide +kernel
/-- The result's block is the queries' block. -/
theorem index_result : ∀ t : Fin grid0.N,
    win0_4.index t = ![(grid0.coords t 0).val, block t, (grid0.coords t 1).val] := by decide +kernel

variable (m : (ℓ : Loc nD τ sig) → Buf (Elt Ideal) ℓ) (c : Dev nD) (t : Fin cfg0.N)

/-- The queries' block. -/
theorem read_queries (j : S1x512x256.Idx) (i : S2x16384x1024.Idx)
    (h0 : (i 0).val = (grid0.coords t 0).val) (h1 : (i 1).val = block t * 512 + (j 1).val)
    (h2 : (i 2).val = (grid0.coords t 1).val * 256 + (j 2).val) :
    iblk m c 0 t j = m ((c : Thread nD τ).loc main_arg0) i := by
  show V m c (Pipeline.arrRef spec0 0) _ = _
  rw [V_main_arg0]
  refine congrArg _ (funext fun a => Fin.ext ?_)
  fin_cases a
  · blk_simp [index_queries]
    exact h0.symm
  · blk_simp [index_queries]
    exact h1.symm
  · blk_simp [index_queries]
    exact h2.symm

/-- The keys' block. -/
theorem read_keys (j : S1x16384x256.Idx) (i : S2x16384x1024.Idx)
    (h0 : (i 0).val = (grid0.coords t 0).val) (h1 : (i 1).val = (j 1).val)
    (h2 : (i 2).val = (grid0.coords t 1).val * 256 + (j 2).val) :
    iblk m c 1 t j = m ((c : Thread nD τ).loc main_arg1) i := by
  show V m c (Pipeline.arrRef spec0 1) _ = _
  rw [V_main_arg1]
  refine congrArg _ (funext fun a => Fin.ext ?_)
  fin_cases a
  · blk_simp [index_keys]
    exact h0.symm
  · blk_simp [index_keys]
    exact h1.symm
  · blk_simp [index_keys]
    exact h2.symm

/-- The values' block. -/
theorem read_values (j : S1x16384x128.Idx) (i : S2x16384x512.Idx)
    (h0 : (i 0).val = (grid0.coords t 0).val) (h1 : (i 1).val = (j 1).val)
    (h2 : (i 2).val = (grid0.coords t 1).val * 128 + (j 2).val) :
    iblk m c 2 t j = m ((c : Thread nD τ).loc main_arg2) i := by
  show V m c (Pipeline.arrRef spec0 2) _ = _
  rw [V_main_arg2]
  refine congrArg _ (funext fun a => Fin.ext ?_)
  fin_cases a
  · blk_simp [index_values]
    exact h0.symm
  · blk_simp [index_values]
    exact h1.symm
  · blk_simp [index_values]
    exact h2.symm

/-- The weights, laid out by head before the kernel runs. -/
theorem gains_by_head (h : Fin 12) (z : Fin 1) (d : Fin 128) :
    V m c main_v0 (ix3 h z d) = m ((c : Thread nD τ).loc main_arg3) (ix1 ⟨h.val * 128 + d.val, by omega⟩) := by
  have e : V m c main_v0 = shapeCast S12x1x128 (m ((c : Thread nD τ).loc main_arg3)) shapeCasts_S1536_S12x1x128 := by
    unfold_abbrev_sides
    after_results
    rfl
  rw [e]
  pointwise []

/-- The weights' block. -/
theorem read_gains (d : Fin 128) (i : S1536.Idx) (h0 : (i 0).val = (grid0.coords t 1).val * 128 + d.val) :
    iblk m c 3 t (ix3 0 0 d) = m ((c : Thread nD τ).loc main_arg3) i := by
  have hh : (grid0.coords t 1).val < 4 := (grid0.coords t 1).isLt
  have e : V m c main_v0 (ix3 ⟨(grid0.coords t 1).val, by omega⟩ 0 d) = m ((c : Thread nD τ).loc main_arg3) i :=
    (gains_by_head m c ⟨(grid0.coords t 1).val, by omega⟩ 0 d).trans
      (congrArg _ (funext fun a => Fin.ext (by fin_cases a; exact h0.symm)))
  rw [← e]
  show V m c (Pipeline.arrRef spec0 3) _ = _
  refine congrArg (V m c main_v0) (funext fun a => Fin.ext ?_)
  fin_cases a
  · blk_simp [index_gains]
    rfl
  · blk_simp [index_gains]
  · blk_simp [index_gains]
    rfl

end Cert.Proof.Mla

end
-- ==== Proof.Mla.HostChunk.lean ====
/- The reference: the position's chunk of 64, as a word and as a number. -/
module

public import proofs.«01_k».proof.Proof.Mla.Chunk

@[expose] public section

set_option maxRecDepth 16384

noncomputable section

namespace Cert.Proof.Mla

open Idealize.ShloMosaic

/-- A position's chunk of 64, as the reference computes it. -/
def hostChunk (x : BitVec 32) : BitVec 32 :=
  Scalar.select
    (IntOp.andi
      (IntOp.cmpi .ne (if x = 0 then 0 else if x.msb = true then -1 else 1 : BitVec 32)
        (if (64#32 : BitVec 32) = 0 then 0 else if (64#32 : BitVec 32).msb = true then -1 else 1))
      (IntOp.cmpi .ne (IntOp.remsi ArithUnit.host x 64#32) 0#32))
    (IntOp.subi (IntOp.divsi ArithUnit.host x 64#32) 1#32)
    (IntOp.divsi ArithUnit.host x 64#32)

/-- Up to 16384 a position's chunk is its quotient by 64. -/
theorem hostChunk_nat : ∀ n : Fin 16384, hostChunk (BitVec.ofNat 32 n.val) = BitVec.ofNat 32 (n.val / 64) := by
  decide +kernel

/-- Chunks compare as numbers. -/
theorem hostChunk_le (a b : ℕ) (ha : a < 16384) (hb : b < 16384) :
    IntOp.cmpi .sle (hostChunk (BitVec.ofNat 32 a)) (hostChunk (BitVec.ofNat 32 b)) = if a / 64 ≤ b / 64 then 1#1 else 0#1 := by
  rw [hostChunk_nat ⟨a, ha⟩, hostChunk_nat ⟨b, hb⟩]
  have e : (BitVec.ofNat 32 (a / 64)).toInt = ((a / 64 : ℕ) : ℤ) := word_int ⟨a / 64, by omega⟩
  have f : (BitVec.ofNat 32 (b / 64)).toInt = ((b / 64 : ℕ) : ℤ) := word_int ⟨b / 64, by omega⟩
  simp only [IntOp.cmpi, BitVec.sle, e, f, Nat.cast_le]
  by_cases h : a / 64 ≤ b / 64 <;> simp [h]

end Cert.Proof.Mla

end
-- ==== Proof.Mla.Reference.lean ====
/- The reference of the attention at an index: its scores, its exponentials, its average, its result. -/
module

public import proofs.«01_k».proof.Defs
public import proofs.«01_k».proof.Proof.Mla.Consts
public import proofs.«01_k».proof.Proof.Mla.Spec
public import proofs.«01_k».proof.Proof.Mla.HostChunk
public import proofs.«01_k».proof.Proof.Gen.MlaRefIdeal.Run
public import Idealize.ShloMosaic.Lib.Pointwise
public import Idealize.ShloMosaic.Lib.Quiescent

@[expose] public section

set_option maxRecDepth 16384

noncomputable section

namespace Cert.Proof.Mla

open Idealize.ShloMosaic Idealize.ShloMosaic.TcCoe Idealize.SL.Sem
open Cert.MlaRefIdeal Cert.MlaRefIdeal.Gen Cert.MlaRefIdeal.Value Cert.Proof.Softmax

/-- The keys' chunks, as the reference computes them. -/
def keyChunks : IVec S1x16384 32 :=
  select (andi (cmpi .ne (signi (broadcastInDim S1x16384 ![1] bcast_S16384_S1x16384_1 (iotaInDim S16384 32 0)))
        (broadcastInDim S1x16384 ![] bcast_S_S1x16384 (signi (id (constantI S_ 32 64#32)))))
      (cmpi .ne (Host.remsi (broadcastInDim S1x16384 ![1] bcast_S16384_S1x16384_1 (iotaInDim S16384 32 0))
          (broadcastInDim S1x16384 ![] bcast_S_S1x16384 (id (constantI S_ 32 64#32))))
        (broadcastInDim S1x16384 ![] bcast_S_S1x16384 (constantI S_ 32 0#32))))
    (subi (Host.divsi (broadcastInDim S1x16384 ![1] bcast_S16384_S1x16384_1 (iotaInDim S16384 32 0))
        (broadcastInDim S1x16384 ![] bcast_S_S1x16384 (id (constantI S_ 32 64#32))))
      (broadcastInDim S1x16384 ![] bcast_S_S1x16384 (constantI S_ 32 1#32)))
    (Host.divsi (broadcastInDim S1x16384 ![1] bcast_S16384_S1x16384_1 (iotaInDim S16384 32 0))
      (broadcastInDim S1x16384 ![] bcast_S_S1x16384 (id (constantI S_ 32 64#32))))

/-- The queries' chunks, as the reference computes them. -/
def queryChunks : IVec S16384x1 32 :=
  select (andi (cmpi .ne (signi (broadcastInDim S16384x1 ![0] bcast_S16384_S16384x1_0 (iotaInDim S16384 32 0)))
        (broadcastInDim S16384x1 ![] bcast_S_S16384x1 (signi (id (constantI S_ 32 64#32)))))
      (cmpi .ne (Host.remsi (broadcastInDim S16384x1 ![0] bcast_S16384_S16384x1_0 (iotaInDim S16384 32 0))
          (broadcastInDim S16384x1 ![] bcast_S_S16384x1 (id (constantI S_ 32 64#32))))
        (broadcastInDim S16384x1 ![] bcast_S_S16384x1 (constantI S_ 32 0#32))))
    (subi (Host.divsi (broadcastInDim S16384x1 ![0] bcast_S16384_S16384x1_0 (iotaInDim S16384 32 0))
        (broadcastInDim S16384x1 ![] bcast_S_S16384x1 (id (constantI S_ 32 64#32))))
      (broadcastInDim S16384x1 ![] bcast_S_S16384x1 (constantI S_ 32 1#32)))
    (Host.divsi (broadcastInDim S16384x1 ![0] bcast_S16384_S16384x1_0 (iotaInDim S16384 32 0))
      (broadcastInDim S16384x1 ![] bcast_S_S16384x1 (id (constantI S_ 32 64#32))))

/-- The masked, scaled scores. -/
def hostScores (q k : FVec Ideal S2x16384x1024 .bf16) : FVec Ideal S2x4x16384x16384 .f32 :=
  select (broadcastInDim S2x4x16384x16384 ![2, 3] bcast_S16384x16384_S2x4x16384x16384_2_3
      (cmpi .sle (broadcastInDim S16384x16384 ![0, 1] bcast_S1x16384_S16384x16384_0_1 keyChunks)
        (broadcastInDim S16384x16384 ![0, 1] bcast_S16384x1_S16384x16384_0_1 queryChunks)))
    (mulf (Host.dotGeneral dot_S2x16384x4x256_S2x16384x4x256_S2x4x16384x16384_3_3_1_1_02_02 none
        (shapeCast _ (extf .f32 q bitsLt_bf16_f32) shapeCasts_S2x16384x1024_S2x16384x4x256)
        (shapeCast _ (extf .f32 k bitsLt_bf16_f32) shapeCasts_S2x16384x1024_S2x16384x4x256))
      (broadcastInDim S2x4x16384x16384 ![] bcast_S_S2x4x16384x16384 (constant S_ .f32 0x3D93CD3A#32)))
    (broadcastInDim S2x4x16384x16384 ![] bcast_S_S2x4x16384x16384 (id (constant S_ .f32 0xFF800000#32)))

/-- The exponentials of the scores below their row's largest. -/
def hostExps (s : FVec Ideal S2x4x16384x16384 .f32) : FVec Ideal S2x4x16384x16384 .f32 :=
  Host.exp (subf s (broadcastInDim S2x4x16384x16384 ![0, 1, 2, 3] bcast_S2x4x16384x1_S2x4x16384x16384_0_1_2_3
    (broadcastInDim S2x4x16384x1 ![0, 1, 2] bcast_S2x4x16384_S2x4x16384x1_0_1_2
      (Host.reduce FloatOps.maximumf s (constant S_ .f32 0xFF800000#32) reducesTo_S2x4x16384x16384_S2x4x16384_d3 h_S_))))

/-- The values averaged by the exponentials. -/
def hostAverage (v : FVec Ideal S2x16384x512 .bf16) (e : FVec Ideal S2x4x16384x16384 .f32) : FVec Ideal S2x16384x4x128 .f32 :=
  Host.divf (transpose S2x16384x4x128 [0, 3, 1, 2]
      (Host.dotGeneral dot_S2x16384x4x128_S2x4x16384x16384_S2x4x128x16384_1_3_3_2_02_01 none
        (shapeCast _ (extf .f32 v bitsLt_bf16_f32) shapeCasts_S2x16384x512_S2x16384x4x128) e)
      transposes_S2x4x128x16384_S2x16384x4x128_0_3_1_2)
    (broadcastInDim S2x16384x4x128 ![0, 1, 2, 3] bcast_S2x16384x4x1_S2x16384x4x128_0_1_2_3
      (broadcastInDim S2x16384x4x1 ![0, 1, 2] bcast_S2x16384x4_S2x16384x4x1_0_1_2
        (transpose S2x16384x4 [0, 2, 1]
          (Host.reduceAdd e (constant S_ .f32 0x00000000#32) reducesTo_S2x4x16384x16384_S2x4x16384_d3 h_S_)
          transposes_S2x4x16384_S2x16384x4_0_2_1)))

/-- Each head's average scaled to a mean square of one, then weighted. -/
def hostNormed (a : FVec Ideal S2x16384x4x128 .f32) (g : FVec Ideal S1536 .f32) : FVec Ideal S2x16384x4x128 .f32 :=
  mulf (mulf a (broadcastInDim S2x16384x4x128 ![0, 1, 2, 3] bcast_S2x16384x4x1_S2x16384x4x128_0_1_2_3
      (Host.rsqrt (addf (Host.divf (broadcastInDim S2x16384x4x1 ![0, 1, 2] bcast_S2x16384x4_S2x16384x4x1_0_1_2
            (Host.reduceAdd (mulf a a) (constant S_ .f32 0x00000000#32) reducesTo_S2x16384x4x128_S2x16384x4_d3 h_S_))
          (broadcastInDim S2x16384x4x1 ![] bcast_S_S2x16384x4x1 (constant S_ .f32 0x43000000#32)))
        (broadcastInDim S2x16384x4x1 ![] bcast_S_S2x16384x4x1 (constant S_ .f32 0x358637BD#32))))))
    (broadcastInDim S2x16384x4x128 ![0, 1, 2, 3] bcast_S1x1x4x128_S2x16384x4x128_0_1_2_3
      (broadcastInDim S1x1x4x128 ![2, 3] bcast_S4x128_S1x1x4x128_2_3
        (extractStridedSlice S4x128 ![0, 0] (shapeCast _ g shapeCasts_S1536_S12x128) slices_S12x128_S4x128_0_0)))

/-- The reference's result is these in turn. -/
theorem reference_term (m : (ℓ : Loc nD τ sig) → Buf (Elt Ideal) ℓ) (c : Dev nD) :
    res_main_v46 m c = truncf .bf16 (shapeCast _ (hostNormed
        (hostAverage (m ((c.tc : Thread nD τ).loc main_arg2))
          (hostExps (hostScores (m ((c.tc : Thread nD τ).loc main_arg0)) (m ((c.tc : Thread nD τ).loc main_arg1)))))
        (m ((c.tc : Thread nD τ).loc main_arg3))) shapeCasts_S2x16384x4x128_S2x16384x512) bitsLt_bf16_f32 := by
  unfold res_main_v46 hostNormed hostAverage hostExps hostScores keyChunks queryChunks
  rfl

/-- The keys' chunks, at an index. -/
theorem keyChunks_value (z : Fin 1) (x : Fin 16384) : keyChunks (ix2 z x) = hostChunk (BitVec.ofNat 32 x.val) := by
  pointwise [keyChunks, hostChunk, id_eq]

/-- The queries' chunks, at an index. -/
theorem queryChunks_value (r : Fin 16384) (z : Fin 1) : queryChunks (ix2 r z) = hostChunk (BitVec.ofNat 32 r.val) := by
  pointwise [queryChunks, hostChunk, id_eq]

/-- The reference's scores. -/
theorem hostScores_value (q k : FVec Ideal S2x16384x1024 .bf16) (b : Fin 2) (h : Fin 4) (r x : Fin 16384) :
    hostScores q k (ix4 b h r x) = score q k b h r x.val := by
  rw [score, dif_pos x.isLt]
  pointwise [hostScores, id_eq, ofBits_neg_inf]
  rw [keyChunks_value, queryChunks_value, hostChunk_le x.val r.val x.isLt r.isLt]
  by_cases hm : x.val / 64 ≤ r.val / 64
  · rw [if_pos hm, if_pos hm]; rfl
  · rw [if_neg hm, if_neg hm]; rfl

/-- The reference's exponentials. -/
theorem hostExps_value (q k : FVec Ideal S2x16384x1024 .bf16) (b : Fin 2) (h : Fin 4) (r x : Fin 16384) :
    hostExps (hostScores q k) (ix4 b h r x) = Ideal.exp (score q k b h r x.val - peak (score q k b h r) 16384) := by
  rw [← fold_eq_peak]
  pointwise [hostExps, ofBits_neg_inf]
  simp only [hostScores_value]

/-- The reference's average. -/
theorem hostAverage_value (q k : FVec Ideal S2x16384x1024 .bf16) (v : FVec Ideal S2x16384x512 .bf16) (b : Fin 2)
    (r : Fin 16384) (h : Fin 4) (d : Fin 128) :
    hostAverage v (hostExps (hostScores q k)) (ix4 b r h d) = average q k v b h r d := by
  have e : hostAverage v (hostExps (hostScores q k)) (ix4 b r h d)
      = Ideal.div (∑ x : Fin 16384, v (ix3 b x (narrow h d)) * hostExps (hostScores q k) (ix4 b h r x))
          (∑ x : Fin 16384, hostExps (hostScores q k) (ix4 b h r x)) := by
    pointwise [hostAverage]
  have f (x : Fin 16384) : v (ix3 b x (narrow h d)) = value v b h d x.val := by
    rw [value, dif_pos x.isLt]
  rw [e, average, gather, mass, Finset.sum_range, Finset.sum_range]
  simp only [hostExps_value, f, mul_comm (value v b h d _)]

/-- The reference's heads. -/
theorem hostNormed_value (q k : FVec Ideal S2x16384x1024 .bf16) (v : FVec Ideal S2x16384x512 .bf16)
    (g : FVec Ideal S1536 .f32) (b : Fin 2) (r : Fin 16384) (h : Fin 4) (d : Fin 128) :
    hostNormed (hostAverage v (hostExps (hostScores q k))) g (ix4 b r h d) = headAt q k v g b h r d := by
  have e (a : FVec Ideal S2x16384x4x128 .f32) : hostNormed a g (ix4 b r h d)
      = normed (fun e => a (ix4 b r h e)) (fun e => g (ix1 ⟨h.val * 128 + e.val, by omega⟩)) d := by
    pointwise [hostNormed, normed]
  rw [e, headAt]
  simp only [hostAverage_value]

/-- The reference's result is the attention. -/
theorem reference_value (m : (ℓ : Loc nD τ sig) → Buf (Elt Ideal) ℓ) (c : Dev nD) :
    res_main_v46 m c = attention (m ((c.tc : Thread nD τ).loc main_arg0)) (m ((c.tc : Thread nD τ).loc main_arg1))
      (m ((c.tc : Thread nD τ).loc main_arg2)) (m ((c.tc : Thread nD τ).loc main_arg3)) := by
  have e (a : FVec Ideal S2x16384x4x128 .f32) (b : Fin 2) (r : Fin 16384) (y : Fin 512) :
      truncf (F := Ideal) .bf16 (shapeCast _ a shapeCasts_S2x16384x4x128_S2x16384x512) bitsLt_bf16_f32 (ix3 b r y)
        = a (ix4 b r ⟨y.val / 128, by omega⟩ ⟨y.val % 128, by omega⟩) := by
    pointwise []
  rw [reference_term]
  funext j
  idx_vars j
  rw [e, hostNormed_value]
  rfl

/-- The reference keeps its arguments and owns no semaphore. -/
theorem frame_reference : Cert.quiescent_MlaRefIdeal := fun m ρ _ =>
  (θ_run Cert.MlaRefIdeal.defs _ _).mono (fun r h => ⟨fun c => (h c).2, sem_eq_zero_of_no_sems (by decide) r.2⟩)
    (Cert.MlaRefIdeal.Value.run (F := Ideal) m ρ)

end Cert.Proof.Mla

end
-- ==== Proof.Mla.Array.lean ====
/- The attention kernel's result array, and its equality with the reference's. -/
module

public import proofs.«01_k».proof.Defs
public import proofs.«01_k».proof.Proof.Gen.MlaIdeal.Value
public import proofs.«01_k».proof.Proof.Gen.MlaRefIdeal.Run
public import proofs.«01_k».proof.Proof.Mla.Block
public import proofs.«01_k».proof.Proof.Mla.Reads
public import proofs.«01_k».proof.Proof.Mla.Reference
public import Idealize.ShloMosaic.Lib.Pointwise
public import Idealize.ShloMosaic.Lib.Pipeline.ValueKit
public import Idealize.ShloMosaic.Lib.Pipeline.Covers
public import Idealize.ShloMosaic.Lib.Quiescent

@[expose] public section

set_option maxRecDepth 16384

noncomputable section

namespace Cert.Proof.Mla

open Idealize.ShloMosaic Idealize.ShloMosaic.TcCoe Idealize.SL.Sem
open Cert.MlaIdeal Cert.MlaIdeal.Gen Cert.Proof.Softmax
open Idealize.ShloMosaic.Pipeline (Dat)

variable (q k : FVec Ideal S2x16384x1024 .bf16) (v : FVec Ideal S2x16384x512 .bf16) (g : FVec Ideal S1536 .f32)

/-- A query sees no key from the end of its own block on, so the average needs the keys up to there alone. -/
theorem average_of_seen (b : Fin 2) (h : Fin 4) (r : Fin 16384) (d : Fin 128) (n : ℕ) (hr : r.val / 512 = n) :
    average q k v b h r d
      = Ideal.div (gather (score q k b h r) (value v b h d) (n * 512 + 512)) (mass (score q k b h r) (n * 512 + 512)) := by
  have hz : ∀ x, n * 512 + 512 ≤ x → score q k b h r x = ⊥ := fun x hx => by
    unfold score
    split
    · rw [if_neg (by omega)]
    · rfl
  have hl := r.isLt
  obtain ⟨e, he⟩ : ∃ e, 16384 = n * 512 + 512 + e := ⟨16384 - (n * 512 + 512), by omega⟩
  unfold average
  rw [he, gather_tail _ _ _ _ hz, mass_tail _ _ _ hz]

variable (m : (ℓ : Loc nD τ sig) → Buf (Elt Ideal) ℓ) (c : Dev nD) (t : Fin cfg0.N)

/-- What a grid point writes. -/
theorem block_value (b : Fin 2) (h : Fin 4) (R : Fin 16384) (hb : b.val = (grid0.coords t 0).val)
    (hh : h.val = (grid0.coords t 1).val) (r : Fin 512) (hr : R.val = block t * 512 + r.val) (d : Fin 128) (z : Fin 1) :
    outsAt0 m c t (ix3 z r d) = headAt (m ((c : Thread nD τ).loc main_arg0)) (m ((c : Thread nD τ).loc main_arg1))
      (m ((c : Thread nD τ).loc main_arg2)) (m ((c : Thread nD τ).loc main_arg3)) b h R d := by
  have hl := block_lt t
  let s : Fin 512 → ℕ → EReal := fun r => score (m ((c : Thread nD τ).loc main_arg0)) (m ((c : Thread nD τ).loc main_arg1)) b h
    ⟨block t * 512 + r.val, by omega⟩
  let u : Fin 128 → ℕ → EReal := fun d => value (m ((c : Thread nD τ).loc main_arg2)) b h d
  have key : ∀ (r : Fin 512) (x : ℕ) (hx : x < 16384), (∑ d : Fin 256, k0_pay14 (iblk m c 0 t) (ix2 r d)
        * (show FVec Ideal S1x16384x256 .bf16 from iblk m c 1 t) (ix3 0 ⟨x, hx⟩ d))
      = ∑ d : Fin 256, (show FVec Ideal S2x16384x1024 .bf16 from m ((c : Thread nD τ).loc main_arg0))
          (ix3 b ⟨block t * 512 + r.val, by omega⟩ (wide h d))
        * (show FVec Ideal S2x16384x1024 .bf16 from m ((c : Thread nD τ).loc main_arg1)) (ix3 b ⟨x, hx⟩ (wide h d)) := by
    intro r x hx
    refine Finset.sum_congr rfl fun d _ => ?_
    rw [query]
    refine congrArg₂ (fun x y : EReal => x * y)
      (read_queries m c t (ix3 0 r d) (ix3 b ⟨block t * 512 + r.val, by omega⟩ (wide h d)) hb rfl ?_)
      (read_keys m c t (ix3 0 ⟨x, hx⟩ d) (ix3 b ⟨x, hx⟩ (wide h d)) hb rfl ?_)
    · show h.val * 256 + d.val = _; rw [hh]; rfl
    · show h.val * 256 + d.val = _; rw [hh]; rfl
  have hs : Before s t (k0_pay14 (iblk m c 0 t)) (iblk m c 1 t) := fun r x hx hlt => by
    rw [key r x hx]
    show score _ _ _ _ _ _ = _
    unfold score
    rw [dif_pos hx, if_pos (by show x / 64 ≤ (block t * 512 + r.val) / 64; omega)]
  have hd : Diagonal s t (k0_pay14 (iblk m c 0 t)) (iblk m c 1 t) := fun r x hx => by
    rw [key r _ hx]
    show score _ _ _ _ _ _ = _
    unfold score
    rw [dif_pos hx]
  have hu : Values u (iblk m c 2 t) := fun d x hx => by
    show value _ _ _ _ _ = _
    unfold value
    rw [dif_pos hx]
    exact (read_values m c t (ix3 0 ⟨x, hx⟩ d) (ix3 b ⟨x, hx⟩ (narrow h d)) hb rfl
      (by show h.val * 128 + d.val = _; rw [hh]; rfl)).symm
  unfold outsAt0
  rw [written_value c _ _ _ _ _ _ _ _ _ _ _ _ _ _ t s u hs hd hu z r d]
  have hR : R = ⟨block t * 512 + r.val, by omega⟩ := Fin.ext hr
  unfold headAt
  have hav : average (m ((c : Thread nD τ).loc main_arg0)) (m ((c : Thread nD τ).loc main_arg1))
      (m ((c : Thread nD τ).loc main_arg2)) b h R
      = fun e => Ideal.div (gather (s r) (u e) (block t * 512 + 512)) (mass (s r) (block t * 512 + 512)) := by
    funext e
    rw [average_of_seen _ _ _ b h R e (block t) (by omega), hR]
  have hg : (fun e : Fin 128 => (show FVec Ideal S1x1x128 .f32 from iblk m c 3 t) (ix3 0 0 e))
      = fun e => (show FVec Ideal S1536 .f32 from m ((c : Thread nD τ).loc main_arg3)) (ix1 ⟨h.val * 128 + e.val, by omega⟩) :=
    funext fun e => read_gains m c t e (ix1 ⟨h.val * 128 + e.val, by omega⟩)
      (by show h.val * 128 + e.val = _; rw [hh])
  rw [hav]
  exact congrArg (fun g => normed _ g d) hg

/-- The result array after the run. -/
theorem array_value :
    (dats m 0 c).arrAt 4 cfg0.N = attention (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  have y2 : (y 2).val < 128 := (y 2).isLt
  have i0 : ((((cfg0.win 4).blk t).view.emb y 0 : Fin _) : ℕ) = (grid0.coords t 0).val := by
    blk_simp [index_result]
  have i1 : ((((cfg0.win 4).blk t).view.emb y 1 : Fin _) : ℕ) = block t * 512 + (y 1).val := by
    blk_simp [index_result]
  have i2 : ((((cfg0.win 4).blk t).view.emb y 2 : Fin _) : ℕ) = (grid0.coords t 1).val * 128 + (y 2).val := by
    blk_simp [index_result]
  generalize ((cfg0.win 4).blk t).view.emb y = i at i0 i1 i2 ⊢
  blk_simp
  rw [after0_4]
  unfold attention
  have hd : (⟨(i 2).val % 128, Nat.mod_lt _ (by decide)⟩ : Fin 128) = y 2 := Fin.ext (by rw [i2]; show (_ : ℕ) % 128 = _; omega)
  rw [hd]
  have hh := (i 2).isLt
  change (i 2).val < 512 at hh
  refine Eq.trans (congrArg (outsAt0 m c t) (eq_ix3 y)) ?_
  exact block_value m c t (i 0) ⟨(i 2).val / 128, by omega⟩ (i 1) i0 (by show (i 2).val / 128 = _; rw [i2]; omega) (y 1) i1 (y 2) (y 0)

/-- The run of the kernel's program: the result is the attention, the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v1) = attention (m ((c : Thread nD τ).loc main_arg0))
        (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (array_value m c), (h c).2⟩) (Value.run_blocks m ρ)

/-- The kernel's mask is named `-∞`. -/
theorem preserves : Cert.preserves_Mla_MlaIdeal :=
  IdealRules.named_const.statement Cert.MlaIdeal.κ "mask" .f32 0xF149F2CA#32 (⊥ : EReal) rfl

/-- On the extended reals the kernel's program and the reference end with the same result. -/
theorem algebraic : Cert.algebraic_MlaIdeal_MlaRefIdeal := fun m ρ m' ρ' _ hag =>
  ⟨fun c => attention (m ((c : Thread nD τ).loc main_arg0)) (m ((c : Thread nD τ).loc main_arg1))
      (m ((c : Thread nD τ).loc main_arg2)) (m ((c : Thread nD τ).loc main_arg3)),
    run m ρ,
    (θ_run Cert.MlaRefIdeal.defs _ _).mono
      (fun _ h c => ⟨(h c).1.trans (by
        rw [reference_value, (hag c).1, (hag c).2.1, (hag c).2.2.1, (hag c).2.2.2]), (h c).2⟩)
      (Cert.MlaRefIdeal.Value.run (F := Ideal) m' ρ')⟩

end Cert.Proof.Mla

end
-- ==== Proof.Sb.IdealLoop.lean ====
/- The loop of the stick-breaking kernel over its key blocks, from the last one down: what it carries and what it returns. -/
module

public import proofs.«01_k».proof.Proof.Gen.SbIdeal
public import proofs.«01_k».proof.Proof.Gen.SbIdeal.Skeleton
public import Idealize.ShloMosaic.Lib.Pipeline.Kit
public import Idealize.ShloMosaic.Lib.Pipeline.FrameBody
public import Idealize.ShloMosaic.Lib.Tactic
public import Idealize.ShloMosaic.Lib.WholeRead
public import Idealize.ShloMosaic.Lib.Pointwise

@[expose] public section

set_option maxRecDepth 16384

noncomputable section

namespace Cert.Proof.SbIdeal

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the loop carries: each row's logarithm of what is left of its stick, and each row's weighted values. -/
abbrev Carried (F : FTy → Type) : Type := FVec F S256x1 .f32 × FVec F S256x128 .f32

/-- Rows `n * 128` to `n * 128 + 127` of the keys or the values. -/
def rowsOf (x : Vec F S1x16384x128 .bf16) (n : ℕ) : Vec F S1x128x128 .bf16 := fun i =>
  x (ix3 0 ⟨(n % 128) * 128 + (i 1).val, by have h : (i 1).val < 128 := (i 1).isLt; have := Nat.mod_lt n (show 0 < 128 by decide); omega⟩ (i 2))

/-- One trip, at key block `n`. -/
def step (q : FVec F S256x128 .bf16) (rows : IVec S256x1 32) (tri : FVec F S128x128 .bf16) (x1 x2 : Vec F S1x16384x128 .bf16)
    (n : ℕ) (s : Carried F) : Carried F :=
  (k0_pay4 s.1 (k0_pay13 q rows tri (BitVec.ofNat 32 n) (rowsOf x1 n)),
   k0_pay3 s.2 (k0_pay10 (rowsOf x2 n)) (k0_pay12 rows (BitVec.ofNat 32 n))
     (k0_pay14 q rows tri (BitVec.ofNat 32 n) s.1 (rowsOf x1 n)) (Named.named κ "mask" 0xF149F2CA#32))

/-- Whether some row has more left of its stick than the kernel cares about. -/
def More (s : Carried F) : Prop := Scalar.cmpf .ogt (k0_pay2 s.1) (Named.named κ "logzero" 0xC2D00000#32 : F .f32) = 1#1

instance (s : Carried F) : Decidable (More s) := by unfold More; infer_instance

/-- The trips at key blocks `n - 1` down to 0, as long as some stick is left. -/
def sweep (q : FVec F S256x128 .bf16) (rows : IVec S256x1 32) (tri : FVec F S128x128 .bf16) (x1 x2 : Vec F S1x16384x128 .bf16) :
    ℕ → Carried F → Carried F
  | 0, s => s
  | n + 1, s => if More s then sweep q rows tri x1 x2 n (step q rows tri x1 x2 n s) else s

/-- The word of the block before block `n`. -/
def wordBefore (n : ℕ) : BitVec 32 := Scalar.subi (BitVec.ofNat 32 n) 1#32

theorem wordBefore_succ : ∀ n : Fin 128, wordBefore (n.val + 1) = BitVec.ofNat 32 n.val := by decide +kernel

theorem sge_word : ∀ n : Fin 128, Scalar.cmpi .sge (BitVec.ofNat 32 n.val) 0#32 = 1#1 := by decide +kernel

theorem sge_before_zero : Scalar.cmpi .sge (wordBefore 0) 0#32 = 0#1 := by decide +kernel

theorem checked : ∀ n : Fin 128, k0_chk1 (BitVec.ofNat 32 n.val) := by decide +kernel

theorem offset : ∀ n : Fin 128, k0_off1 (BitVec.ofNat 32 n.val) = ![0, n.val * 128, 0] := by decide +kernel

theorem and_one (a : BitVec 1) : Scalar.andi 1#1 a = a := by revert a; decide
theorem zero_and (a : BitVec 1) : Scalar.andi 0#1 a = 0#1 := by revert a; decide

/-- What a trip loads of the keys or the values. -/
theorem load_rows (arg : Memref sig .tc .vmem S1x16384x128 .bf16) (harg : arg.IsWhole) (x : Vec F S1x16384x128 .bf16) (n : Fin 128)
    (h : k0_chk1 (BitVec.ofNat 32 n.val)) :
    arg.view.readAt (Elt F) (Rect.unit (s := S1x16384x128) (k0_off1 (BitVec.ofNat 32 n.val)) S1x128x128.size
      (k0_off1_inb _ h)).toLoadRect (harg.unread x) = rowsOf x n.val := by
  funext i
  refine (harg.readAt_unread x _ i).trans ?_
  unfold rowsOf
  have h0 : (i 0).val < 1 := (i 0).isLt
  refine congrArg x (funext fun a => Fin.ext ?_)
  fin_cases a
  · simp [Rect.unit, offset n, Rect.toLoadRect]; first | omega | exact Nat.lt_one_iff.mp h0 | exact Fin.ext (by omega)
  · simp [Rect.unit, offset n, Rect.toLoadRect, Nat.mod_eq_of_lt n.isLt]
  · simp [Rect.unit, offset n, Rect.toLoadRect]

section Label

variable (c : Dev nD) (i : grid0.Coords) (arg4 : Memref sig .tc .vmem S1x16384x128 .bf16) (harg4 : arg4.IsWhole)
  (arg5 : Memref sig .tc .vmem S1x16384x128 .bf16) (harg5 : arg5.IsWhole) (q : FVec F S256x128 .bf16) (rows : IVec S256x1 32)
  (tri : FVec F S128x128 .bf16) (x1 x2 : Vec F S1x16384x128 .bf16)

/-- The keys and the values the loop reads. -/
def held : sProp 𝕄 :=
  iprop((arg4.view.loc (c : Thread nD τ) ↦[arg4.view.set]{fullShare} (harg4.unread x1))
    ∗ (arg5.view.loc (c : Thread nD τ) ↦[arg5.view.set]{fullShare} (harg5.unread x2)))

/-- The loop from block `n` down, started at `s`: it keeps the keys and the values and returns what the trips carry. -/
def spec (n : ℕ) (s : Carried F) : sWPT 𝕄 (BitVec 32 × FVec F S256x1 .f32 × FVec F S256x128 .f32) := do
  sWPT.consume (held c arg4 harg4 arg5 harg5 x1 x2)
  let r ← sWPT.arbitrary
  sWPT.assume (r.2 = sweep q rows tri x1 x2 n s)
  sWPT.produce (held c arg4 harg4 arg5 harg5 x1 x2)
  pure r

theorem spec_apply (n : ℕ) (s : Carried F) (K : BitVec 32 × FVec F S256x1 .f32 × FVec F S256x128 .f32 → sProp 𝕄) :
    spec c arg4 harg4 arg5 harg5 q rows tri x1 x2 n s K
      = iprop(held c arg4 harg4 arg5 harg5 x1 x2 ∗ ∀ r : BitVec 32 × FVec F S256x1 .f32 × FVec F S256x128 .f32,
          ⌜r.2 = sweep q rows tri x1 x2 n s⌝ -∗ (held c arg4 harg4 arg5 harg5 x1 x2 -∗ K r)) := rfl

/-- The loop meets that, by induction on the blocks to go. -/
theorem spec_le (E : Set ℕ) :
    ∀ n, n ≤ 128 → ∀ (s : Carried F) K, spec c arg4 harg4 arg5 harg5 q rows tri x1 x2 n s K
      ⊢ wp frame (wpE (defs₀ (F := F)) Variants.nat (c : Thread nD τ) (some n)) E
          (defs₀ (F := F) .tc 1 ⟨i, arg4, harg4, arg5, harg5, q, rows, tri, wordBefore n, s.1, s.2⟩) K := by
  intro n
  induction n with
  | zero =>
    intro _ s K
    rw [spec_apply]
    show _ ⊢ wp frame (wpE (defs₀ (F := F)) Variants.nat (c : Thread nD τ) (some 0)) E
      (cc0_while1 i arg4 harg4 arg5 harg5 q rows tri (wordBefore 0) s.1 s.2) K
    simp only [cc0_while1_eq_skeleton]; unfold cc0_while1_skel
    have htest : ¬((0#1 : BitVec 1) = 1#1) := by decide
    simp only [sge_before_zero, zero_and, htest, ↓reduceIte, Prog.pure_eq_ret]
    iintro ⟨H, Hk⟩
    rw [wp_ret]; imodintro
    iapply Hk
    · ipureintro; rfl
    · iexact H
  | succ n ih =>
    intro hn s K
    rw [spec_apply]
    show _ ⊢ wp frame (wpE (defs₀ (F := F)) Variants.nat (c : Thread nD τ) (some (n + 1))) E
      (cc0_while1 i arg4 harg4 arg5 harg5 q rows tri (wordBefore (n + 1)) s.1 s.2) K
    simp only [cc0_while1_eq_skeleton]; unfold cc0_while1_skel
    rw [wordBefore_succ ⟨n, hn⟩]
    simp only [sge_word ⟨n, hn⟩, and_one]
    by_cases hm : More s
    · rw [show sweep q rows tri x1 x2 (n + 1) s = sweep q rows tri x1 x2 n (step q rows tri x1 x2 n s) from if_pos hm]
      rw [if_pos (show Scalar.cmpf .ogt (k0_pay2 s.1) (Named.named κ "logzero" 0xC2D00000#32 : F .f32) = 1#1 from hm)]
      simp only [k0_part2_eq_skeleton]; unfold k0_part2_skel
      simp only [Prog.lift, Prog.bind_op, Prog.bind_ret, Prog.pure_eq_ret]
      unfold held
      iintro ⟨⟨Hx, Hv⟩, Hk⟩
      iapply (wp_assume Variants.nat (c : Thread nD τ) (some (n + 1)) E (checked ⟨n, hn⟩))
      iapply (wp_load Variants.nat (c : Thread nD τ) (some (n + 1)) E (m := arg4) (View.setOn_subset_set _ _)) $$ Hx; iintro Hx
      iapply (wp_load Variants.nat (c : Thread nD τ) (some (n + 1)) E (m := arg5) (View.setOn_subset_set _ _)) $$ Hv; iintro Hv
      rw [load_rows arg4 harg4 x1 ⟨n, hn⟩ (checked ⟨n, hn⟩), load_rows arg5 harg5 x2 ⟨n, hn⟩ (checked ⟨n, hn⟩)]
      iapply (wp_call_spec Variants.nat (c : Thread nD τ) (some (n + 1)) E
        (spec c arg4 harg4 arg5 harg5 q rows tri x1 x2 n (step q rows tri x1 x2 n s)) n
        (fun u hu => by cases hu; exact Nat.lt_succ_self n) (ih (by omega) (step q rows tri x1 x2 n s)))
      rw [spec_apply]; unfold held
      isplitl [Hx Hv]
      · isplitl [Hx]; · iexact Hx
        iexact Hv
      iintro %r %hr ⟨Hx, Hv⟩
      rw [wp_ret]; imodintro
      iapply Hk
      · ipureintro; exact hr
      · isplitl [Hx]; · iexact Hx
        iexact Hv
    · rw [show sweep q rows tri x1 x2 (n + 1) s = s from if_neg hm]
      rw [if_neg (show ¬(Scalar.cmpf .ogt (k0_pay2 s.1) (Named.named κ "logzero" 0xC2D00000#32 : F .f32) = 1#1) from hm)]
      simp only [Prog.pure_eq_ret]
      iintro ⟨H, Hk⟩
      rw [wp_ret]; imodintro
      iapply Hk
      · ipureintro; rfl
      · iexact H

end Label

end Cert.Proof.SbIdeal

end
-- ==== Proof.Sb.IdealFrame.lean ====
/- The frame of the stick-breaking kernel (SbIdeal): what its body leaves in the result's buffer, the launch, and the argument
   arrays unchanged. -/
module

public import proofs.«01_k».proof.Proof.Gen.SbIdeal.Launch
public import proofs.«01_k».proof.Proof.Gen.SbIdeal.Points
public import proofs.«01_k».proof.Proof.Sb.IdealLoop
public import Idealize.ShloMosaic.Lib.Ring
public import Idealize.ShloMosaic.Lib.WordCmp
public import Idealize.ShloMosaic.Lib.Claim

@[expose] public section

set_option maxRecDepth 16384

noncomputable section

namespace Cert.Proof.SbIdeal

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host operation before the launch -/

/-- The buffers as the launch finds them. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is that host operation and the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The launch finds the projected rows as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))

/-- The launch finds the gains as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))

/-! ## The windows' blocks and staging buffers -/

/-- The block of window `w` at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The staging buffers at point `t`. -/
abbrev ms0_0 (t : Fin (cfg0 (F := F)).N) : Memref sig .tc .vmem S1x256x128 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S1x16384x128 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S1x16384x128 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S1x1x128 .f32 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S1x256x128 .bf16 := win0_4.stage ((cfg0 (F := F)).slots t 4)
abbrev hs0_4 (t : Fin (cfg0 (F := F)).N) : (ms0_4 t).IsWhole := hstage0_4 (((cfg0 (F := F)).slots t 4).cast nbuf0_4)

/-! ## What the body leaves -/

/-- The number of key blocks the rows of point `i` may look at. -/
def blocks (i : grid0.Coords) : ℕ := 2 * (i 2).val + 2

theorem blocks_le (i : grid0.Coords) : blocks i ≤ 128 := by have h : (i 2).val < 64 := (i 2).isLt; unfold blocks; omega

/-- The result's block from the query rows, the keys, the values and the gains. -/
def outBlock (i : grid0.Coords) (x0 : Vec F S1x256x128 .bf16) (x1 x2 : Vec F S1x16384x128 .bf16) (x3 : Vec F S1x1x128 .f32) :
    Vec F S1x256x128 .bf16 :=
  k0_pay1 (sweep (k0_pay5 x0) (k0_pay6 i) k0_pay7 x1 x2 (blocks i) (k0_pay8, k0_pay9)).2 x3

/-- The launch's data: the arrays as found, and what each staging buffer holds after the body. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t
    = outBlock (grid0.coords t) (iblk m c 0 t) (iblk m c 1 t) (iblk m c 2 t) (iblk m c 3 t) := rfl

/-- Each input's staging buffer holds its block before the body. -/
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- The word the body starts the loop at: the block before block `blocks i`. -/
theorem start_word : ∀ n : Fin 64,
    (let v10 : BitVec 32 := Scalar.subi (Scalar.addi 0#32 (Scalar.muli (Scalar.addi (BitVec.ofNat 32 n.val) 1#32) 256#32)) 2#32
     Scalar.select (Scalar.andi
        (Scalar.cmpi .ne (Scalar.subi (Scalar.extui (Scalar.cmpi .sgt v10 0#32)) (Scalar.extui (Scalar.cmpi .slt v10 0#32)))
          (Scalar.subi (Scalar.extui (Scalar.cmpi .sgt 128#32 0#32)) (Scalar.extui (Scalar.cmpi .slt 128#32 0#32) : BitVec 32)))
        (Scalar.cmpi .ne (Scalar.remsi v10 128#32) 0#32))
      (Scalar.subi (Scalar.divsi v10 128#32) 1#32) (Scalar.divsi v10 128#32)) = wordBefore (2 * n.val + 2) := by decide +kernel

theorem start_word_at (i : grid0.Coords) :
    (let v10 : BitVec 32 := Scalar.subi (Scalar.addi 0#32 (Scalar.muli (Scalar.addi (BitVec.ofNat 32 (i 2).val) 1#32) 256#32)) 2#32
     Scalar.select (Scalar.andi
        (Scalar.cmpi .ne (Scalar.subi (Scalar.extui (Scalar.cmpi .sgt v10 0#32)) (Scalar.extui (Scalar.cmpi .slt v10 0#32)))
          (Scalar.subi (Scalar.extui (Scalar.cmpi .sgt 128#32 0#32)) (Scalar.extui (Scalar.cmpi .slt 128#32 0#32) : BitVec 32)))
        (Scalar.cmpi .ne (Scalar.remsi v10 128#32) 0#32))
      (Scalar.subi (Scalar.divsi v10 128#32) 1#32) (Scalar.divsi v10 128#32)) = wordBefore (blocks i) :=
  start_word ⟨(i 2).val, (i 2).isLt⟩

/-- A load of a whole buffer reads its contents. -/
theorem load_whole {s : Shape} {e : EltTy} (arg : Memref sig .tc .vmem s e) (harg : arg.IsWhole) (x : Vec F s e)
    (off : Fin s.rank → ℕ) (ho : ∀ a, off a = 0) (inb : ∀ a, off a + s.size a ≤ s.size a) :
    arg.view.readAt (Elt F) (Rect.unit (s := s) off s.size inb).toLoadRect (harg.unread x) = x := by
  funext i
  refine (harg.readAt_unread x _ i).trans ?_
  refine congrArg x (funext fun a => Fin.ext ?_)
  simp [Rect.unit, Rect.toLoadRect, ho a]

/-- After a store over a whole buffer, it holds what was stored. -/
theorem read_store {s : Shape} {e : EltTy} (arg : Memref sig .tc .vmem s e) (x : Vec F s e) (f : arg.view.ty.Contents (Elt F))
    (off : Fin s.rank → ℕ) (ho : ∀ a, off a = 0) (inb : ∀ a, off a + s.size a ≤ s.size a) :
    arg.view.read (Elt F) ((arg.access (Rect.unit (s := s) off s.size inb)).write (Elt F) f x Finset.univ) = x := by
  funext y
  have hy : (Rect.unit (s := s) off s.size inb).emb y = y := by
    refine funext fun a => Fin.ext ?_
    simp [Rect.unit, Rect.emb, ho a]
  have h := View.read_writes_cons_emb (Val := Elt F) arg.view f (Rect.unit (s := s) off s.size inb) x [] y
  rw [hy] at h
  exact h

theorem zeros3 : ∀ a : Fin 3, (![0, 0, 0] : Fin 3 → ℕ) a = 0 := by decide

/-! ## The body's triple -/

/-- What the body is called with, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body on any contents: it keeps its inputs and leaves `outBlock` of them. -/
theorem body_le (c : Dev nD) (t : Fin (cfg0 (F := F)).N) (X0 : Vec F S1x256x128 .bf16) (X1 X2 : Vec F S1x16384x128 .bf16)
    (X3 : Vec F S1x1x128 .f32) (X4 : Vec F S1x256x128 .bf16) (K : PUnit → sProp 𝕄) :
    iprop(owns (c : Thread nD τ) (ms0_0 t) fullShare X0 ∗ owns (c : Thread nD τ) (ms0_1 t) fullShare X1
        ∗ owns (c : Thread nD τ) (ms0_2 t) fullShare X2 ∗ owns (c : Thread nD τ) (ms0_3 t) fullShare X3
        ∗ owns (c : Thread nD τ) (ms0_4 t) fullShare X4
        ∗ ((owns (c : Thread nD τ) (ms0_0 t) fullShare X0 ∗ owns (c : Thread nD τ) (ms0_1 t) fullShare X1
        ∗ owns (c : Thread nD τ) (ms0_2 t) fullShare X2 ∗ owns (c : Thread nD τ) (ms0_3 t) fullShare X3
        ∗ owns (c : Thread nD τ) (ms0_4 t) fullShare (outBlock (grid0.coords t) X0 X1 X2 X3)) -∗ K ⟨⟩))
      ⊢ wp frame (wpE (defs₀ (F := F)) Variants.nat c none) Set.univ (bodyAt0 t) K := by
  unfold bodyAt0
  simp only [cc0_sb_attention_eq_skeleton]; unfold cc0_sb_attention_skel
  simp only [k0_part1_eq_skeleton]; unfold k0_part1_skel
  simp only [Prog.lift, Prog.bind_op, Prog.bind_ret, Prog.pure_eq_ret]
  rw [start_word_at (grid0.coords t)]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := (hs0_0 t).eq_unread hf0
  obtain rfl := (hs0_1 t).eq_unread hf1
  obtain rfl := (hs0_2 t).eq_unread hf2
  obtain rfl := (hs0_3 t).eq_unread hf3
  iapply (wp_load Variants.nat (c : Thread nD τ) none Set.univ (m := ms0_0 t) (View.setOn_subset_set _ _)) $$ H0; iintro H0
  rw [load_whole (ms0_0 t) (hs0_0 t) X0 _ zeros3]
  iapply (wp_call_spec Variants.nat (c : Thread nD τ) none Set.univ
    (spec c (ms0_1 t) (hs0_1 t) (ms0_2 t) (hs0_2 t) (k0_pay5 X0) (k0_pay6 (grid0.coords t)) k0_pay7 X1 X2 (blocks (grid0.coords t)) (k0_pay8, k0_pay9))
    (blocks (grid0.coords t)) (fun u hu => nomatch hu)
    (spec_le c (grid0.coords t) (ms0_1 t) (hs0_1 t) (ms0_2 t) (hs0_2 t) (k0_pay5 X0) (k0_pay6 (grid0.coords t)) k0_pay7 X1 X2 Set.univ
      (blocks (grid0.coords t)) (blocks_le _) (k0_pay8, k0_pay9)))
  rw [spec_apply]; unfold held
  isplitl [H1 H2]
  · isplitl [H1]; · iexact H1
    iexact H2
  iintro %r %hr ⟨H1, H2⟩
  iapply (wp_load Variants.nat (c : Thread nD τ) none Set.univ (m := ms0_3 t) (View.setOn_subset_set _ _)) $$ H3; iintro H3
  iapply (wp_load Variants.nat (c : Thread nD τ) none Set.univ (m := ms0_4 t) (View.setOn_subset_set _ _)) $$ H4; iintro H4
  iapply (wp_store Variants.nat (c : Thread nD τ) none Set.univ (m := ms0_4 t)
    (r := Rect.unit (s := S1x256x128) ![0, 0, 0] S1x256x128.size inb_S1x256x128_S1x256x128_0_0_0) (Mk := Finset.univ)
    (S := (ms0_4 t).view.set) (f := f4) (View.setOn_slice_subset_set _ _ _)) $$ H4; iintro H4
  rw [load_whole (ms0_3 t) (hs0_3 t) X3 _ zeros3]
  rw [wp_ret]; imodintro
  iapply Hk
  isplitl [H0]
  · iexists _; isplitr; swap; · iexact H0
    ipureintro; exact (hs0_0 t).read_unread _
  isplitl [H1]
  · iexists _; isplitr; swap; · iexact H1
    ipureintro; exact (hs0_1 t).read_unread _
  isplitl [H2]
  · iexists _; isplitr; swap; · iexact H2
    ipureintro; exact (hs0_2 t).read_unread _
  isplitl [H3]
  · iexists _; isplitr; swap; · iexact H3
    ipureintro; exact (hs0_3 t).read_unread _
  iexists _; isplitr; swap; · iexact H4
  ipureintro
  refine (read_store (ms0_4 t) _ _ _ zeros3 _).trans ?_
  exact congrArg (fun p : Carried F => k0_pay1 p.2 X3) hr

/-- The body keeps its inputs and leaves `outBlock` of them. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (body_le c t (iblk m c 0 t) (iblk m c 1 t) (iblk m c 2 t) (iblk m c 3 t) ((dats m 0 c).before 4 t d4) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body the launch calls is that one. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The launch and the frame -/

set_option backward.isDefEq.respectTransparency.types false in
/-- Every execution ends, with each array of the launch at what the launch's data say, every other buffer as found, and
    every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.nat m ρ main
    (hbody := fun c => (body_obligation m c).loose) (hq := fun c w _ => rfl)
    (howed := fun _ _ => rfl) (V := V m) (hmain := hmain m Variants.nat) (hA := A_eq m) (hΦ := fun _ _ => rfl)

/-- Every execution ends with the arguments as given and the result's array at what the launch's data say. -/
theorem run_blocks : θ_run defs (onTc (τ := τ) (main (F := F))) ⟨m, fun _ => 0, ρ⟩ (fun r => ∀ c : Dev nD,
      r.2.mem ((c.tc : Thread nD τ).loc main_v1) = (dats m 0 c).arrAt 4 (cfg0 (F := F)).N) :=
  (θ_run defs _ _).mono (fun _ h c => (h.1 c).1 4) (run_main_quiescent m ρ)

/-- The frame: every execution ends, the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (show ∀ w : Fin 5, (spec0 w).arr.view.ref ≠ main_arg1 by decide))).trans (V_main_arg1 m c)⟩, h.2⟩) (run_main_quiescent m ρ)

end Cert.Proof.SbIdeal

end
-- ==== Proof.Sb.Consts.lean ====
/- The names of the stick-breaking kernel's two constants, and what they stand for. -/
module

public import proofs.«01_k».proof.Defs
public import Idealize.ShloMosaic.PureOps.Ideal

@[expose] public section

noncomputable section

namespace Cert.Proof.SbIdeal

open Idealize.ShloMosaic

/-- The pattern a maximum starts from denotes `-∞`. -/
theorem ofBits_neg_inf : Ideal.ofBits .f32 0xFF800000#32 = ⊥ := by
  simp [Ideal.ofBits, Ideal.ieee]

/-- The kernel's mask denotes `-∞` under its name. -/
theorem mask : Named.named (F := Ideal) Cert.SbIdeal.κ "mask" (φ := .f32) 0xF149F2CA#32 = (⊥ : EReal) :=
  IdealRules.named_const.ideal_named_scalar _ _ _ _ rfl

/-- The logarithm below which the kernel takes a stick to be used up denotes `-∞` under its name. -/
theorem logzero : Named.named (F := Ideal) Cert.SbIdeal.κ "logzero" (φ := .f32) 0xC2D00000#32 = (⊥ : EReal) :=
  IdealRules.named_const.ideal_named_scalar _ _ _ _ rfl

end Cert.Proof.SbIdeal

end
-- ==== Proof.Sb.Spec.lean ====
/- Stick breaking as a function of one query row and of the key and value rows: scores, what each key leaves of the stick,
   weights, and the weighted values; and the laws of the sums from a key on. -/
module

public import Idealize.ShloMosaic.PureOps.Ideal

@[expose] public section

noncomputable section

namespace Cert.Proof.Stick

open Idealize.ShloMosaic

/-- The sum of the terms from key `n` on, of 16384 keys. -/
def tail (f : ℕ → EReal) (n : ℕ) : EReal := ∑ x ∈ Finset.Ico n 16384, f x

/-- The logarithm of what a key of score `z` leaves of the stick. -/
def logKeep (z : EReal) : EReal := 0 - (max z 0 + Ideal.log1p (Ideal.exp (0 - max z (-z))))

variable (q : Fin 128 → EReal) (k v : ℕ → Fin 128 → EReal) (r : ℕ)

/-- The score of key `x`. -/
def score (x : ℕ) : EReal := (∑ d : Fin 128, q d * k x d) * Ideal.ofBits .f32 0x3DB504F3#32

/-- What key `x` leaves of the stick of query `r`, in logarithms: nothing is taken by keys that aren't before the query. -/
def keep (x : ℕ) : EReal := if x < r then logKeep (score q k x) else 0

/-- The logarithm of the stick left by keys `n` on. -/
def left (n : ℕ) : EReal := tail (keep q k r) n

/-- The weight of key `x`. -/
def weight (x : ℕ) : EReal := if x < r then Ideal.exp (score q k x + left q k r x) else 0

/-- The weighted values of the keys from `n` on, at entry `d`. -/
def gathered (d : Fin 128) (n : ℕ) : EReal := tail (fun x => weight q k r x * v x d) n

/-! ## Sums from a key on -/

/-- A tail that starts inside a block of 128 keys: the block's terms from there, then the tail after the block. -/
theorem tail_within (f : ℕ → EReal) (n : ℕ) (hn : n < 128) (s : Fin 128) :
    tail f (n * 128 + s.val) = (∑ j : Fin 128, if s.val ≤ j.val then f (n * 128 + j.val) else 0) + tail f ((n + 1) * 128) := by
  unfold tail
  rw [← Finset.sum_Ico_consecutive f (show n * 128 + s.val ≤ (n + 1) * 128 by omega) (show (n + 1) * 128 ≤ 16384 by omega)]
  congr 1
  rw [Fin.sum_univ_eq_sum_range (fun j => if s.val ≤ j then f (n * 128 + j) else 0) 128, ← Finset.sum_filter]
  have e : (Finset.range 128).filter (fun j => s.val ≤ j) = Finset.Ico s.val 128 := by
    ext j; simp only [Finset.mem_filter, Finset.mem_range, Finset.mem_Ico]; omega
  rw [e]
  have h := Finset.sum_Ico_add f s.val 128 (n * 128)
  rw [h]
  congr 1
  congr 1 <;> omega

/-- A tail that starts at a block: the block's terms, then the tail after the block. -/
theorem tail_block (f : ℕ → EReal) (n : ℕ) (hn : n < 128) :
    tail f (n * 128) = (∑ j : Fin 128, f (n * 128 + j.val)) + tail f ((n + 1) * 128) := by
  have h := tail_within f n hn 0
  simpa using h

/-- A tail of zeros. -/
theorem tail_zero (f : ℕ → EReal) (n : ℕ) (h : ∀ x, n ≤ x → f x = 0) : tail f n = 0 :=
  Finset.sum_eq_zero fun x hx => h x (Finset.mem_Ico.mp hx).1

/-- A tail that starts earlier: the terms before, then the tail. -/
theorem tail_split (f : ℕ → EReal) (a n : ℕ) (h : a ≤ n) (hn : n ≤ 16384) :
    tail f a = (∑ x ∈ Finset.Ico a n, f x) + tail f n := by
  unfold tail
  rw [Finset.sum_Ico_consecutive f h hn]

/-- The tail as a sum over offsets from its start. -/
theorem sum_offsets (f : ℕ → EReal) (x : ℕ) :
    (∑ w : Fin 16384, if x + w.val < 16384 then f (x + w.val) else 0) = tail f x := by
  rw [Fin.sum_univ_eq_sum_range (fun w => if x + w < 16384 then f (x + w) else 0) 16384, ← Finset.sum_filter]
  have e : (Finset.range 16384).filter (fun w => x + w < 16384) = Finset.Ico 0 (16384 - x) := by
    ext j; simp only [Finset.mem_filter, Finset.mem_range, Finset.mem_Ico]; omega
  rw [e, Finset.sum_Ico_add f 0 (16384 - x) x]
  unfold tail
  by_cases hx : x ≤ 16384
  · congr 2 <;> omega
  · rw [Finset.Ico_eq_empty (by omega), Finset.Ico_eq_empty (by omega)]

/-! ## Extended reals -/

theorem exp_nonneg (x : EReal) : 0 ≤ Ideal.exp x := by
  induction x with
  | bot => simp
  | top => simp
  | coe r => rw [Ideal.exp_coe]; exact_mod_cast (Real.exp_pos r).le

theorem log1p_nonneg (x : EReal) (h : 0 ≤ x) : 0 ≤ Ideal.log1p x := by
  unfold Ideal.log1p
  induction x with
  | bot => simp at h
  | top => rw [EReal.add_top_of_ne_bot (show (1 : EReal) ≠ ⊥ from EReal.coe_ne_bot 1)]; simp
  | coe r =>
    have hr : 0 ≤ r := by exact_mod_cast h
    rw [← EReal.coe_one, ← EReal.coe_add, Ideal.log_coe, if_neg (by linarith)]
    exact_mod_cast Real.log_nonneg (by linarith)

/-- What is left of a stick is never more than the stick. -/
theorem logKeep_ne_top (z : EReal) : logKeep z ≠ ⊤ := by
  have h : 0 ≤ max z 0 + Ideal.log1p (Ideal.exp (0 - max z (-z))) :=
    add_nonneg (le_max_right _ _) (log1p_nonneg _ (exp_nonneg _))
  unfold logKeep
  generalize max z 0 + Ideal.log1p (Ideal.exp (0 - max z (-z))) = y at h
  induction y with
  | bot => simp at h
  | top => simp
  | coe r => rw [← EReal.coe_zero, ← EReal.coe_sub]; exact EReal.coe_ne_top _

theorem keep_ne_top (x : ℕ) : keep q k r x ≠ ⊤ := by
  unfold keep
  split_ifs
  · exact logKeep_ne_top _
  · exact EReal.zero_ne_top

/-- A value, what rounding it left over and what rounding that left over, each times 0 or 1, add up to the value times that:
    the leftovers are 0 for a finite value and `-∞` for `-∞`. -/
theorem parts_mul (x t : EReal) (hx : x ≠ ⊤) (ht : t = 0 ∨ t = 1) :
    x * t + (x - x) * t + ((x - x) - (x - x)) * t = x * t := by
  rcases ht with rfl | rfl
  · simp
  · induction x with
    | bot => simp
    | top => exact absurd rfl hx
    | coe a => simp [← EReal.coe_sub]

/-- A stick with nothing left after key `n` has nothing left before. -/
theorem left_bot (a n : ℕ) (h : a ≤ n) (hn : n ≤ 16384) (hb : left q k r n = ⊥) : left q k r a = ⊥ := by
  unfold left at *
  rw [tail_split _ a n h hn, hb, EReal.add_bot]

/-- A key for which nothing is left has no weight. -/
theorem weight_zero (x : ℕ) (h : left q k r x = ⊥) : weight q k r x = 0 := by
  unfold weight
  rw [h, EReal.add_bot, Ideal.exp_bot]
  split_ifs <;> rfl

/-- Once nothing is left, the remaining keys add nothing. -/
theorem gathered_of_left_bot (d : Fin 128) (n : ℕ) (hn : n ≤ 16384) (h : left q k r n = ⊥) :
    gathered q k v r d 0 = gathered q k v r d n := by
  unfold gathered
  rw [tail_split _ 0 n (Nat.zero_le n) hn, Finset.sum_eq_zero, zero_add]
  intro x hx
  rw [weight_zero q k r x (left_bot q k r x n (Finset.mem_Ico.mp hx).2.le hn h), zero_mul]

/-- Keys that aren't before the query leave the whole stick and have no weight. -/
theorem left_zero (n : ℕ) (h : r ≤ n) : left q k r n = 0 :=
  tail_zero _ _ fun x hx => if_neg (by omega)

theorem gathered_zero (d : Fin 128) (n : ℕ) (h : r ≤ n) : gathered q k v r d n = 0 :=
  tail_zero _ _ fun x hx => by
    show weight q k r x * v x d = 0
    rw [weight, if_neg (by omega), zero_mul]

/-- A block's weights come from the tail within the block and the tail after it. -/
theorem left_within (n : ℕ) (hn : n < 128) (s : Fin 128) :
    left q k r (n * 128 + s.val)
      = (∑ j : Fin 128, keep q k r (n * 128 + j.val) * (if s.val ≤ j.val then 1 else 0)) + left q k r ((n + 1) * 128) := by
  unfold left
  rw [tail_within _ n hn s]
  congr 1
  refine Finset.sum_congr rfl fun j _ => ?_
  split_ifs <;> simp

end Cert.Proof.Stick

end
-- ==== Proof.Sb.Block.lean ====
/- What one trip of the stick-breaking kernel computes, entry by entry. -/
module

public import proofs.«01_k».proof.Defs
public import proofs.«01_k».proof.Proof.Sb.Consts
public import proofs.«01_k».proof.Proof.Sb.Spec
public import proofs.«01_k».proof.Proof.Sb.IdealLoop
public import proofs.«01_k».proof.Proof.Mla.Spec
public import Idealize.ShloMosaic.Lib.Pointwise
public import Idealize.ShloMosaic.Lib.WordCmp

@[expose] public section

set_option maxRecDepth 16384

noncomputable section

namespace Cert.Proof.SbIdeal

open Idealize.ShloMosaic Idealize.ShloMosaic.TcCoe Idealize.SL.Sem
open Cert.SbIdeal Cert.SbIdeal.Gen Cert.Proof.Stick
open Idealize.ShloMosaic.WordCmp (cmpi_slt_ofNat cmpi_sge_ofNat)

variable (q : FVec Ideal S256x128 .bf16) (kb vb : Vec Ideal S1x128x128 .bf16) (tri : FVec Ideal S128x128 .bf16)
  (rows : IVec S256x1 32) (w : BitVec 32) (p : Fin 256) (s : Fin 128)

/-- The scores of a block. -/
theorem scores_value : k0_pay11 q kb (ix2 p s)
    = (∑ d : Fin 128, q (ix2 p d) * (show FVec Ideal S1x128x128 .bf16 from kb) (ix3 0 s d)) * Ideal.ofBits .f32 0x3DB504F3#32 := by
  pointwise [k0_pay11]

/-- What each key of a block leaves of the stick, from the scores and the mask. -/
def kept (z : FVec Ideal S256x128 .f32) (m : IVec S256x128 1) : FVec Ideal S256x128 .f32 :=
  select m (subf (broadcast S256x128 (Scalar.ofBits .f32 0x00000000#32))
      (addf (maximumf z (broadcast S256x128 (Scalar.ofBits .f32 0x00000000#32)))
        (log1p (exp (subf (broadcast S256x128 (Scalar.ofBits .f32 0x00000000#32)) (absf z))))))
    (broadcast S256x128 (Scalar.ofBits .f32 0x00000000#32))

/-- The sums within a block, from each key on: the parts of `kept` in turn by the triangle. -/
def within (l : FVec Ideal S256x128 .f32) : FVec Ideal S256x128 .f32 :=
  addf (addf
      (matmul dot_S256x128_S128x128_S256x128_1_0_0_1_n_n none (truncf .bf16 l bitsLt_bf16_f32) tri
        (constant S256x128 .f32 0x00000000#32))
      (matmul dot_S256x128_S128x128_S256x128_1_0_0_1_n_n none
        (truncf .bf16 (subf l (extf .f32 (truncf .bf16 l bitsLt_bf16_f32) bitsLt_bf16_f32)) bitsLt_bf16_f32) tri
        (constant S256x128 .f32 0x00000000#32)))
    (matmul dot_S256x128_S128x128_S256x128_1_0_0_1_n_n none
      (truncf .bf16 (subf (subf l (extf .f32 (truncf .bf16 l bitsLt_bf16_f32) bitsLt_bf16_f32))
        (extf .f32 (truncf .bf16 (subf l (extf .f32 (truncf .bf16 l bitsLt_bf16_f32) bitsLt_bf16_f32)) bitsLt_bf16_f32)
          bitsLt_bf16_f32)) bitsLt_bf16_f32) tri
      (constant S256x128 .f32 0x00000000#32))

/-- The kernel's sums within a block are those. -/
theorem within_term : k0_pay13 q rows tri w kb = within tri (kept (k0_pay11 q kb) (k0_pay12 rows w)) := rfl

/-- What a key leaves of the stick. -/
theorem kept_value (z : FVec Ideal S256x128 .f32) (m : IVec S256x128 1) :
    kept z m (ix2 p s) = Scalar.select (m (ix2 p s)) (logKeep (z (ix2 p s))) 0 := by
  pointwise [kept, logKeep]
  rfl

/-- The sums within a block, from each key on. -/
theorem within_value (l : FVec Ideal S256x128 .f32) : within tri l (ix2 p s)
    = ((∑ j : Fin 128, l (ix2 p j) * tri (ix2 j s))
      + (∑ j : Fin 128, (l (ix2 p j) - l (ix2 p j)) * tri (ix2 j s)))
      + (∑ j : Fin 128, ((l (ix2 p j) - l (ix2 p j)) - (l (ix2 p j) - l (ix2 p j))) * tri (ix2 j s)) := by
  pointwise [within]

/-- The triangle: one from each key on. -/
theorem tri_value (j s : Fin 128) : k0_pay7 (F := Ideal) (ix2 j s) = if s.val ≤ j.val then 1 else 0 := by
  pointwise [k0_pay7]
  rw [cmpi_sge_ofNat (by have := j.isLt; omega) (by have := s.isLt; omega)]
  by_cases h : s.val ≤ j.val
  · rw [if_pos h, decide_eq_true h]
    show (((BitVec.setWidth 32 (BitVec.ofBool true)).toInt : ℝ) : EReal) = 1
    rw [show (BitVec.setWidth 32 (BitVec.ofBool true)).toInt = 1 by decide]
    simp
  · rw [if_neg h, decide_eq_false h]
    show (((BitVec.setWidth 32 (BitVec.ofBool false)).toInt : ℝ) : EReal) = 0
    rw [show (BitVec.setWidth 32 (BitVec.ofBool false)).toInt = 0 by decide]
    simp

/-- The mask: one where the key's position is before the query's. -/
theorem causal_value (i : grid0.Coords) (n : ℕ) (hn : n < 128) (p : Fin 256) (s : Fin 128) :
    k0_pay12 (k0_pay6 i) (BitVec.ofNat 32 n) (ix2 p s)
      = if n * 128 + s.val < (i 2).val * 256 + p.val then 1#1 else 0#1 := by
  have hi : (i 2).val < 64 := (i 2).isLt
  have hp := p.isLt
  have hs := s.isLt
  pointwise [k0_pay12, k0_pay6]
  have l : IntOp.addi (Scalar.muli (BitVec.ofNat 32 n) 128#32) (BitVec.ofNat 32 s.val) = BitVec.ofNat 32 (n * 128 + s.val) := by
    rw [BitVec.ofNat_add, BitVec.ofNat_mul]; rfl
  have r : IntOp.addi (Scalar.addi (0#32) (Scalar.muli (BitVec.ofNat 32 (i 2).val) 256#32)) (BitVec.ofNat 32 p.val)
      = BitVec.ofNat 32 ((i 2).val * 256 + p.val) := by
    rw [BitVec.ofNat_add, BitVec.ofNat_mul]
    exact congrArg (fun a => a + BitVec.ofNat 32 p.val) (BitVec.zero_add _)
  rw [l, r, cmpi_slt_ofNat (by omega) (by omega)]
  by_cases h : n * 128 + s.val < (i 2).val * 256 + p.val
  · rw [if_pos h, decide_eq_true h]; rfl
  · rw [if_neg h, decide_eq_false h]; rfl

/-- No carry of a block of queries is above the largest. -/
theorem most_value (c : FVec Ideal S256x1 .f32) (p : Fin 256) : c (ix2 p 0) ≤ k0_pay2 c := by
  unfold k0_pay2
  pointwise [ofBits_neg_inf]
  exact Finset.le_sup (f := fun x : Fin 256 × Fin 1 => c (ix2 x.1 0)) (Finset.mem_univ (p, 0))

/-- When no stick is left, every carry is `-∞`. -/
theorem used_up (s : Carried Ideal) (h : ¬More s) (p : Fin 256) : s.1 (ix2 p 0) = ⊥ := by
  have hm : ¬(⊥ < k0_pay2 s.1) := fun hlt => h (by
    unfold More
    rw [logzero]
    show BitVec.ofBool (decide (⊥ < k0_pay2 s.1)) = 1#1
    rw [decide_eq_true hlt]; rfl)
  exact le_bot_iff.mp ((most_value s.1 p).trans (not_lt.mp hm))

/-- The logarithms of the weights of a block. -/
theorem logWeights_value (c : FVec Ideal S256x1 .f32) : k0_pay14 q rows tri w c kb (ix2 p s)
    = k0_pay11 q kb (ix2 p s) + (k0_pay13 q rows tri w kb (ix2 p s) + c (ix2 p 0)) := by
  pointwise [k0_pay14]

/-- The values gathered after a block. -/
theorem gather_value (a : FVec Ideal S256x128 .f32) (v : FVec Ideal S128x128 .bf16) (m : IVec S256x128 1) (l : FVec Ideal S256x128 .f32)
    (x : EReal) : k0_pay3 a v m l x (ix2 p s)
      = a (ix2 p s) + ∑ j : Fin 128, Ideal.exp (Scalar.select (m (ix2 p j)) (l (ix2 p j)) x) * v (ix2 j s) := by
  pointwise [k0_pay3]

/-- The stick left after a block. -/
theorem carry_value (c : FVec Ideal S256x1 .f32) (l : FVec Ideal S256x128 .f32) (z : Fin 1) :
    k0_pay4 c l (ix2 p z) = c (ix2 p z) + l (ix2 p 0) := by
  pointwise [k0_pay4]

/-- The block's values. -/
theorem values_value (j : Fin 128) : k0_pay10 vb (ix2 j s) = (show FVec Ideal S1x128x128 .bf16 from vb) (ix3 0 j s) := by
  pointwise [k0_pay10]

/-- The query rows. -/
theorem queries_value (x : Vec Ideal S1x256x128 .bf16) : k0_pay5 x (ix2 p s) = (show FVec Ideal S1x256x128 .bf16 from x) (ix3 0 p s) := by
  pointwise [k0_pay5]

/-- The loop starts with whole sticks. -/
theorem start_carry (z : Fin 1) : k0_pay8 (F := Ideal) (ix2 p z) = 0 := by
  pointwise [k0_pay8]

/-- The loop starts with no values. -/
theorem start_values : k0_pay9 (F := Ideal) (ix2 p s) = 0 := by
  pointwise [k0_pay9]

/-- The result's block: each row scaled to a mean square of one, then weighted. -/
theorem normed_value (a : FVec Ideal S256x128 .f32) (g : Vec Ideal S1x1x128 .f32) (z : Fin 1) :
    k0_pay1 a g (ix3 z p s)
      = Cert.Proof.Mla.normed (fun e => a (ix2 p e)) (fun e => (show FVec Ideal S1x1x128 .f32 from g) (ix3 0 0 e)) s := by
  pointwise [k0_pay1, Cert.Proof.Mla.normed]

end Cert.Proof.SbIdeal

end
-- ==== Proof.Sb.Sweep.lean ====
/- The loop of the stick-breaking kernel, trip by trip: after the blocks from some key on, each query's carry is the logarithm
   of what those keys leave of its stick, and its row the values they gather. -/
module

public import proofs.«01_k».proof.Defs
public import proofs.«01_k».proof.Proof.Sb.Block

@[expose] public section

set_option maxRecDepth 16384

noncomputable section

namespace Cert.Proof.SbIdeal

open Idealize.ShloMosaic Idealize.ShloMosaic.TcCoe Idealize.SL.Sem
open Cert.SbIdeal Cert.SbIdeal.Gen Cert.Proof.Stick

/-- The query in row `p` of the block. -/
def query (x0 : FVec Ideal S1x256x128 .bf16) (p : Fin 256) : Fin 128 → EReal := fun d => x0 (ix3 0 p d)

/-- Row `x` of the keys or the values. -/
def entry (x1 : FVec Ideal S1x16384x128 .bf16) (x : ℕ) : Fin 128 → EReal := fun d =>
  if hx : x < 16384 then x1 (ix3 0 ⟨x, hx⟩ d) else 0

/-- The position of row `p` of the block. -/
def position (i : grid0.Coords) (p : Fin 256) : ℕ := (i 2).val * 256 + p.val

variable (i : grid0.Coords) (x0 : FVec Ideal S1x256x128 .bf16) (x1 x2 : FVec Ideal S1x16384x128 .bf16)

/-- What the loop carries once the keys from block `n` on are done. -/
def Holds (n : ℕ) (s : Carried Ideal) : Prop := ∀ p : Fin 256,
  s.1 (ix2 p 0) = left (query x0 p) (entry x1) (position i p) (n * 128)
  ∧ ∀ d : Fin 128, s.2 (ix2 p d) = gathered (query x0 p) (entry x1) (entry x2) (position i p) d (n * 128)

/-- The rows of a block, by their position. -/
theorem rows_value (x : FVec Ideal S1x16384x128 .bf16) (n : ℕ) (hn : n < 128) (s d : Fin 128) :
    (show FVec Ideal S1x128x128 .bf16 from rowsOf (F := Ideal) x n) (ix3 0 s d) = entry x (n * 128 + s.val) d := by
  have hs := s.isLt
  unfold entry
  rw [dif_pos (by omega)]
  refine congrArg x (funext fun a => Fin.ext ?_)
  fin_cases a
  · rfl
  · show n % 128 * 128 + s.val = n * 128 + s.val
    rw [Nat.mod_eq_of_lt hn]
  · rfl

/-- The scores of a block, by position. -/
theorem score_at (n : ℕ) (hn : n < 128) (p : Fin 256) (s : Fin 128) :
    k0_pay11 (k0_pay5 x0) (rowsOf (F := Ideal) x1 n) (ix2 p s) = score (query x0 p) (entry x1) (n * 128 + s.val) := by
  rw [scores_value, score]
  refine congrArg (fun a : EReal => a * _) (Finset.sum_congr rfl fun d _ => ?_)
  rw [queries_value]
  exact congrArg (fun a : EReal => query x0 p d * a) (rows_value x1 n hn s d)

/-- What the keys of a block leave of each stick, by position. -/
theorem kept_at (n : ℕ) (hn : n < 128) (p : Fin 256) (s : Fin 128) :
    kept (k0_pay11 (k0_pay5 x0) (rowsOf (F := Ideal) x1 n)) (k0_pay12 (k0_pay6 i) (BitVec.ofNat 32 n)) (ix2 p s)
      = keep (query x0 p) (entry x1) (position i p) (n * 128 + s.val) := by
  rw [kept_value, causal_value i n hn, score_at x0 x1 n hn, keep, position]
  by_cases h : n * 128 + s.val < (i 2).val * 256 + p.val
  · rw [if_pos h, if_pos h]; rfl
  · rw [if_neg h, if_neg h]; rfl

/-- The sums within a block: the keys of the block from each key on. -/
theorem within_at (n : ℕ) (hn : n < 128) (p : Fin 256) (s : Fin 128) :
    k0_pay13 (k0_pay5 x0) (k0_pay6 i) k0_pay7 (BitVec.ofNat 32 n) (rowsOf (F := Ideal) x1 n) (ix2 p s)
      = ∑ j : Fin 128, keep (query x0 p) (entry x1) (position i p) (n * 128 + j.val) * (if s.val ≤ j.val then 1 else 0) := by
  rw [within_term, within_value, ← Finset.sum_add_distrib, ← Finset.sum_add_distrib]
  refine Finset.sum_congr rfl fun j _ => ?_
  rw [kept_at i x0 x1 n hn, tri_value, parts_mul _ _ (keep_ne_top _ _ _ _) (by split <;> simp)]

/-- What is left from a key on: the block's keys from there, then what the later blocks leave. -/
theorem left_at (n : ℕ) (hn : n < 128) (p : Fin 256) (s : Fin 128) :
    k0_pay13 (k0_pay5 x0) (k0_pay6 i) k0_pay7 (BitVec.ofNat 32 n) (rowsOf (F := Ideal) x1 n) (ix2 p s)
        + left (query x0 p) (entry x1) (position i p) ((n + 1) * 128)
      = left (query x0 p) (entry x1) (position i p) (n * 128 + s.val) := by
  rw [within_at i x0 x1 n hn, left_within _ _ _ n hn]

/-- One trip. -/
theorem step_holds (n : ℕ) (hn : n < 128) (s : Carried Ideal) (h : Holds i x0 x1 x2 (n + 1) s) :
    Holds i x0 x1 x2 n (step (k0_pay5 x0) (k0_pay6 i) k0_pay7 x1 x2 n s) := by
  intro p
  obtain ⟨hc, ha⟩ := h p
  refine ⟨?_, fun d => ?_⟩
  · refine (carry_value p s.1 _ 0).trans ?_
    rw [hc, add_comm, left_at i x0 x1 n hn]
    rfl
  · refine (gather_value p d s.2 _ _ _ _).trans ?_
    rw [ha d, add_comm]
    unfold gathered
    rw [tail_block _ n hn]
    refine congrArg (fun a : EReal => a + _) (Finset.sum_congr rfl fun j _ => ?_)
    rw [values_value, logWeights_value, hc, left_at i x0 x1 n hn, score_at x0 x1 n hn, causal_value i n hn, mask]
    refine congrArg₂ (fun a b : EReal => a * b) ?_ (rows_value x2 n hn j d)
    unfold weight position
    by_cases hx : n * 128 + j.val < (i 2).val * 256 + p.val
    · rw [if_pos hx, if_pos hx]; rfl
    · rw [if_neg hx, if_neg hx]
      show Ideal.exp ⊥ = 0
      simp

/-- All trips: each row gathers all its values, also when the loop stops early. -/
theorem sweep_holds (n : ℕ) (hn : n ≤ 128) (s : Carried Ideal) (h : Holds i x0 x1 x2 n s) (p : Fin 256) (d : Fin 128) :
    (sweep (F := Ideal) (k0_pay5 x0) (k0_pay6 i) k0_pay7 x1 x2 n s).2 (ix2 p d)
      = gathered (query x0 p) (entry x1) (entry x2) (position i p) d 0 := by
  induction n generalizing s with
  | zero => rw [← Nat.zero_mul 128]; exact (h p).2 d
  | succ n ih =>
    unfold sweep
    split
    · exact ih (by omega) _ (step_holds i x0 x1 x2 n (by omega) s h)
    · rename_i hm
      rw [(h p).2 d]
      refine (gathered_of_left_bot _ _ _ _ d _ (by omega) ?_).symm
      rw [← (h p).1]
      exact used_up s hm p

/-- Before the first trip: no key past the block of queries counts. -/
theorem start_holds : Holds i x0 x1 x2 (2 * (i 2).val + 2) (k0_pay8, k0_pay9) := by
  intro p
  have hp := p.isLt
  have hr : position i p ≤ (2 * (i 2).val + 2) * 128 := by unfold position; omega
  exact ⟨(start_carry p 0).trans (left_zero _ _ _ _ hr).symm,
    fun d => (start_values p d).trans (gathered_zero _ _ _ _ d _ hr).symm⟩

/-- What the loop returns. -/
theorem swept (p : Fin 256) (d : Fin 128) :
    (sweep (F := Ideal) (k0_pay5 x0) (k0_pay6 i) k0_pay7 x1 x2 (2 * (i 2).val + 2) (k0_pay8, k0_pay9)).2 (ix2 p d)
      = gathered (query x0 p) (entry x1) (entry x2) (position i p) d 0 :=
  sweep_holds i x0 x1 x2 _ (by have h : (i 2).val < 64 := (i 2).isLt; omega) _ (start_holds i x0 x1 x2) p d

end Cert.Proof.SbIdeal

end
-- ==== Proof.Sb.Stick.lean ====
/- The stick-breaking attention as a function of its arrays: a query breaks a piece off its stick for each earlier key, from
   the last one back, the pieces weigh the values, and each head's sum is scaled to a mean square of one. -/
module

public import proofs.«01_k».proof.Defs
public import proofs.«01_k».proof.Proof.Sb.Spec
public import proofs.«01_k».proof.Proof.Mla.Spec

@[expose] public section

set_option maxRecDepth 16384

noncomputable section

namespace Cert.Proof.Stick

open Idealize.ShloMosaic Idealize.ShloMosaic.TcCoe Idealize.SL.Sem
open Cert.SbIdeal

variable (a : FVec Ideal S2x16384x3072 .bf16) (g : FVec Ideal S1536 .f32)

/-- Head `h` of slot `e` at position `x`: the projected rows hold six slots of four heads of 128 columns. -/
def headRow (e : Fin 6) (b : Fin 2) (h : Fin 4) (x : ℕ) (d : Fin 128) : EReal :=
  if hx : x < 16384 then a (ix3 b ⟨x, hx⟩ ⟨(e.val * 4 + h.val) * 128 + d.val, by omega⟩) else 0

/-- The values gathered by a query of a head: the queries are slot 3, the keys slot 4, the values slot 5. -/
def gatheredAt (b : Fin 2) (h : Fin 4) (r : ℕ) (d : Fin 128) : EReal :=
  gathered (headRow a 3 b h r) (headRow a 4 b h) (headRow a 5 b h) r d 0

/-- The result of a head at a query: its gains are those of heads 8 to 11. -/
def headAt (b : Fin 2) (h : Fin 4) (r : ℕ) (d : Fin 128) : EReal :=
  Cert.Proof.Mla.normed (gatheredAt a b h r) (fun e => g (ix1 ⟨(8 + h.val) * 128 + e.val, by omega⟩)) d

/-- The attention's result. -/
def attention : FVec Ideal S2x16384x512 .bf16 := fun j =>
  headAt a g (j 0) ⟨(j 2).val / 128, by have := (j 2).isLt; change (j 2).val < 512 at this; omega⟩ (j 1).val
    ⟨(j 2).val % 128, Nat.mod_lt _ (by decide)⟩

end Cert.Proof.Stick

end
-- ==== Proof.Sb.Reads.lean ====
/- What the stick-breaking kernel's blocks hold of the arrays. -/
module

public import proofs.«01_k».proof.Defs
public import proofs.«01_k».proof.Proof.Sb.IdealFrame
public import proofs.«01_k».proof.Proof.Sb.Sweep
public import proofs.«01_k».proof.Proof.Sb.Stick
public import Idealize.ShloMosaic.Lib.Pointwise
public import Idealize.ShloMosaic.Lib.Pipeline.ValueKit
public import Idealize.ShloMosaic.Lib.StableHlo.Run

@[expose] public section

set_option maxRecDepth 16384

noncomputable section

namespace Cert.Proof.SbIdeal

open Idealize.ShloMosaic Idealize.ShloMosaic.TcCoe Idealize.SL.Sem
open Cert.SbIdeal Cert.SbIdeal.Gen Cert.Proof.Stick

/-- The grid's coordinates are the sequence, the head and the query block; the queries' heads start at 12. -/
theorem index_queries : ∀ t : Fin grid0.N,
    win0_0.index t = ![(grid0.coords t 0).val, (grid0.coords t 2).val, 12 + (grid0.coords t 1).val] := by decide +kernel
/-- All keys of the point's sequence and head; the keys' heads start at 16. -/
theorem index_keys : ∀ t : Fin grid0.N, win0_1.index t = ![(grid0.coords t 0).val, 0, 16 + (grid0.coords t 1).val] := by
  decide +kernel
/-- All values of the point's sequence and head; the values' heads start at 20. -/
theorem index_values : ∀ t : Fin grid0.N, win0_2.index t = ![(grid0.coords t 0).val, 0, 20 + (grid0.coords t 1).val] := by
  decide +kernel
/-- The gains of the point's head; they start at 8. -/
theorem index_gains : ∀ t : Fin grid0.N, win0_3.index t = ![8 + (grid0.coords t 1).val, 0, 0] := by decide +kernel
/-- The result's block. -/
theorem index_result : ∀ t : Fin grid0.N,
    win0_4.index t = ![(grid0.coords t 0).val, (grid0.coords t 2).val, (grid0.coords t 1).val] := by decide +kernel

variable (m : (ℓ : Loc nD τ sig) → Buf (Elt Ideal) ℓ) (c : Dev nD) (t : Fin (cfg0 (F := Ideal)).N)

/-- The queries' block. -/
theorem read_queries (j : S1x256x128.Idx) (i : S2x16384x3072.Idx)
    (h0 : (i 0).val = (grid0.coords t 0).val) (h1 : (i 1).val = (grid0.coords t 2).val * 256 + (j 1).val)
    (h2 : (i 2).val = (12 + (grid0.coords t 1).val) * 128 + (j 2).val) :
    iblk m c 0 t j = m ((c : Thread nD τ).loc main_arg0) i := by
  show V m c (Pipeline.arrRef spec0 0) _ = _
  rw [V_main_arg0]
  refine congrArg _ (funext fun a => Fin.ext ?_)
  fin_cases a
  · blk_simp [index_queries]
    exact h0.symm
  · blk_simp [index_queries]
    exact h1.symm
  · blk_simp [index_queries]
    exact h2.symm

/-- The keys' block. -/
theorem read_keys (j : S1x16384x128.Idx) (i : S2x16384x3072.Idx)
    (h0 : (i 0).val = (grid0.coords t 0).val) (h1 : (i 1).val = (j 1).val)
    (h2 : (i 2).val = (16 + (grid0.coords t 1).val) * 128 + (j 2).val) :
    iblk m c 1 t j = m ((c : Thread nD τ).loc main_arg0) i := by
  show V m c (Pipeline.arrRef spec0 1) _ = _
  rw [V_main_arg0]
  refine congrArg _ (funext fun a => Fin.ext ?_)
  fin_cases a
  · blk_simp [index_keys]
    exact h0.symm
  · blk_simp [index_keys]
    exact h1.symm
  · blk_simp [index_keys]
    exact h2.symm

/-- The values' block. -/
theorem read_values (j : S1x16384x128.Idx) (i : S2x16384x3072.Idx)
    (h0 : (i 0).val = (grid0.coords t 0).val) (h1 : (i 1).val = (j 1).val)
    (h2 : (i 2).val = (20 + (grid0.coords t 1).val) * 128 + (j 2).val) :
    iblk m c 2 t j = m ((c : Thread nD τ).loc main_arg0) i := by
  show V m c (Pipeline.arrRef spec0 2) _ = _
  rw [V_main_arg0]
  refine congrArg _ (funext fun a => Fin.ext ?_)
  fin_cases a
  · blk_simp [index_values]
    exact h0.symm
  · blk_simp [index_values]
    exact h1.symm
  · blk_simp [index_values]
    exact h2.symm

/-- The gains, laid out by head before the kernel runs. -/
theorem gains_by_head (h : Fin 12) (z : Fin 1) (d : Fin 128) :
    V m c main_v0 (ix3 h z d) = m ((c : Thread nD τ).loc main_arg1) (ix1 ⟨h.val * 128 + d.val, by omega⟩) := by
  have e : V m c main_v0 = shapeCast S12x1x128 (m ((c : Thread nD τ).loc main_arg1)) shapeCasts_S1536_S12x1x128 := by
    unfold_abbrev_sides
    after_results
    rfl
  rw [e]
  pointwise []

/-- The gains' block. -/
theorem read_gains (d : Fin 128) (i : S1536.Idx) (h0 : (i 0).val = (8 + (grid0.coords t 1).val) * 128 + d.val) :
    iblk m c 3 t (ix3 0 0 d) = m ((c : Thread nD τ).loc main_arg1) i := by
  have hh : (grid0.coords t 1).val < 4 := (grid0.coords t 1).isLt
  have e : V m c main_v0 (ix3 ⟨8 + (grid0.coords t 1).val, by omega⟩ 0 d) = m ((c : Thread nD τ).loc main_arg1) i :=
    (gains_by_head m c ⟨8 + (grid0.coords t 1).val, by omega⟩ 0 d).trans
      (congrArg _ (funext fun a => Fin.ext (by fin_cases a; exact h0.symm)))
  rw [← e]
  show V m c (Pipeline.arrRef spec0 3) _ = _
  refine congrArg (V m c main_v0) (funext fun a => Fin.ext ?_)
  fin_cases a
  · blk_simp [index_gains]
    rfl
  · blk_simp [index_gains]
  · blk_simp [index_gains]
    rfl

/-- What a grid point writes. -/
theorem block_value (b : Fin 2) (h : Fin 4) (R : ℕ) (hb : b.val = (grid0.coords t 0).val)
    (hh : h.val = (grid0.coords t 1).val) (p : Fin 256) (hr : R = (grid0.coords t 2).val * 256 + p.val) (d : Fin 128) (z : Fin 1) :
    outBlock (F := Ideal) (grid0.coords t) (iblk m c 0 t) (iblk m c 1 t) (iblk m c 2 t) (iblk m c 3 t) (ix3 z p d)
      = headAt (m ((c : Thread nD τ).loc main_arg0)) (m ((c : Thread nD τ).loc main_arg1)) b h R d := by
  have hl : (grid0.coords t 2).val < 64 := (grid0.coords t 2).isLt
  have hp := p.isLt
  have hq : query (iblk m c 0 t) p = headRow (m ((c : Thread nD τ).loc main_arg0)) 3 b h R := funext fun e => by
    have he := e.isLt
    unfold headRow
    rw [dif_pos (by omega)]
    exact read_queries m c t (ix3 0 p e) _ hb hr (by show (3 * 4 + h.val) * 128 + e.val = (_ + _) * 128 + e.val; rw [hh])
  have hk : entry (iblk m c 1 t) = headRow (m ((c : Thread nD τ).loc main_arg0)) 4 b h := funext fun x => funext fun e => by
    unfold headRow entry
    by_cases hx : x < 16384
    · rw [dif_pos hx, dif_pos hx]
      exact read_keys m c t (ix3 0 ⟨x, hx⟩ e) _ hb rfl (by show (4 * 4 + h.val) * 128 + e.val = (_ + _) * 128 + e.val; rw [hh])
    · rw [dif_neg hx, dif_neg hx]
  have hv : entry (iblk m c 2 t) = headRow (m ((c : Thread nD τ).loc main_arg0)) 5 b h := funext fun x => funext fun e => by
    unfold headRow entry
    by_cases hx : x < 16384
    · rw [dif_pos hx, dif_pos hx]
      exact read_values m c t (ix3 0 ⟨x, hx⟩ e) _ hb rfl (by show (5 * 4 + h.val) * 128 + e.val = (_ + _) * 128 + e.val; rw [hh])
    · rw [dif_neg hx, dif_neg hx]
  have hpos : position (grid0.coords t) p = R := hr.symm
  have hg : (fun e : Fin 128 => (show FVec Ideal S1x1x128 .f32 from iblk m c 3 t) (ix3 0 0 e))
      = fun e => (show FVec Ideal S1536 .f32 from m ((c : Thread nD τ).loc main_arg1)) (ix1 ⟨(8 + h.val) * 128 + e.val, by omega⟩) :=
    funext fun e => read_gains m c t e _ (by show (8 + h.val) * 128 + e.val = _; rw [hh])
  refine (normed_value p d _ _ z).trans ?_
  have hs (e : Fin 128) := swept (grid0.coords t) (iblk m c 0 t) (iblk m c 1 t) (iblk m c 2 t) p e
  rw [hpos, hq, hk, hv] at hs
  unfold headAt
  refine (congrArg (fun f => Cert.Proof.Mla.normed f _ d) (funext hs)).trans ?_
  exact congrArg (fun g => Cert.Proof.Mla.normed _ g d) hg

end Cert.Proof.SbIdeal

end
-- ==== Proof.Sb.Cumulative.lean ====
/- The reference's running sum over the keys from the last one back, as a sum from a key on. -/
module

public import proofs.«01_k».proof.Defs
public import proofs.«01_k».proof.Proof.Sb.Spec
public import proofs.«01_k».proof.Proof.Gen.SbRefIdeal.Run
public import Idealize.ShloMosaic.Lib.Pointwise

@[expose] public section

set_option maxRecDepth 16384

noncomputable section

namespace Cert.Proof.SbIdeal

open Idealize.ShloMosaic Idealize.SL.Sem
open Cert.SbRefIdeal Cert.SbRefIdeal.Gen Cert.Proof.Stick

/-- Adding terms in order is adding their sum. -/
theorem foldl_add {α : Type} (l : List α) (f : α → EReal) (a : EReal) :
    l.foldl (fun r n => r + f n) a = a + (l.map f).sum := by
  induction l generalizing a with
  | nil => simp
  | cons x l ih => rw [List.foldl_cons, ih, List.map_cons, List.sum_cons, add_assoc]

/-- The window of the running sum: one entry on each axis but the keys'. -/
abbrev window : Shape := ⟨4, ![1, 1, 1, 16384]⟩

/-- The entries of the window are the offsets. -/
theorem window_offset (o : window.Idx) : (window.rowMajor o).val = (o 3).val := by
  have h0 : (o 0).val < 1 := (o 0).isLt
  have h1 : (o 1).val < 1 := (o 1).isLt
  have h2 : (o 2).val < 1 := (o 2).isLt
  rw [Shape.rowMajor_val_four]
  simp only [show (o 0).val = 0 by omega, show (o 1).val = 0 by omega, show (o 2).val = 0 by omega]
  simp

theorem window_numel : window.numel = 16384 := by decide

/-- A choice between a value and nothing, by an equivalent condition. -/
theorem dite_value {P k : Prop} {_ : Decidable P} {_ : Decidable k} (y : P → EReal) (v : EReal) (hP : P ↔ k) (hy : ∀ h, y h = v) :
    (if h : P then y h else 0) = if k then v else 0 := by
  by_cases h : P
  · rw [dif_pos h, if_pos (hP.mp h), hy]
  · rw [dif_neg h, if_neg (fun hk => h (hP.mpr hk))]

/-- The running sum at a key is the sum from that key on. -/
theorem cumulative_value (x : FVec Ideal S2x4x16384x16384 .f32) (init : FVec Ideal S_ .f32) (hi : ∀ i, init i = 0)
    (b : Fin 2) (h : Fin 4) (r n : Fin 16384) (f : ℕ → EReal) (hf : ∀ k : Fin 16384, x (ix4 b h r k) = f k.val) :
    Host.reduceWindowAdd ![1, 1, 1, 16384] ![1, 1, 1, 1] ![0, 0, 0, 0] ![0, 0, 0, 16383] x init
      reduceWindows_S2x4x16384x16384_S2x4x16384x16384_w1s1p0_0_w1s1p0_0_w1s1p0_0_w16384s1p0_16383 h_S_ (ix4 b h r n)
      = tail f n.val := by
  rw [← sum_offsets f n.val]
  unfold Host.reduceWindowAdd
  rw [Ideal.hostReduceWindowAdd_def]
  unfold Ideal.hostReduceWindowAdd Host.reduceWindow
  rw [hi]
  refine (foldl_add (List.finRange window.numel) _ 0).trans ?_
  rw [zero_add, ← List.ofFn_eq_map, List.sum_ofFn]
  rw [← (finCongr window_numel.symm).sum_comp]
  refine Finset.sum_congr rfl fun w _ => ?_
  have e : (window.rowMajor.symm (finCongr window_numel.symm w) 3).val = w.val := by
    rw [← window_offset, Equiv.apply_symm_apply]; rfl
  have o0 (o : window.Idx) : (o 0).val = 0 := Nat.lt_one_iff.mp (o 0).isLt
  have o1 (o : window.Idx) : (o 1).val = 0 := Nat.lt_one_iff.mp (o 1).isLt
  have o2 (o : window.Idx) : (o 2).val = 0 := Nat.lt_one_iff.mp (o 2).isLt
  have e0 := o0 (window.rowMajor.symm (finCongr window_numel.symm w))
  have e1 := o1 (window.rowMajor.symm (finCongr window_numel.symm w))
  have e2 := o2 (window.rowMajor.symm (finCongr window_numel.symm w))
  have eb := b.isLt
  have eh := h.isLt
  have er := r.isLt
  refine dite_value _ _ ⟨fun hin => ?_, fun hw a => ?_⟩ fun hin => ?_
  · have h3 : n.val * 1 + (window.rowMajor.symm (finCongr window_numel.symm w) 3).val - 0 < 16384 := (hin 3).2
    omega
  · fin_cases a
    · show 0 ≤ b.val * 1 + (window.rowMajor.symm (finCongr window_numel.symm w) 0).val
        ∧ b.val * 1 + (window.rowMajor.symm (finCongr window_numel.symm w) 0).val - 0 < 2
      omega
    · show 0 ≤ h.val * 1 + (window.rowMajor.symm (finCongr window_numel.symm w) 1).val
        ∧ h.val * 1 + (window.rowMajor.symm (finCongr window_numel.symm w) 1).val - 0 < 4
      omega
    · show 0 ≤ r.val * 1 + (window.rowMajor.symm (finCongr window_numel.symm w) 2).val
        ∧ r.val * 1 + (window.rowMajor.symm (finCongr window_numel.symm w) 2).val - 0 < 16384
      omega
    · show 0 ≤ n.val * 1 + (window.rowMajor.symm (finCongr window_numel.symm w) 3).val
        ∧ n.val * 1 + (window.rowMajor.symm (finCongr window_numel.symm w) 3).val - 0 < 16384
      omega
  · have hw : n.val * 1 + (window.rowMajor.symm (finCongr window_numel.symm w) 3).val - 0 < 16384 := (hin 3).2
    have hn : n.val + w.val < 16384 := by omega
    refine Eq.trans (congrArg x (funext fun a => Fin.ext ?_)) (hf ⟨n.val + w.val, hn⟩)
    fin_cases a
    · show b.val * 1 + (window.rowMajor.symm (finCongr window_numel.symm w) 0).val - 0 = b.val
      omega
    · show h.val * 1 + (window.rowMajor.symm (finCongr window_numel.symm w) 1).val - 0 = h.val
      omega
    · show r.val * 1 + (window.rowMajor.symm (finCongr window_numel.symm w) 2).val - 0 = r.val
      omega
    · show n.val * 1 + (window.rowMajor.symm (finCongr window_numel.symm w) 3).val - 0 = n.val + w.val
      omega

end Cert.Proof.SbIdeal

end
-- ==== Proof.Sb.Reference.lean ====
/- The reference of the stick-breaking attention at an index: its scores, what each key leaves, its weights, its result. -/
module

public import proofs.«01_k».proof.Defs
public import proofs.«01_k».proof.Proof.Sb.Consts
public import proofs.«01_k».proof.Proof.Sb.Stick
public import proofs.«01_k».proof.Proof.Sb.Cumulative
public import proofs.«01_k».proof.Proof.Gen.SbRefIdeal.Run
public import Idealize.ShloMosaic.Lib.Pointwise
public import Idealize.ShloMosaic.Lib.Quiescent
public import Idealize.ShloMosaic.Lib.WordCmp

@[expose] public section

set_option maxRecDepth 16384

noncomputable section

namespace Cert.Proof.SbIdeal

open Idealize.ShloMosaic Idealize.ShloMosaic.TcCoe Idealize.SL.Sem
open Cert.SbRefIdeal Cert.SbRefIdeal.Gen Cert.SbRefIdeal.Value Cert.Proof.Stick
open Idealize.ShloMosaic.WordCmp (cmpi_slt_ofNat)

/-- The queries by head. -/
def hostQueries (a : FVec Ideal S2x16384x3072 .bf16) : FVec Ideal S2x16384x4x128 .f32 :=
  shapeCast _ (extractStridedSlice S2x16384x1x4x128 ![0, 0, 3, 0, 0] (shapeCast _ (extf .f32 a bitsLt_bf16_f32)
    shapeCasts_S2x16384x3072_S2x16384x6x4x128) slices_S2x16384x6x4x128_S2x16384x1x4x128_0_0_3_0_0)
    shapeCasts_S2x16384x1x4x128_S2x16384x4x128

/-- The keys by head. -/
def hostKeys (a : FVec Ideal S2x16384x3072 .bf16) : FVec Ideal S2x16384x4x128 .f32 :=
  shapeCast _ (extractStridedSlice S2x16384x1x4x128 ![0, 0, 4, 0, 0] (shapeCast _ (extf .f32 a bitsLt_bf16_f32)
    shapeCasts_S2x16384x3072_S2x16384x6x4x128) slices_S2x16384x6x4x128_S2x16384x1x4x128_0_0_4_0_0)
    shapeCasts_S2x16384x1x4x128_S2x16384x4x128

/-- The values by head. -/
def hostValues (a : FVec Ideal S2x16384x3072 .bf16) : FVec Ideal S2x16384x4x128 .f32 :=
  shapeCast _ (extractStridedSlice S2x16384x1x4x128 ![0, 0, 5, 0, 0] (shapeCast _ (extf .f32 a bitsLt_bf16_f32)
    shapeCasts_S2x16384x3072_S2x16384x6x4x128) slices_S2x16384x6x4x128_S2x16384x1x4x128_0_0_5_0_0)
    shapeCasts_S2x16384x1x4x128_S2x16384x4x128

/-- The scaled scores. -/
def hostScores (a : FVec Ideal S2x16384x3072 .bf16) : FVec Ideal S2x4x16384x16384 .f32 :=
  mulf (Host.dotGeneral dot_S2x16384x4x128_S2x16384x4x128_S2x4x16384x16384_3_3_1_1_02_02 none (hostQueries a) (hostKeys a))
    (broadcastInDim S2x4x16384x16384 ![] bcast_S_S2x4x16384x16384 (constant S_ .f32 0x3DB504F3#32))

/-- The keys before each query. -/
def hostBefore : IVec S2x4x16384x16384 1 :=
  broadcastInDim S2x4x16384x16384 ![2, 3] bcast_S16384x16384_S2x4x16384x16384_2_3
    (cmpi .slt (broadcastInDim S16384x16384 ![0, 1] bcast_S1x16384_S16384x16384_0_1
        (broadcastInDim S1x16384 ![1] bcast_S16384_S1x16384_1 (iotaInDim S16384 32 0)))
      (broadcastInDim S16384x16384 ![0, 1] bcast_S16384x1_S16384x16384_0_1
        (broadcastInDim S16384x1 ![0] bcast_S16384_S16384x1_0 (iotaInDim S16384 32 0))))

/-- The zeros of the running sum's shape. -/
def hostZeros : FVec Ideal S2x4x16384x16384 .f32 :=
  broadcastInDim S2x4x16384x16384 ![] bcast_S_S2x4x16384x16384 (constant S_ .f32 0x00000000#32)

/-- The softplus of the scores, by the stable form the reference's `log_sigmoid` takes. -/
def hostSoftplus (z : FVec Ideal S2x4x16384x16384 .f32) : FVec Ideal S2x4x16384x16384 .f32 :=
  select (cmpf .une (subf (Host.negf (Host.negf z)) hostZeros) (subf (Host.negf (Host.negf z)) hostZeros))
    (addf (Host.negf (Host.negf z)) hostZeros)
    (addf (maximumf (Host.negf (Host.negf z)) hostZeros)
      (Host.log1p (Host.exp (Host.negf (Host.absf (subf (Host.negf (Host.negf z)) hostZeros))))))

/-- What each key leaves of the stick. -/
def hostKept (z : FVec Ideal S2x4x16384x16384 .f32) : FVec Ideal S2x4x16384x16384 .f32 :=
  select hostBefore (Host.negf (hostSoftplus z))
    (broadcastInDim S2x4x16384x16384 ![] bcast_S_S2x4x16384x16384 (id (constant S_ .f32 0x00000000#32)))

/-- What is left from each key on. -/
def hostLeft (l : FVec Ideal S2x4x16384x16384 .f32) : FVec Ideal S2x4x16384x16384 .f32 :=
  Host.reduceWindowAdd ![1, 1, 1, 16384] ![1, 1, 1, 1] ![0, 0, 0, 0] ![0, 0, 0, 16383] l
    (broadcastInDim S_ ![] bcast_S_S_ (constant S_ .f32 0x00000000#32))
    reduceWindows_S2x4x16384x16384_S2x4x16384x16384_w1s1p0_0_w1s1p0_0_w1s1p0_0_w16384s1p0_16383 h_S_

/-- The weights, from the scores and what is left. -/
def hostWeights (z l : FVec Ideal S2x4x16384x16384 .f32) : FVec Ideal S2x4x16384x16384 .f32 :=
  Host.exp (select hostBefore (addf z l)
    (broadcastInDim S2x4x16384x16384 ![] bcast_S_S2x4x16384x16384 (id (constant S_ .f32 0xFF800000#32))))

/-- The values gathered. -/
def hostGathered (v : FVec Ideal S2x16384x4x128 .f32) (w : FVec Ideal S2x4x16384x16384 .f32) : FVec Ideal S2x16384x4x128 .f32 :=
  transpose S2x16384x4x128 [0, 3, 1, 2]
    (Host.dotGeneral dot_S2x16384x4x128_S2x4x16384x16384_S2x4x128x16384_1_3_3_2_02_01 none v w)
    transposes_S2x4x128x16384_S2x16384x4x128_0_3_1_2

/-- Each head's sum scaled to a mean square of one, then weighted. -/
def hostNormed (a : FVec Ideal S2x16384x4x128 .f32) (g : FVec Ideal S1536 .f32) : FVec Ideal S2x16384x4x128 .f32 :=
  mulf (mulf a (broadcastInDim S2x16384x4x128 ![0, 1, 2, 3] bcast_S2x16384x4x1_S2x16384x4x128_0_1_2_3
      (Host.rsqrt (addf (Host.divf (broadcastInDim S2x16384x4x1 ![0, 1, 2] bcast_S2x16384x4_S2x16384x4x1_0_1_2
            (Host.reduceAdd (mulf a a) (constant S_ .f32 0x00000000#32) reducesTo_S2x16384x4x128_S2x16384x4_d3 h_S_))
          (broadcastInDim S2x16384x4x1 ![] bcast_S_S2x16384x4x1 (constant S_ .f32 0x43000000#32)))
        (broadcastInDim S2x16384x4x1 ![] bcast_S_S2x16384x4x1 (constant S_ .f32 0x358637BD#32))))))
    (broadcastInDim S2x16384x4x128 ![0, 1, 2, 3] bcast_S1x1x4x128_S2x16384x4x128_0_1_2_3
      (broadcastInDim S1x1x4x128 ![2, 3] bcast_S4x128_S1x1x4x128_2_3
        (extractStridedSlice S4x128 ![8, 0] (shapeCast _ g shapeCasts_S1536_S12x128) slices_S12x128_S4x128_8_0)))

/-- The reference's result is these in turn. -/
theorem reference_term (m : (ℓ : Loc nD τ sig) → Buf (Elt Ideal) ℓ) (c : Dev nD) :
    res_main_v42 m c = truncf .bf16 (shapeCast _ (hostNormed
        (hostGathered (hostValues (m ((c.tc : Thread nD τ).loc main_arg0)))
          (hostWeights (hostScores (m ((c.tc : Thread nD τ).loc main_arg0)))
            (hostLeft (hostKept (hostScores (m ((c.tc : Thread nD τ).loc main_arg0)))))))
        (m ((c.tc : Thread nD τ).loc main_arg1))) shapeCasts_S2x16384x4x128_S2x16384x512) bitsLt_bf16_f32 := by
  unfold res_main_v42 hostNormed hostGathered hostWeights hostLeft hostKept hostSoftplus hostZeros hostBefore hostScores
    hostQueries hostKeys hostValues
  rfl

/-- The queries at an index. -/
theorem hostQueries_value (a : FVec Ideal S2x16384x3072 .bf16) (b : Fin 2) (x : Fin 16384) (h : Fin 4) (d : Fin 128) :
    hostQueries a (ix4 b x h d) = headRow a 3 b h x.val d := by
  rw [headRow, dif_pos x.isLt]
  pointwise [hostQueries]
  refine congrArg (fun y => a (ix3 b x y)) (Fin.ext ?_)
  show 1536 + h.val * 128 + d.val = (12 + h.val) * 128 + d.val
  omega

/-- The keys at an index. -/
theorem hostKeys_value (a : FVec Ideal S2x16384x3072 .bf16) (b : Fin 2) (x : Fin 16384) (h : Fin 4) (d : Fin 128) :
    hostKeys a (ix4 b x h d) = headRow a 4 b h x.val d := by
  rw [headRow, dif_pos x.isLt]
  pointwise [hostKeys]
  refine congrArg (fun y => a (ix3 b x y)) (Fin.ext ?_)
  show 2048 + h.val * 128 + d.val = (16 + h.val) * 128 + d.val
  omega

/-- The values at an index. -/
theorem hostValues_value (a : FVec Ideal S2x16384x3072 .bf16) (b : Fin 2) (x : Fin 16384) (h : Fin 4) (d : Fin 128) :
    hostValues a (ix4 b x h d) = headRow a 5 b h x.val d := by
  rw [headRow, dif_pos x.isLt]
  pointwise [hostValues]
  refine congrArg (fun y => a (ix3 b x y)) (Fin.ext ?_)
  show 2560 + h.val * 128 + d.val = (20 + h.val) * 128 + d.val
  omega

/-- The reference's scores. -/
theorem hostScores_value (a : FVec Ideal S2x16384x3072 .bf16) (b : Fin 2) (h : Fin 4) (r x : Fin 16384) :
    hostScores a (ix4 b h r x) = score (headRow a 3 b h r.val) (headRow a 4 b h) x.val := by
  rw [score]
  pointwise [hostScores]
  simp only [hostQueries_value, hostKeys_value]

/-- The keys before each query, at an index. -/
theorem hostBefore_value (b : Fin 2) (h : Fin 4) (r x : Fin 16384) :
    hostBefore (ix4 b h r x) = if x.val < r.val then 1#1 else 0#1 := by
  have hx := x.isLt
  have hr := r.isLt
  pointwise [hostBefore]
  rw [cmpi_slt_ofNat (by omega) (by omega)]
  by_cases hm : x.val < r.val
  · rw [if_pos hm, decide_eq_true hm]; rfl
  · rw [if_neg hm, decide_eq_false hm]; rfl

/-- The softplus at an index. -/
theorem hostSoftplus_value (z : FVec Ideal S2x4x16384x16384 .f32) (b : Fin 2) (h : Fin 4) (r x : Fin 16384) :
    hostSoftplus z (ix4 b h r x)
      = max (z (ix4 b h r x)) 0 + Ideal.log1p (Ideal.exp (0 - max (z (ix4 b h r x)) (-(z (ix4 b h r x))))) := by
  pointwise [hostSoftplus, hostZeros]
  rw [if_neg (not_not.mpr rfl), neg_neg, zero_sub]
  rfl

/-- What each key leaves, at an index. -/
theorem hostKept_value (a : FVec Ideal S2x16384x3072 .bf16) (b : Fin 2) (h : Fin 4) (r x : Fin 16384) :
    hostKept (hostScores a) (ix4 b h r x) = keep (headRow a 3 b h r.val) (headRow a 4 b h) r.val x.val := by
  have e (z : FVec Ideal S2x4x16384x16384 .f32) : hostKept z (ix4 b h r x)
      = Scalar.select (hostBefore (ix4 b h r x)) (0 - hostSoftplus z (ix4 b h r x)) 0 := by
    pointwise [hostKept, id_eq]
    rw [zero_sub]
  rw [e, hostBefore_value, hostSoftplus_value, hostScores_value, keep, logKeep]
  by_cases hm : x.val < r.val
  · rw [if_pos hm, if_pos hm]; rfl
  · rw [if_neg hm, if_neg hm]; rfl

/-- What is left, at an index. -/
theorem hostLeft_value (a : FVec Ideal S2x16384x3072 .bf16) (b : Fin 2) (h : Fin 4) (r x : Fin 16384) :
    hostLeft (hostKept (hostScores a)) (ix4 b h r x) = left (headRow a 3 b h r.val) (headRow a 4 b h) r.val x.val :=
  cumulative_value _ _ (fun i => by pointwise []) b h r x _ (fun k => hostKept_value a b h r k)

/-- The weights at an index. -/
theorem hostWeights_value (a : FVec Ideal S2x16384x3072 .bf16) (b : Fin 2) (h : Fin 4) (r x : Fin 16384) :
    hostWeights (hostScores a) (hostLeft (hostKept (hostScores a))) (ix4 b h r x)
      = weight (headRow a 3 b h r.val) (headRow a 4 b h) r.val x.val := by
  have e (z l : FVec Ideal S2x4x16384x16384 .f32) : hostWeights z l (ix4 b h r x)
      = Ideal.exp (Scalar.select (hostBefore (ix4 b h r x)) (z (ix4 b h r x) + l (ix4 b h r x)) ⊥) := by
    pointwise [hostWeights, id_eq, ofBits_neg_inf]
  rw [e, hostBefore_value, hostScores_value, hostLeft_value, weight]
  by_cases hm : x.val < r.val
  · rw [if_pos hm, if_pos hm]; rfl
  · rw [if_neg hm, if_neg hm]
    show Ideal.exp ⊥ = 0
    simp

/-- The values gathered, at an index. -/
theorem hostGathered_value (a : FVec Ideal S2x16384x3072 .bf16) (b : Fin 2) (r : Fin 16384) (h : Fin 4) (d : Fin 128) :
    hostGathered (hostValues a) (hostWeights (hostScores a) (hostLeft (hostKept (hostScores a)))) (ix4 b r h d)
      = gatheredAt a b h r.val d := by
  have e (v : FVec Ideal S2x16384x4x128 .f32) (w : FVec Ideal S2x4x16384x16384 .f32) :
      hostGathered v w (ix4 b r h d) = ∑ x : Fin 16384, v (ix4 b x h d) * w (ix4 b h r x) := by
    pointwise [hostGathered]
  rw [e, gatheredAt, gathered, tail, Nat.Ico_zero_eq_range, Finset.sum_range]
  refine Finset.sum_congr rfl fun x _ => ?_
  rw [hostValues_value, hostWeights_value, mul_comm]

/-- The reference's heads. -/
theorem hostNormed_value (a : FVec Ideal S2x16384x4x128 .f32) (g : FVec Ideal S1536 .f32) (b : Fin 2) (r : Fin 16384) (h : Fin 4)
    (d : Fin 128) : hostNormed a g (ix4 b r h d)
      = Cert.Proof.Mla.normed (fun e => a (ix4 b r h e)) (fun e => g (ix1 ⟨(8 + h.val) * 128 + e.val, by omega⟩)) d := by
  pointwise [hostNormed, Cert.Proof.Mla.normed]

/-- The reference's result is the attention. -/
theorem reference_value (m : (ℓ : Loc nD τ sig) → Buf (Elt Ideal) ℓ) (c : Dev nD) :
    res_main_v42 m c = attention (m ((c.tc : Thread nD τ).loc main_arg0)) (m ((c.tc : Thread nD τ).loc main_arg1)) := by
  have e (a : FVec Ideal S2x16384x4x128 .f32) (b : Fin 2) (r : Fin 16384) (y : Fin 512) :
      truncf (F := Ideal) .bf16 (shapeCast _ a shapeCasts_S2x16384x4x128_S2x16384x512) bitsLt_bf16_f32 (ix3 b r y)
        = a (ix4 b r ⟨y.val / 128, by omega⟩ ⟨y.val % 128, by omega⟩) := by
    pointwise []
  rw [reference_term]
  funext j
  idx_vars j
  rw [e, hostNormed_value]
  simp only [hostGathered_value]
  rfl

/-- The reference keeps its arguments and owns no semaphore. -/
theorem frame_reference : Cert.quiescent_SbRefIdeal := fun m ρ _ =>
  (θ_run Cert.SbRefIdeal.defs _ _).mono (fun r h => ⟨fun c => (h c).2, sem_eq_zero_of_no_sems (by decide) r.2⟩)
    (Cert.SbRefIdeal.Value.run (F := Ideal) m ρ)

end Cert.Proof.SbIdeal

end
-- ==== Proof.Sb.Array.lean ====
/- The stick-breaking kernel's result array, and its equality with the reference's. -/
module

public import proofs.«01_k».proof.Defs
public import proofs.«01_k».proof.Proof.Sb.Reads
public import proofs.«01_k».proof.Proof.Sb.Reference
public import Idealize.ShloMosaic.Lib.Pointwise
public import Idealize.ShloMosaic.Lib.Pipeline.ValueKit
public import Idealize.ShloMosaic.Lib.Pipeline.Covers
public import Idealize.ShloMosaic.Lib.Quiescent

@[expose] public section

set_option maxRecDepth 16384

noncomputable section

namespace Cert.Proof.SbIdeal

open Idealize.ShloMosaic Idealize.ShloMosaic.TcCoe Idealize.SL.Sem
open Cert.SbIdeal Cert.SbIdeal.Gen Cert.Proof.Stick
open Idealize.ShloMosaic.Pipeline (Dat)

variable (m : (ℓ : Loc nD τ sig) → Buf (Elt Ideal) ℓ) (c : Dev nD)

/-- The result array after the run. -/
theorem array_value :
    (dats m 0 c).arrAt 4 (cfg0 (F := Ideal)).N
      = attention (m ((c : Thread nD τ).loc main_arg0)) (m ((c : Thread nD τ).loc main_arg1)) := by
  refine (dats m 0 c).arrAt_eq_of_covers 4 _ (by decide +kernel) fun t hf y => ?_
  have y1 : (y 1).val < 256 := (y 1).isLt
  have y2 : (y 2).val < 128 := (y 2).isLt
  have i0 : (((((cfg0 (F := Ideal)).win 4).blk t).view.emb y 0 : Fin _) : ℕ) = (grid0.coords t 0).val := by
    blk_simp [index_result]
  have i1 : (((((cfg0 (F := Ideal)).win 4).blk t).view.emb y 1 : Fin _) : ℕ) = (grid0.coords t 2).val * 256 + (y 1).val := by
    blk_simp [index_result]
  have i2 : (((((cfg0 (F := Ideal)).win 4).blk t).view.emb y 2 : Fin _) : ℕ) = (grid0.coords t 1).val * 128 + (y 2).val := by
    blk_simp [index_result]
  generalize (((cfg0 (F := Ideal)).win 4).blk t).view.emb y = i at i0 i1 i2 ⊢
  blk_simp
  rw [after0_4]
  unfold attention
  have hd : (⟨(i 2).val % 128, Nat.mod_lt _ (by decide)⟩ : Fin 128) = y 2 := Fin.ext (by rw [i2]; show (_ : ℕ) % 128 = _; omega)
  rw [hd]
  have hh := (i 2).isLt
  change (i 2).val < 512 at hh
  refine Eq.trans (congrArg (outBlock (F := Ideal) (grid0.coords t) (iblk m c 0 t) (iblk m c 1 t) (iblk m c 2 t) (iblk m c 3 t)) (eq_ix3 y)) ?_
  exact block_value m c t (i 0) ⟨(i 2).val / 128, by omega⟩ (i 1).val i0 (by show (i 2).val / 128 = _; rw [i2]; omega) (y 1) i1 (y 2) (y 0)

/-- The run of the kernel's program: the result is the attention, the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v1)
        = attention (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h.1 c).trans (array_value m c), h.2.1 c⟩)
    (θ_run_and (run_blocks m ρ) (frame m ρ))

/-- The kernel's mask and its smallest logarithm are named `-∞`. -/
theorem preserves : Cert.preserves_Sb_SbIdeal :=
  ⟨IdealRules.named_const.statement Cert.SbIdeal.κ "logzero" .f32 0xC2D00000#32 (⊥ : EReal) rfl,
    IdealRules.named_const.statement Cert.SbIdeal.κ "mask" .f32 0xF149F2CA#32 (⊥ : EReal) rfl⟩

/-- On the extended reals the kernel's program and the reference end with the same result. -/
theorem algebraic : Cert.algebraic_SbIdeal_SbRefIdeal := fun m ρ m' ρ' _ hag =>
  ⟨fun c => attention (m ((c : Thread nD τ).loc main_arg0)) (m ((c : Thread nD τ).loc main_arg1)),
    run m ρ,
    (θ_run Cert.SbRefIdeal.defs _ _).mono
      (fun _ h c => ⟨(h c).1.trans (by rw [reference_value, (hag c).1, (hag c).2]), (h c).2⟩)
      (Cert.SbRefIdeal.Value.run (F := Ideal) m' ρ')⟩

end Cert.Proof.SbIdeal

end
-- ==== Proof.Up.Block.lean ====
/- What one grid point of the up projection computes, entry by entry: the product of its rows by its columns, the three
rows that the short convolution reads, the convolution of either half and the gated activation. -/
module

public import proofs.«01_k».proof.Defs
public import proofs.«01_k».proof.Proof.Gen.UpIdeal.Value
public import Idealize.ShloMosaic.Lib.Pointwise
public import Idealize.ShloMosaic.Lib.KernelVsHost
public import Idealize.ShloMosaic.Lib.Pipeline.ValueKit

@[expose] public section

set_option maxRecDepth 16384

noncomputable section

namespace Cert.Proof.Up

open Idealize.ShloMosaic Idealize.ShloMosaic.TcCoe Idealize.SL.Sem
open Cert.UpIdeal Cert.UpIdeal.Gen

/-- Two rows, then 512 rows: the row `n` of the 514, at a column. -/
def ahead (p : FVec Ideal S2x512 .f32) (u : FVec Ideal S512x512 .f32) (n : ℕ) (hn : n < 514) (q : Fin 512) : EReal :=
  if h : n < 2 then p (ix2 ⟨n, h⟩ q) else u (ix2 ⟨n - 2, by omega⟩ q)

/-- The convolution at a row: the bias, then the three weighted rows that end at this one, oldest first. -/
def tapped (b : EReal) (w : Fin 3 → EReal) (x0 x1 x2 : EReal) : EReal :=
  ((b + w 0 * x0) + w 1 * x1) + w 2 * x2

/-- The activation of one half times the other half. -/
def gated (a g : EReal) : EReal := (a * Ideal.logistic a) * g

variable (a : Vec Ideal S512x2048 .bf16) (b : Vec Ideal S2048x512 .bf16) (p : Vec Ideal S2x512 .f32)

/-- The product of the point's rows by its columns. -/
theorem product_value (r q : Fin 512) :
    k0_pay5 a b (ix2 r q) = ∑ k : Fin 2048, (show FVec Ideal S512x2048 .bf16 from a) (ix2 r k) * (show FVec Ideal S2048x512 .bf16 from b) (ix2 k q) := by
  pointwise [k0_pay5]

/-- The gate half's product is the same function. -/
theorem product_gate : k0_pay15 a b = k0_pay5 a b := rfl

/-- A choice by the comparison of a row number with a row. -/
theorem select_row {α : Type} (r n : ℕ) (hr : r < 512) (hn : n < 512) (x y : α) :
    Scalar.select (IntOp.cmpi CmpIPredicate.eq (BitVec.ofNat 32 r) (BitVec.ofNat 32 n)) x y = if r = n then x else y := by
  have e : BitVec.ofNat 32 r = BitVec.ofNat 32 n ↔ r = n := by
    constructor
    · intro h
      have := congrArg BitVec.toNat h
      simp only [BitVec.toNat_ofNat] at this
      omega
    · rintro rfl; rfl
  by_cases h : r = n
  · subst h; simp [Scalar.select, IntOp.cmpi]
  · rw [if_neg h]
    have b : (BitVec.ofNat 32 r == BitVec.ofNat 32 n) = false := by simpa using mt e.mp h
    simp [Scalar.select, IntOp.cmpi, b]

/-- Rows turned by one, the first replaced by the second of the two rows in front: the row before. -/
theorem before_apply (u : FVec Ideal S512x512 .f32) (r q : Fin 512) :
    Scalar.select (IntOp.cmpi CmpIPredicate.eq (BitVec.ofNat 32 r.val) 0#32) (p (ix2 1 q))
      (u (ix2 ⟨(r.val + 512 - 1) % 512, by omega⟩ q)) = ahead p u (r.val + 1) (by omega) q := by
  refine (select_row r.val 0 r.isLt (by omega) _ _).trans ?_
  unfold ahead
  by_cases h : r.val = 0
  · rw [if_pos h, dif_pos (by omega)]
    exact congrArg p (congrArg (fun k => ix2 k q) (Fin.ext (by show 1 = r.val + 1; omega)))
  · rw [if_neg h, dif_neg (by omega)]
    exact congrArg u (congrArg (fun k => ix2 k q) (Fin.ext (by show (r.val + 512 - 1) % 512 = r.val + 1 - 2; omega)))

/-- Rows turned by two, the first two replaced by the two rows in front: the row before that. -/
theorem two_before_apply (u : FVec Ideal S512x512 .f32) (r q : Fin 512) :
    Scalar.select (IntOp.cmpi CmpIPredicate.eq (BitVec.ofNat 32 r.val) 0#32) (p (ix2 0 q))
      (Scalar.select (IntOp.cmpi CmpIPredicate.eq (BitVec.ofNat 32 r.val) 1#32) (p (ix2 1 q))
        (u (ix2 ⟨(r.val + 512 - 2) % 512, by omega⟩ q))) = ahead p u r.val (by omega) q := by
  refine (select_row r.val 0 r.isLt (by omega) _ _).trans ?_
  rw [show (1#32 : BitVec 32) = BitVec.ofNat 32 1 from rfl, select_row r.val 1 r.isLt (by omega)]
  unfold ahead
  by_cases h : r.val = 0
  · rw [if_pos h, dif_pos (by omega)]
    exact congrArg p (congrArg (fun k => ix2 k q) (Fin.ext (by show 0 = r.val; omega)))
  · rw [if_neg h]
    by_cases h1 : r.val = 1
    · rw [if_pos h1, dif_pos (by omega)]
      exact congrArg p (congrArg (fun k => ix2 k q) (Fin.ext (by show 1 = r.val; omega)))
    · rw [if_neg h1, dif_neg (by omega)]
      exact congrArg u (congrArg (fun k => ix2 k q) (Fin.ext (by show (r.val + 512 - 2) % 512 = r.val - 2; omega)))

variable (w : Vec Ideal S3x512 .f32) (bias : Vec Ideal S1x512 .f32)

/-- The convolution of a block's rows `u` with the two rows `p` in front, at a row and a column. -/
def blockConv (u : FVec Ideal S512x512 .f32) (r q : Fin 512) : EReal :=
  tapped (bias (ix2 0 q)) (fun i => w (ix2 i q)) (ahead p u r.val (by omega) q) (ahead p u (r.val + 1) (by omega) q)
    (u (ix2 r q))

/-- The activated half's convolution. -/
theorem conv_value (r q : Fin 512) :
    k0_pay11 (k0_pay5 a b) (k0_pay7 a b p) k0_pay8 (k0_pay9 a b p) (k0_pay10 p) w bias (ix2 r q)
      = blockConv p w bias (k0_pay5 a b) r q := by
  unfold blockConv
  rw [← before_apply p (k0_pay5 a b) r q, ← two_before_apply p (k0_pay5 a b) r q]
  pointwise [k0_pay11, k0_pay7, k0_pay8, k0_pay9, k0_pay10, tapped]

/-- The gated activation, from the other half's values and this half's convolution. -/
theorem act_value (v : FVec Ideal S512x512 .f32) (r q : Fin 512) :
    k0_pay4 v (k0_pay15 a b) p (iota .tc S512x512 32 [0] iota_S512x512_d0_w32) (k0_pay17 a b p) k0_pay18 w bias (ix2 r q)
      = gated (v (ix2 r q)) (blockConv p w bias (k0_pay5 a b) r q) := by
  rw [← product_gate]
  unfold blockConv
  rw [← before_apply p (k0_pay15 a b) r q, ← two_before_apply p (k0_pay15 a b) r q]
  pointwise [k0_pay4, k0_pay17, k0_pay18, tapped, gated]

variable (u : FVec Ideal S512x512 .f32) (r : Fin 2) (q : Fin 512)

/-- The two rows kept for the next point are the last two. -/
theorem kept_a : k0_pay13 u (ix2 r q) = u (ix2 ⟨510 + r.val, by omega⟩ q) := by
  pointwise [k0_pay13, k0_pay12]
@[inherit_doc kept_a] theorem kept_g : k0_pay2 u (ix2 r q) = u (ix2 ⟨510 + r.val, by omega⟩ q) := by
  pointwise [k0_pay2, k0_pay1]

/-- So are the two rows returned. -/
theorem returned_a : k0_pay14 u (ix3 0 r q) = u (ix2 ⟨510 + r.val, by omega⟩ q) := by
  pointwise [k0_pay14, k0_pay12]
@[inherit_doc returned_a] theorem returned_g : k0_pay3 u (ix3 0 r q) = u (ix2 ⟨510 + r.val, by omega⟩ q) := by
  pointwise [k0_pay3, k0_pay1]

/-- The two rows in front of a sequence. -/
theorem past_a (x : Vec Ideal S1x2x512 .f32) : k0_pay6 x (ix2 r q) = x (ix3 0 r q) := by
  pointwise [k0_pay6]
@[inherit_doc past_a] theorem past_g (x : Vec Ideal S1x2x512 .f32) : k0_pay16 x (ix2 r q) = x (ix3 0 r q) := by
  pointwise [k0_pay16]

end Cert.Proof.Up

end
-- ==== Proof.Up.Spec.lean ====
/- The up projection as a function of its arguments, and its rows met block by block. -/
module

public import proofs.«01_k».proof.Defs
public import proofs.«01_k».proof.Proof.Up.Block

@[expose] public section

set_option maxRecDepth 16384

noncomputable section

namespace Cert.Proof.Up

open Idealize.ShloMosaic Idealize.ShloMosaic.TcCoe Idealize.SL.Sem
open Cert.UpIdeal Cert.UpIdeal.Gen

variable (h : FVec Ideal S32768x2048 .bf16) (w : FVec Ideal S2048x11264 .bf16) (wc : FVec Ideal S3x11264 .f32)
  (bias : FVec Ideal S11264 .f32) (past : FVec Ideal S2x2x11264 .f32)

/-- The product of the rows by the weight. -/
def hidden (r : Fin 32768) (q : Fin 11264) : EReal := ∑ k : Fin 2048, h (ix2 r k) * w (ix2 k q)

/-- A sequence's two carried rows, then its 16384 rows of the product: the row `n` of the 16386. -/
def line (b : Fin 2) (n : ℕ) (hn : n < 16386) (q : Fin 11264) : EReal :=
  if g : n < 2 then past (ix3 b ⟨n, g⟩ q) else hidden h w ⟨b.val * 16384 + (n - 2), by omega⟩ q

/-- The convolution over three rows that ends at the row `n` of the sequence. -/
def conv (b : Fin 2) (n : ℕ) (hn : n < 16384) (q : Fin 11264) : EReal :=
  tapped (bias (ix1 q)) (fun i => wc (ix2 i q)) (line h w past b n (by omega) q) (line h w past b (n + 1) (by omega) q)
    (line h w past b (n + 2) (by omega) q)

/-- The gated activation: the columns' first half activated, times the second half. -/
def activation : FVec Ideal S32768x5632 .bf16 := fun i =>
  have hi : (i 0).val < 32768 := (i 0).isLt
  have hq : (i 1).val < 5632 := (i 1).isLt
  gated (conv h w wc bias past ⟨(i 0).val / 16384, by omega⟩ ((i 0).val % 16384) (by omega) ⟨(i 1).val, by omega⟩)
    (conv h w wc bias past ⟨(i 0).val / 16384, by omega⟩ ((i 0).val % 16384) (by omega) ⟨5632 + (i 1).val, by omega⟩)

/-- The last two rows of either sequence, the columns' first half. -/
def lastA : FVec Ideal S2x2x5632 .f32 := fun i =>
  have h1 : (i 1).val < 2 := (i 1).isLt
  have hq : (i 2).val < 5632 := (i 2).isLt
  line h w past (i 0) (16384 + (i 1).val) (by omega) ⟨(i 2).val, by omega⟩

/-- The last two rows of either sequence, the columns' second half. -/
def lastG : FVec Ideal S2x2x5632 .f32 := fun i =>
  have h1 : (i 1).val < 2 := (i 1).isLt
  have hq : (i 2).val < 5632 := (i 2).isLt
  line h w past (i 0) (16384 + (i 1).val) (by omega) ⟨5632 + (i 2).val, by omega⟩

/-- A block of 512 rows of the product with the right two rows in front is a stretch of the sequence's rows. -/
theorem ahead_eq_line (M : ℕ) (hM : M < 64) (p : FVec Ideal S2x512 .f32) (u : FVec Ideal S512x512 .f32) (q : Fin 512)
    (col : Fin 11264) (hu : ∀ r : Fin 512, u (ix2 r q) = hidden h w ⟨M * 512 + r.val, by omega⟩ col)
    (hp0 : ∀ (_ : M % 32 = 0) (n : Fin 2), p (ix2 n q) = past (ix3 ⟨M / 32, by omega⟩ n col))
    (hp1 : ∀ (_ : ¬M % 32 = 0) (n : Fin 2), p (ix2 n q) = hidden h w ⟨(M - 1) * 512 + (510 + n.val), by omega⟩ col)
    (n : ℕ) (hn : n < 514) :
    ahead p u n hn q = line h w past ⟨M / 32, by omega⟩ (M % 32 * 512 + n) (by omega) col := by
  unfold ahead line
  by_cases h2 : n < 2
  · rw [dif_pos h2]
    by_cases h0 : M % 32 = 0
    · rw [dif_pos (by omega), hp0 h0]
      exact congrArg past (congrArg (fun k => ix3 _ k col) (Fin.ext (by show n = M % 32 * 512 + n; omega)))
    · rw [dif_neg (by omega), hp1 h0]
      exact congrArg (fun k => hidden h w k col) (Fin.ext (by show (M - 1) * 512 + (510 + n) = M / 32 * 16384 + (M % 32 * 512 + n - 2); omega))
  · rw [dif_neg h2, dif_neg (by omega), hu]
    exact congrArg (fun k => hidden h w k col) (Fin.ext (by show M * 512 + (n - 2) = M / 32 * 16384 + (M % 32 * 512 + n - 2); omega))

/-- The row of the block itself is the row two further on. -/
theorem ahead_self (p : FVec Ideal S2x512 .f32) (u : FVec Ideal S512x512 .f32) (r q : Fin 512) :
    u (ix2 r q) = ahead p u (r.val + 2) (by omega) q := by
  unfold ahead
  rw [dif_neg (by omega)]
  exact congrArg u (congrArg (fun k => ix2 k q) (Fin.ext (by show r.val = r.val + 2 - 2; omega)))

/-- The block's convolution is the sequence's. -/
theorem blockConv_eq_conv (M : ℕ) (hM : M < 64) (p : FVec Ideal S2x512 .f32) (u : FVec Ideal S512x512 .f32)
    (w3 : Vec Ideal S3x512 .f32) (b1 : Vec Ideal S1x512 .f32) (r q : Fin 512)
    (col : Fin 11264) (hu : ∀ r : Fin 512, u (ix2 r q) = hidden h w ⟨M * 512 + r.val, by omega⟩ col)
    (hp0 : ∀ (_ : M % 32 = 0) (n : Fin 2), p (ix2 n q) = past (ix3 ⟨M / 32, by omega⟩ n col))
    (hp1 : ∀ (_ : ¬M % 32 = 0) (n : Fin 2), p (ix2 n q) = hidden h w ⟨(M - 1) * 512 + (510 + n.val), by omega⟩ col)
    (hb : b1 (ix2 0 q) = bias (ix1 col)) (hw : ∀ i : Fin 3, w3 (ix2 i q) = wc (ix2 i col)) :
    blockConv p w3 b1 u r q = conv h w wc bias past ⟨M / 32, by omega⟩ (M % 32 * 512 + r.val) (by omega) col := by
  unfold blockConv conv
  rw [hb, ahead_self p u r q, funext hw]
  rw [ahead_eq_line h w past M hM p u q col hu hp0 hp1, ahead_eq_line h w past M hM p u q col hu hp0 hp1,
    ahead_eq_line h w past M hM p u q col hu hp0 hp1]
  rfl

end Cert.Proof.Up

end
-- ==== Proof.Up.Reads.lean ====
/- The blocks the pipeline hands the up projection, as entries of the argument arrays. -/
module

public import proofs.«01_k».proof.Defs
public import proofs.«01_k».proof.Proof.Gen.UpIdeal.Value
public import Idealize.ShloMosaic.Lib.Pointwise
public import Idealize.ShloMosaic.Lib.Pipeline.ValueKit
public import Idealize.ShloMosaic.Lib.StableHlo.Run
public import Idealize.ShloMosaic.Lib.ValueLayout

@[expose] public section

set_option maxRecDepth 16384

noncomputable section

namespace Cert.Proof.Up

open Idealize.ShloMosaic Idealize.ShloMosaic.TcCoe Idealize.SL.Sem
open Cert.UpIdeal Cert.UpIdeal.Gen

/-- The column tile of a point, and its row tile. -/
abbrev tileJ (t : Fin cfg0.N) : ℕ := (grid0.coords t 0).val
@[inherit_doc tileJ] abbrev tileM (t : Fin cfg0.N) : ℕ := (grid0.coords t 1).val

theorem index_rows : ∀ t : Fin grid0.N, win0_0.index t = ![(grid0.coords t 1).val, 0] := by decide +kernel
theorem index_weight_a : ∀ t : Fin grid0.N, win0_1.index t = ![0, (grid0.coords t 0).val] := by decide +kernel
theorem index_weight_g : ∀ t : Fin grid0.N, win0_2.index t = ![0, (grid0.coords t 0).val + 11] := by decide +kernel
theorem index_taps_a : ∀ t : Fin grid0.N, win0_3.index t = ![0, (grid0.coords t 0).val] := by decide +kernel
theorem index_taps_g : ∀ t : Fin grid0.N, win0_4.index t = ![0, (grid0.coords t 0).val + 11] := by decide +kernel
theorem index_bias_a : ∀ t : Fin grid0.N, win0_5.index t = ![0, (grid0.coords t 0).val] := by decide +kernel
theorem index_bias_g : ∀ t : Fin grid0.N, win0_6.index t = ![0, (grid0.coords t 0).val + 11] := by decide +kernel
theorem index_past_a : ∀ t : Fin grid0.N, win0_7.index t = ![(grid0.coords t 1).val / 32, 0, (grid0.coords t 0).val] := by decide +kernel
theorem index_past_g : ∀ t : Fin grid0.N, win0_8.index t = ![(grid0.coords t 1).val / 32, 0, (grid0.coords t 0).val + 11] := by decide +kernel
theorem index_act : ∀ t : Fin grid0.N, win0_9.index t = ![(grid0.coords t 1).val, (grid0.coords t 0).val] := by decide +kernel
theorem index_last_a : ∀ t : Fin grid0.N, win0_10.index t = ![(grid0.coords t 1).val / 32, 0, (grid0.coords t 0).val] := by decide +kernel
theorem index_last_g : ∀ t : Fin grid0.N, win0_11.index t = ![(grid0.coords t 1).val / 32, 0, (grid0.coords t 0).val] := by decide +kernel

/-- A point is the first of a sequence by its row tile. -/
theorem first_iff : ∀ t : Fin grid0.N, t.val % 32 = (grid0.coords t 1).val % 32 := by decide +kernel
/-- The point before, inside a sequence, has the same column tile and the row tile before. -/
theorem before_coords : ∀ t : Fin grid0.N, ¬t.val % 32 = 0 → ∀ s : Fin grid0.N, s.val = t.val - 1 →
    (grid0.coords s 0).val = (grid0.coords t 0).val ∧ (grid0.coords s 1).val = (grid0.coords t 1).val - 1 := by
  intro t h s hs
  have e : s = ⟨t.val - 1, Nat.lt_of_le_of_lt (Nat.sub_le _ _) t.isLt⟩ := Fin.ext hs
  subst e
  revert t
  decide +kernel
/-- The last rows are written back only from a sequence's last point. -/
theorem last_point_a : ∀ t : Fin grid0.N, (cfg0.win 10).flush t = true → (grid0.coords t 1).val % 32 = 31 := by decide +kernel
@[inherit_doc last_point_a] theorem last_point_g : ∀ t : Fin grid0.N, (cfg0.win 11).flush t = true → (grid0.coords t 1).val % 32 = 31 := by
  decide +kernel
theorem tileJ_lt (t : Fin cfg0.N) : tileJ t < 11 := (grid0.coords t 0).isLt
theorem tileM_lt (t : Fin cfg0.N) : tileM t < 64 := (grid0.coords t 1).isLt

variable (m : (ℓ : Loc nD τ sig) → Buf (Elt Ideal) ℓ) (c : Dev nD) (t : Fin cfg0.N)

/-- The rows of the point's row tile. -/
theorem read_rows (j : S512x2048.Idx) (i : S32768x2048.Idx)
    (h0 : (i 0).val = tileM t * 512 + (j 0).val) (h1 : (i 1).val = (j 1).val) :
    iblk m c 0 t j = m ((c : Thread nD τ).loc main_arg0) i := by
  show V m c (Pipeline.arrRef spec0 0) _ = _
  rw [V_main_arg0]
  refine congrArg _ (funext fun a => Fin.ext ?_)
  fin_cases a
  · blk_simp [index_rows]
    exact h0.symm
  · blk_simp [index_rows]
    exact h1.symm

/-- The weight's columns of the tile, in the first half. -/
theorem read_weight_a (j : S2048x512.Idx) (i : S2048x11264.Idx)
    (h0 : (i 0).val = (j 0).val) (h1 : (i 1).val = (tileJ t) * 512 + (j 1).val) :
    iblk m c 1 t j = m ((c : Thread nD τ).loc main_arg1) i := by
  show V m c (Pipeline.arrRef spec0 1) _ = _
  rw [V_main_arg1]
  refine congrArg _ (funext fun a => Fin.ext ?_)
  fin_cases a
  · blk_simp [index_weight_a]
    exact h0.symm
  · blk_simp [index_weight_a]
    exact h1.symm

/-- The convolution's weights of the tile, in the first half. -/
theorem read_taps_a (j : S3x512.Idx) (i : S3x11264.Idx)
    (h0 : (i 0).val = (j 0).val) (h1 : (i 1).val = (tileJ t) * 512 + (j 1).val) :
    iblk m c 3 t j = m ((c : Thread nD τ).loc main_arg2) i := by
  show V m c (Pipeline.arrRef spec0 3) _ = _
  rw [V_main_arg2]
  refine congrArg _ (funext fun a => Fin.ext ?_)
  fin_cases a
  · blk_simp [index_taps_a]
    exact h0.symm
  · blk_simp [index_taps_a]
    exact h1.symm

/-- The carried rows of the tile's sequence, in the first half. -/
theorem read_past_a (j : S1x2x512.Idx) (i : S2x2x11264.Idx)
    (h0 : (i 0).val = tileM t / 32) (h1 : (i 1).val = (j 1).val) (h2 : (i 2).val = (tileJ t) * 512 + (j 2).val) :
    iblk m c 7 t j = m ((c : Thread nD τ).loc main_arg4) i := by
  show V m c (Pipeline.arrRef spec0 7) _ = _
  rw [V_main_arg4]
  refine congrArg _ (funext fun a => Fin.ext ?_)
  fin_cases a
  · blk_simp [index_past_a]
    exact h0.symm
  · blk_simp [index_past_a]
    exact h1.symm
  · blk_simp [index_past_a]
    exact h2.symm

/-- The weight's columns of the tile, in the second half. -/
theorem read_weight_g (j : S2048x512.Idx) (i : S2048x11264.Idx)
    (h0 : (i 0).val = (j 0).val) (h1 : (i 1).val = (tileJ t + 11) * 512 + (j 1).val) :
    iblk m c 2 t j = m ((c : Thread nD τ).loc main_arg1) i := by
  show V m c (Pipeline.arrRef spec0 2) _ = _
  rw [V_main_arg1]
  refine congrArg _ (funext fun a => Fin.ext ?_)
  fin_cases a
  · blk_simp [index_weight_g]
    exact h0.symm
  · blk_simp [index_weight_g]
    exact h1.symm

/-- The convolution's weights of the tile, in the second half. -/
theorem read_taps_g (j : S3x512.Idx) (i : S3x11264.Idx)
    (h0 : (i 0).val = (j 0).val) (h1 : (i 1).val = (tileJ t + 11) * 512 + (j 1).val) :
    iblk m c 4 t j = m ((c : Thread nD τ).loc main_arg2) i := by
  show V m c (Pipeline.arrRef spec0 4) _ = _
  rw [V_main_arg2]
  refine congrArg _ (funext fun a => Fin.ext ?_)
  fin_cases a
  · blk_simp [index_taps_g]
    exact h0.symm
  · blk_simp [index_taps_g]
    exact h1.symm

/-- The carried rows of the tile's sequence, in the second half. -/
theorem read_past_g (j : S1x2x512.Idx) (i : S2x2x11264.Idx)
    (h0 : (i 0).val = tileM t / 32) (h1 : (i 1).val = (j 1).val) (h2 : (i 2).val = (tileJ t + 11) * 512 + (j 2).val) :
    iblk m c 8 t j = m ((c : Thread nD τ).loc main_arg4) i := by
  show V m c (Pipeline.arrRef spec0 8) _ = _
  rw [V_main_arg4]
  refine congrArg _ (funext fun a => Fin.ext ?_)
  fin_cases a
  · blk_simp [index_past_g]
    exact h0.symm
  · blk_simp [index_past_g]
    exact h1.symm
  · blk_simp [index_past_g]
    exact h2.symm

/-- The bias as one row. -/
theorem bias_row (z : Fin 1) (q : Fin 11264) : V m c main_v0 (ix2 z q) = m ((c : Thread nD τ).loc main_arg3) (ix1 q) := by
  have e : V m c main_v0 = shapeCast S1x11264 (m ((c : Thread nD τ).loc main_arg3)) shapeCasts_S11264_S1x11264 := by
    unfold_abbrev_sides
    after_results
    rfl
  rw [e]
  exact ValueIdx.shapeCast_a_1a_apply _ _ z q

/-- The bias of the tile, in the first half. -/
theorem read_bias_a (q : Fin 512) (col : Fin 11264) (h : col.val = (tileJ t) * 512 + q.val) :
    iblk m c 5 t (ix2 0 q) = m ((c : Thread nD τ).loc main_arg3) (ix1 col) := by
  rw [← bias_row m c 0 col]
  show V m c (Pipeline.arrRef spec0 5) _ = _
  refine congrArg (V m c main_v0) (funext fun a => Fin.ext ?_)
  fin_cases a
  · blk_simp [index_bias_a]
  · blk_simp [index_bias_a]
    exact h.symm

/-- The bias of the tile, in the second half. -/
theorem read_bias_g (q : Fin 512) (col : Fin 11264) (h : col.val = (tileJ t + 11) * 512 + q.val) :
    iblk m c 6 t (ix2 0 q) = m ((c : Thread nD τ).loc main_arg3) (ix1 col) := by
  rw [← bias_row m c 0 col]
  show V m c (Pipeline.arrRef spec0 6) _ = _
  refine congrArg (V m c main_v0) (funext fun a => Fin.ext ?_)
  fin_cases a
  · blk_simp [index_bias_g]
  · blk_simp [index_bias_g]
    exact h.symm

end Cert.Proof.Up

end
-- ==== Proof.Up.Points.lean ====
/- What a grid point of the up projection leaves in its outputs and in the two rows it keeps, as the whole arrays' values. -/
module

public import proofs.«01_k».proof.Defs
public import proofs.«01_k».proof.Proof.Up.Spec
public import proofs.«01_k».proof.Proof.Up.Reads

@[expose] public section

set_option maxRecDepth 16384

noncomputable section

namespace Cert.Proof.Up

open Idealize.ShloMosaic Idealize.ShloMosaic.TcCoe Idealize.SL.Sem
open Cert.UpIdeal Cert.UpIdeal.Gen

variable (m : (ℓ : Loc nD τ sig) → Buf (Elt Ideal) ℓ) (c : Dev nD) (t : Fin cfg0.N)

/-- The point's product in the columns' first half, and in the second. -/
def productA : FVec Ideal S512x512 .f32 := k0_pay5 (iblk m c 0 t) (iblk m c 1 t)
@[inherit_doc productA] def productG : FVec Ideal S512x512 .f32 := k0_pay5 (iblk m c 0 t) (iblk m c 2 t)

/-- The point before. -/
def before : Fin cfg0.N := ⟨t.val - 1, Nat.lt_of_le_of_lt (Nat.sub_le _ _) t.isLt⟩

/-- The two rows in front of the point's: the carried rows at a sequence's start, else the last rows of the point before. -/
def frontA : FVec Ideal S2x512 .f32 :=
  if t.val % 32 = 0 then k0_pay6 (iblk m c 7 t) else k0_pay13 (productA m c (before t))
@[inherit_doc frontA] def frontG : FVec Ideal S2x512 .f32 :=
  if t.val % 32 = 0 then k0_pay16 (iblk m c 8 t) else k0_pay2 (productG m c (before t))

/-- Every point keeps the last two rows of its products. -/
theorem keeps_a : (outsAt0 m c t.val t.isLt).2.2.2.1 = k0_pay13 (productA m c t) := by
  by_cases h : t.val % 32 = 0
  · rw [outsAt0_A m c t h h]
    frame_out
    rfl
  · rw [outsAt0_B m c t h h]
    frame_out
    rfl
@[inherit_doc keeps_a] theorem keeps_g : (outsAt0 m c t.val t.isLt).2.2.2.2 = k0_pay2 (productG m c t) := by
  by_cases h : t.val % 32 = 0
  · rw [outsAt0_A m c t h h]
    frame_out
    rfl
  · rw [outsAt0_B m c t h h]
    frame_out
    rfl

/-- Every point returns them. -/
theorem returns_a : (outsAt0 m c t.val t.isLt).2.1 = k0_pay14 (productA m c t) := by
  by_cases h : t.val % 32 = 0
  · rw [outsAt0_A m c t h h]
    frame_out
    rfl
  · rw [outsAt0_B m c t h h]
    frame_out
    rfl
@[inherit_doc returns_a] theorem returns_g : (outsAt0 m c t.val t.isLt).2.2.1 = k0_pay3 (productG m c t) := by
  by_cases h : t.val % 32 = 0
  · rw [outsAt0_A m c t h h]
    frame_out
    rfl
  · rw [outsAt0_B m c t h h]
    frame_out
    rfl

/-- Every point's activation is computed from its products and the two rows in front. -/
theorem act_at (r q : Fin 512) : (outsAt0 m c t.val t.isLt).1 (ix2 r q)
    = gated (blockConv (frontA m c t) (iblk m c 3 t) (iblk m c 5 t) (productA m c t) r q)
        (blockConv (frontG m c t) (iblk m c 4 t) (iblk m c 6 t) (productG m c t) r q) := by
  by_cases h : t.val % 32 = 0
  · rw [outsAt0_A m c t h h]
    frame_out
    refine (act_value _ _ _ _ _ _ r q).trans ?_
    rw [conv_value]
    unfold frontA frontG
    rw [if_pos h, if_pos h]
    rfl
  · rw [outsAt0_B m c t h h]
    frame_out
    refine (act_value _ _ _ _ _ _ r q).trans ?_
    rw [conv_value]
    unfold frontA frontG
    rw [if_neg h, if_neg h, ← keeps_a m c (before t), ← keeps_g m c (before t)]
    rw [Memref.IsWhole.read_unread (Memref.isWhole_whole cc0_scratch0), Memref.IsWhole.read_unread (Memref.isWhole_whole cc0_scratch1)]
    rfl

/-- The two halves' columns of a point. -/
def colA (q : Fin 512) : Fin 11264 := ⟨tileJ t * 512 + q.val, by have := tileJ_lt t; omega⟩
@[inherit_doc colA] def colG (q : Fin 512) : Fin 11264 := ⟨(tileJ t + 11) * 512 + q.val, by have := tileJ_lt t; omega⟩

/-- The argument arrays. -/
abbrev argH : FVec Ideal S32768x2048 .bf16 := m ((c : Thread nD τ).loc main_arg0)
@[inherit_doc argH] abbrev argW : FVec Ideal S2048x11264 .bf16 := m ((c : Thread nD τ).loc main_arg1)
@[inherit_doc argH] abbrev argT : FVec Ideal S3x11264 .f32 := m ((c : Thread nD τ).loc main_arg2)
@[inherit_doc argH] abbrev argB : FVec Ideal S11264 .f32 := m ((c : Thread nD τ).loc main_arg3)
@[inherit_doc argH] abbrev argP : FVec Ideal S2x2x11264 .f32 := m ((c : Thread nD τ).loc main_arg4)

/-- The point's product is the whole product at its rows and columns. -/
theorem productA_eq (r q : Fin 512) : productA m c t (ix2 r q)
    = hidden (argH m c) (argW m c) ⟨tileM t * 512 + r.val, by have := tileM_lt t; omega⟩ (colA t q) := by
  unfold productA
  rw [product_value]
  refine Finset.sum_congr rfl fun k _ => ?_
  exact congrArg₂ (fun x y : EReal => x * y) (read_rows m c t (ix2 r k) _ rfl rfl) (read_weight_a m c t (ix2 k q) (ix2 k (colA t q)) rfl rfl)
@[inherit_doc productA_eq] theorem productG_eq (r q : Fin 512) : productG m c t (ix2 r q)
    = hidden (argH m c) (argW m c) ⟨tileM t * 512 + r.val, by have := tileM_lt t; omega⟩ (colG t q) := by
  unfold productG
  rw [product_value]
  refine Finset.sum_congr rfl fun k _ => ?_
  exact congrArg₂ (fun x y : EReal => x * y) (read_rows m c t (ix2 r k) _ rfl rfl) (read_weight_g m c t (ix2 k q) (ix2 k (colG t q)) rfl rfl)

/-- At a sequence's start the rows in front are the carried rows. -/
theorem frontA_first (h : tileM t % 32 = 0) (n : Fin 2) (q : Fin 512) :
    frontA m c t (ix2 n q) = argP m c (ix3 ⟨tileM t / 32, by have := tileM_lt t; omega⟩ n (colA t q)) := by
  unfold frontA
  rw [if_pos ((first_iff t).trans h), past_a]
  exact read_past_a m c t (ix3 0 n q) _ rfl rfl rfl
@[inherit_doc frontA_first] theorem frontG_first (h : tileM t % 32 = 0) (n : Fin 2) (q : Fin 512) :
    frontG m c t (ix2 n q) = argP m c (ix3 ⟨tileM t / 32, by have := tileM_lt t; omega⟩ n (colG t q)) := by
  unfold frontG
  rw [if_pos ((first_iff t).trans h), past_g]
  exact read_past_g m c t (ix3 0 n q) _ rfl rfl rfl

/-- Inside a sequence they are the product's two rows before the point's. -/
theorem frontA_inside (h : ¬tileM t % 32 = 0) (n : Fin 2) (q : Fin 512) :
    frontA m c t (ix2 n q)
      = hidden (argH m c) (argW m c) ⟨(tileM t - 1) * 512 + (510 + n.val), by have := tileM_lt t; omega⟩ (colA t q) := by
  have h' : ¬t.val % 32 = 0 := fun e => h ((first_iff t).symm.trans e)
  obtain ⟨e0, e1⟩ := before_coords t h' (before t) rfl
  unfold frontA
  rw [if_neg h', kept_a, productA_eq]
  exact congrArg₂ (hidden (argH m c) (argW m c))
    (Fin.ext (by show (grid0.coords (before t) 1).val * 512 + (510 + n.val) = _; rw [e1]))
    (Fin.ext (by show (grid0.coords (before t) 0).val * 512 + q.val = (grid0.coords t 0).val * 512 + q.val; rw [e0]))
@[inherit_doc frontA_inside] theorem frontG_inside (h : ¬tileM t % 32 = 0) (n : Fin 2) (q : Fin 512) :
    frontG m c t (ix2 n q)
      = hidden (argH m c) (argW m c) ⟨(tileM t - 1) * 512 + (510 + n.val), by have := tileM_lt t; omega⟩ (colG t q) := by
  have h' : ¬t.val % 32 = 0 := fun e => h ((first_iff t).symm.trans e)
  obtain ⟨e0, e1⟩ := before_coords t h' (before t) rfl
  unfold frontG
  rw [if_neg h', kept_g, productG_eq]
  exact congrArg₂ (hidden (argH m c) (argW m c))
    (Fin.ext (by show (grid0.coords (before t) 1).val * 512 + (510 + n.val) = _; rw [e1]))
    (Fin.ext (by show ((grid0.coords (before t) 0).val + 11) * 512 + q.val = ((grid0.coords t 0).val + 11) * 512 + q.val; rw [e0]))

/-- The point's convolutions are the sequence's. -/
theorem convA_eq (r q : Fin 512) : blockConv (frontA m c t) (iblk m c 3 t) (iblk m c 5 t) (productA m c t) r q
    = conv (argH m c) (argW m c) (argT m c) (argB m c) (argP m c) ⟨tileM t / 32, by have := tileM_lt t; omega⟩
        (tileM t % 32 * 512 + r.val) (by omega) (colA t q) :=
  blockConv_eq_conv _ _ _ _ _ (tileM t) (tileM_lt t) _ _ _ _ r q (colA t q) (fun r => productA_eq m c t r q)
    (fun h n => frontA_first m c t h n q) (fun h n => frontA_inside m c t h n q) (read_bias_a m c t q (colA t q) rfl)
    (fun i => read_taps_a m c t (ix2 i q) (ix2 i (colA t q)) rfl rfl)
@[inherit_doc convA_eq] theorem convG_eq (r q : Fin 512) :
    blockConv (frontG m c t) (iblk m c 4 t) (iblk m c 6 t) (productG m c t) r q
    = conv (argH m c) (argW m c) (argT m c) (argB m c) (argP m c) ⟨tileM t / 32, by have := tileM_lt t; omega⟩
        (tileM t % 32 * 512 + r.val) (by omega) (colG t q) :=
  blockConv_eq_conv _ _ _ _ _ (tileM t) (tileM_lt t) _ _ _ _ r q (colG t q) (fun r => productG_eq m c t r q)
    (fun h n => frontG_first m c t h n q) (fun h n => frontG_inside m c t h n q) (read_bias_g m c t q (colG t q) rfl)
    (fun i => read_taps_g m c t (ix2 i q) (ix2 i (colG t q)) rfl rfl)

end Cert.Proof.Up

end
-- ==== Proof.Up.Reference.lean ====
/- What the reference of the up projection computes. -/
module

public import proofs.«01_k».proof.Defs
public import proofs.«01_k».proof.Proof.Gen.UpRefIdeal.Run
public import proofs.«01_k».proof.Proof.Up.Spec
public import Idealize.ShloMosaic.Lib.Pointwise
public import Idealize.ShloMosaic.Lib.ValueLayout

@[expose] public section

set_option maxRecDepth 65536

noncomputable section

namespace Cert.Proof.Up

open Idealize.ShloMosaic Idealize.ShloMosaic.TcCoe Idealize.SL.Sem
open Cert.UpRefIdeal Cert.UpRefIdeal.Gen

variable (h : FVec Ideal S32768x2048 .bf16) (w : FVec Ideal S2048x11264 .bf16) (wc : FVec Ideal S3x11264 .f32)
  (bias : FVec Ideal S11264 .f32) (past : FVec Ideal S2x2x11264 .f32)

/-- The rows of the product by sequence. -/
def products : FVec Ideal S2x16384x11264 .f32 :=
  Host.dotGeneral dot_S2x16384x2048_S2048x11264_S2x16384x11264_2_0_01_1_n_n none
    (shapeCast S2x16384x2048 (extf .f32 h bitsLt_bf16_f32) shapeCasts_S32768x2048_S2x16384x2048) (extf .f32 w bitsLt_bf16_f32)

/-- The carried rows and the product's rows, laid end to end along a sequence. -/
def lines : FVec Ideal S2x16386x11264 .f32 :=
  concatenate S2x16386x11264 1 [⟨S2x2x11264, past⟩, ⟨S2x16384x11264, products h w⟩]
    concatenates_S2x2x11264_S2x16384x11264_S2x16386x11264_d1

theorem products_apply (b : Fin 2) (s : Fin 16384) (q : Fin 11264) :
    products h w (ix3 b s q) = hidden h w ⟨b.val * 16384 + s.val, by omega⟩ q := by
  pointwise [products, hidden]

/-- A row of the sequence's 16386. -/
theorem lines_apply (b : Fin 2) (n : Fin 16386) (q : Fin 11264) :
    lines h w past (ix3 b n q) = line h w past b n.val n.isLt q := by
  pointwise [lines, line]
  by_cases g : n.val < 2
  · rw [dif_pos g, dif_pos g]
  · rw [dif_neg g, dif_neg g]
    exact products_apply h w b ⟨n.val - 2, by omega⟩ q

/-- The weights of one of the three rows, laid over every row. -/
def weights (x : FVec Ideal S1x11264 .f32) : FVec Ideal S2x16384x11264 .f32 :=
  broadcastInDim S2x16384x11264 ![0, 1, 2] bcast_S1x1x11264_S2x16384x11264_0_1_2
    (broadcastInDim S1x1x11264 ![2] bcast_S11264_S1x1x11264_2 (shapeCast S11264 x shapeCasts_S1x11264_S11264))

theorem weights_apply (x : FVec Ideal S1x11264 .f32) (b : Fin 2) (s : Fin 16384) (q : Fin 11264) :
    weights x (ix3 b s q) = x (ix2 0 q) := by
  refine Eq.trans ?_ (ValueIdx.shapeCast_1a_a_apply x shapeCasts_S1x11264_S11264 q)
  unfold weights
  generalize shapeCast S11264 x shapeCasts_S1x11264_S11264 = y
  pointwise []
  rfl

/-- The reference's convolution, as its operations. -/
def convs : FVec Ideal S2x16384x11264 .f32 :=
  addf (addf (addf
    (broadcastInDim S2x16384x11264 ![0, 1, 2] bcast_S1x1x11264_S2x16384x11264_0_1_2
      (broadcastInDim S1x1x11264 ![2] bcast_S11264_S1x1x11264_2 bias))
    (mulf (weights (extractStridedSlice S1x11264 ![0, 0] wc slices_S3x11264_S1x11264_0_0))
      (extractStridedSlice S2x16384x11264 ![0, 0, 0] (lines h w past) slices_S2x16386x11264_S2x16384x11264_0_0_0)))
    (mulf (weights (extractStridedSlice S1x11264 ![1, 0] wc slices_S3x11264_S1x11264_1_0))
      (extractStridedSlice S2x16384x11264 ![0, 1, 0] (lines h w past) slices_S2x16386x11264_S2x16384x11264_0_1_0)))
    (mulf (weights (extractStridedSlice S1x11264 ![2, 0] wc slices_S3x11264_S1x11264_2_0))
      (extractStridedSlice S2x16384x11264 ![0, 2, 0] (lines h w past) slices_S2x16386x11264_S2x16384x11264_0_2_0))

theorem convs_apply (b : Fin 2) (s : Fin 16384) (q : Fin 11264) :
    convs h w wc bias past (ix3 b s q) = conv h w wc bias past b s.val s.isLt q := by
  have e0 := lines_apply h w past b ⟨s.val, by omega⟩ q
  have e1 := lines_apply h w past b ⟨1 + s.val, by omega⟩ q
  have e2 := lines_apply h w past b ⟨2 + s.val, by omega⟩ q
  unfold conv tapped
  simp only [Nat.add_comm s.val]
  rw [← e0, ← e1, ← e2]
  pointwise [convs, weights_apply]

/-- The reference's activation of its convolution. -/
def gates (x : FVec Ideal S2x16384x11264 .f32) : FVec Ideal S32768x5632 .bf16 :=
  truncf .bf16 (shapeCast _ (mulf (mulf (extractStridedSlice S2x16384x5632 ![0, 0, 0] x slices_S2x16384x11264_S2x16384x5632_0_0_0)
    (Host.divf (broadcastInDim S2x16384x5632 ![] bcast_S_S2x16384x5632 (constant S_ .f32 0x3F800000#32))
      (addf (broadcastInDim S2x16384x5632 ![] bcast_S_S2x16384x5632 (constant S_ .f32 0x3F800000#32))
        (Host.exp (Host.negf (extractStridedSlice S2x16384x5632 ![0, 0, 0] x slices_S2x16384x11264_S2x16384x5632_0_0_0))))))
    (extractStridedSlice S2x16384x5632 ![0, 0, 5632] x slices_S2x16384x11264_S2x16384x5632_0_0_5632))
    shapeCasts_S2x16384x5632_S32768x5632) bitsLt_bf16_f32

theorem gates_apply (x : FVec Ideal S2x16384x11264 .f32) (r : Fin 32768) (q : Fin 5632) :
    gates x (ix2 r q) = gated (x (ix3 ⟨r.val / 16384, by omega⟩ ⟨r.val % 16384, by omega⟩ ⟨q.val, by omega⟩))
      (x (ix3 ⟨r.val / 16384, by omega⟩ ⟨r.val % 16384, by omega⟩ ⟨5632 + q.val, by omega⟩)) := by
  pointwise [gates, gated]
  rfl

variable (m' : (ℓ : Loc nD τ sig) → Buf (Elt Ideal) ℓ) (c : Dev nD)

/-- The reference's first result is the gated activation. -/
theorem reference_activation : Cert.UpRefIdeal.Value.res_main_v34 m' c
    = activation (m' ((c : Thread nD τ).loc main_arg0)) (m' ((c : Thread nD τ).loc main_arg1))
        (m' ((c : Thread nD τ).loc main_arg2)) (m' ((c : Thread nD τ).loc main_arg3)) (m' ((c : Thread nD τ).loc main_arg4)) := by
  show gates (convs (m' ((c : Thread nD τ).loc main_arg0)) (m' ((c : Thread nD τ).loc main_arg1))
        (m' ((c : Thread nD τ).loc main_arg2)) (m' ((c : Thread nD τ).loc main_arg3)) (m' ((c : Thread nD τ).loc main_arg4))) = _
  funext j
  idx_vars j
  rw [gates_apply, convs_apply, convs_apply]
  rfl

/-- Its other two results are the last two rows of either sequence, by halves of the columns. -/
theorem reference_lastA : extractStridedSlice S2x2x5632 ![0, 0, 0] (extractStridedSlice S2x2x11264 ![0, 16384, 0] (lines h w past)
    slices_S2x16386x11264_S2x2x11264_0_16384_0) slices_S2x2x11264_S2x2x5632_0_0_0 = lastA h w past := by
  funext j
  idx_vars j
  pointwise [lastA]
  exact lines_apply h w past j0 _ _
@[inherit_doc reference_lastA] theorem reference_lastG : extractStridedSlice S2x2x5632 ![0, 0, 5632] (extractStridedSlice S2x2x11264 ![0, 16384, 0] (lines h w past)
    slices_S2x16386x11264_S2x2x11264_0_16384_0) slices_S2x2x11264_S2x2x5632_0_0_5632 = lastG h w past := by
  funext j
  idx_vars j
  pointwise [lastG]
  exact lines_apply h w past j0 _ _

end Cert.Proof.Up

end
-- ==== Proof.Up.Array.lean ====
/- The up projection's arrays after the run, and their equality with the reference's results. -/
module

public import proofs.«01_k».proof.Defs
public import proofs.«01_k».proof.Proof.Gen.UpIdeal.Value
public import proofs.«01_k».proof.Proof.Gen.UpRefIdeal.Run
public import proofs.«01_k».proof.Proof.Up.Points
public import proofs.«01_k».proof.Proof.Up.Reference
public import Idealize.ShloMosaic.Lib.Pipeline.Covers
public import Idealize.ShloMosaic.Lib.Quiescent

@[expose] public section

set_option maxRecDepth 16384

noncomputable section

namespace Cert.Proof.Up

open Idealize.ShloMosaic Idealize.ShloMosaic.TcCoe Idealize.SL.Sem
open Cert.UpIdeal Cert.UpIdeal.Gen

variable (m : (ℓ : Loc nD τ sig) → Buf (Elt Ideal) ℓ) (c : Dev nD)

/-- Two convolutions at equal sequences, rows and columns. -/
theorem conv_congr (h : FVec Ideal S32768x2048 .bf16) (w : FVec Ideal S2048x11264 .bf16) (wc : FVec Ideal S3x11264 .f32)
    (bias : FVec Ideal S11264 .f32) (past : FVec Ideal S2x2x11264 .f32) {b b' : Fin 2} {n n' : ℕ} {hn : n < 16384}
    {hn' : n' < 16384} {q q' : Fin 11264} (e0 : b.val = b'.val) (e1 : n = n') (e2 : q.val = q'.val) :
    conv h w wc bias past b n hn q = conv h w wc bias past b' n' hn' q' := by
  cases Fin.ext e0; cases e1; cases Fin.ext e2; rfl

/-- Two rows of equal sequences at equal columns. -/
theorem line_congr (h : FVec Ideal S32768x2048 .bf16) (w : FVec Ideal S2048x11264 .bf16)
    (past : FVec Ideal S2x2x11264 .f32) {b b' : Fin 2} {n n' : ℕ} {hn : n < 16386}
    {hn' : n' < 16386} {q q' : Fin 11264} (e0 : b.val = b'.val) (e1 : n = n') (e2 : q.val = q'.val) :
    line h w past b n hn q = line h w past b' n' hn' q' := by
  cases Fin.ext e0; cases e1; cases Fin.ext e2; rfl

/-- The activation's array after the run. -/
theorem activation_array : (dats m 0 c).arrAt 9 cfg0.N
    = activation (argH m c) (argW m c) (argT m c) (argB m c) (argP m c) := by
  refine (dats m 0 c).arrAt_eq_of_covers 9 _ (by decide +kernel) fun t hf y => ?_
  have i0 : ((((cfg0.win 9).blk t).view.emb y 0 : Fin _) : ℕ) = tileM t * 512 + (y 0).val := by
    blk_simp [index_act]
  have i1 : ((((cfg0.win 9).blk t).view.emb y 1 : Fin _) : ℕ) = tileJ t * 512 + (y 1).val := by
    blk_simp [index_act]
  generalize ((cfg0.win 9).blk t).view.emb y = i at i0 i1 ⊢
  blk_simp
  rw [after0_9]
  refine Eq.trans (congrArg (outsAt0 m c t.val t.isLt).1 (eq_ix2 y)) ?_
  have hM := tileM_lt t
  have y0 : (y 0).val < 512 := (y 0).isLt
  refine (act_at m c t (y 0) (y 1)).trans ?_
  refine (congrArg₂ gated (convA_eq m c t (y 0) (y 1)) (convG_eq m c t (y 0) (y 1))).trans ?_
  unfold activation
  exact congrArg₂ gated
    (conv_congr _ _ _ _ _ (by show tileM t / 32 = (i 0).val / 16384; omega) (by omega)
      (by show tileJ t * 512 + (y 1).val = (i 1).val; omega))
    (conv_congr _ _ _ _ _ (by show tileM t / 32 = (i 0).val / 16384; omega) (by omega)
      (by show (tileJ t + 11) * 512 + (y 1).val = 5632 + (i 1).val; omega))

/-- The last rows returned at a sequence's last point, in the columns' first half. -/
theorem last_value_a (t : Fin cfg0.N) (hl : tileM t % 32 = 31) (n : Fin 2) (q : Fin 512) :
    productA m c t (ix2 ⟨510 + n.val, by omega⟩ q)
      = line (argH m c) (argW m c) (argP m c) ⟨tileM t / 32, by have := tileM_lt t; omega⟩ (16384 + n.val) (by omega) (colA t q) := by
  have hM := tileM_lt t
  rw [productA_eq]
  unfold line
  rw [dif_neg (by omega)]
  exact congrArg (fun k => hidden (argH m c) (argW m c) k (colA t q))
    (Fin.ext (by show tileM t * 512 + (510 + n.val) = tileM t / 32 * 16384 + (16384 + n.val - 2); omega))
@[inherit_doc last_value_a] theorem last_value_g (t : Fin cfg0.N) (hl : tileM t % 32 = 31) (n : Fin 2) (q : Fin 512) :
    productG m c t (ix2 ⟨510 + n.val, by omega⟩ q)
      = line (argH m c) (argW m c) (argP m c) ⟨tileM t / 32, by have := tileM_lt t; omega⟩ (16384 + n.val) (by omega) (colG t q) := by
  have hM := tileM_lt t
  rw [productG_eq]
  unfold line
  rw [dif_neg (by omega)]
  exact congrArg (fun k => hidden (argH m c) (argW m c) k (colG t q))
    (Fin.ext (by show tileM t * 512 + (510 + n.val) = tileM t / 32 * 16384 + (16384 + n.val - 2); omega))

/-- The array of the last rows after the run, in the columns' first half. -/
theorem lastA_array : (dats m 0 c).arrAt 10 cfg0.N = lastA (argH m c) (argW m c) (argP m c) := by
  refine (dats m 0 c).arrAt_eq_of_covers 10 _ (by decide +kernel) fun t hf y => ?_
  have hl := last_point_a t hf
  have i0 : ((((cfg0.win 10).blk t).view.emb y 0 : Fin _) : ℕ) = tileM t / 32 + (y 0).val := by
    blk_simp [index_last_a]
  have i1 : ((((cfg0.win 10).blk t).view.emb y 1 : Fin _) : ℕ) = (y 1).val := by
    blk_simp [index_last_a]
  have i2 : ((((cfg0.win 10).blk t).view.emb y 2 : Fin _) : ℕ) = tileJ t * 512 + (y 2).val := by
    blk_simp [index_last_a]
  generalize ((cfg0.win 10).blk t).view.emb y = i at i0 i1 i2 ⊢
  blk_simp
  rw [after0_10, returns_a]
  have y0 : (y 0).val = 0 := by have := (y 0).isLt; change _ < 1 at this; omega
  have ey : y = ix3 0 (y 1) (y 2) := (eq_ix3 y).trans (congrArg (fun k => ix3 k (y 1) (y 2)) (Fin.ext y0))
  refine Eq.trans (congrArg (k0_pay14 (productA m c t)) ey) ?_
  refine (returned_a (productA m c t) (y 1) (y 2)).trans ((last_value_a m c t hl (y 1) (y 2)).trans ?_)
  exact line_congr _ _ _ (hn' := by have h : (i 1).val < 2 := (i 1).isLt; omega) (by show tileM t / 32 = (i 0).val; omega) (by show 16384 + (y 1).val = 16384 + (i 1).val; omega)
    (by show tileJ t * 512 + (y 2).val = (i 2).val; omega)

/-- The array of the last rows after the run, in the columns' second half. -/
theorem lastG_array : (dats m 0 c).arrAt 11 cfg0.N = lastG (argH m c) (argW m c) (argP m c) := by
  refine (dats m 0 c).arrAt_eq_of_covers 11 _ (by decide +kernel) fun t hf y => ?_
  have hl := last_point_g t hf
  have i0 : ((((cfg0.win 11).blk t).view.emb y 0 : Fin _) : ℕ) = tileM t / 32 + (y 0).val := by
    blk_simp [index_last_g]
  have i1 : ((((cfg0.win 11).blk t).view.emb y 1 : Fin _) : ℕ) = (y 1).val := by
    blk_simp [index_last_g]
  have i2 : ((((cfg0.win 11).blk t).view.emb y 2 : Fin _) : ℕ) = tileJ t * 512 + (y 2).val := by
    blk_simp [index_last_g]
  generalize ((cfg0.win 11).blk t).view.emb y = i at i0 i1 i2 ⊢
  blk_simp
  rw [after0_11, returns_g]
  have y0 : (y 0).val = 0 := by have := (y 0).isLt; change _ < 1 at this; omega
  have ey : y = ix3 0 (y 1) (y 2) := (eq_ix3 y).trans (congrArg (fun k => ix3 k (y 1) (y 2)) (Fin.ext y0))
  refine Eq.trans (congrArg (k0_pay3 (productG m c t)) ey) ?_
  refine (returned_g (productG m c t) (y 1) (y 2)).trans ((last_value_g m c t hl (y 1) (y 2)).trans ?_)
  exact line_congr _ _ _ (hn' := by have h : (i 1).val < 2 := (i 1).isLt; omega) (by show tileM t / 32 = (i 0).val; omega) (by show 16384 + (y 1).val = 16384 + (i 1).val; omega)
    (by show (tileJ t + 11) * 512 + (y 2).val = 5632 + (i 2).val; omega)

/-- The run of the kernel's program: its three results, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v1_0) = activation (argH m c) (argW m c) (argT m c) (argB m c) (argP m c)
      ∧ r.2.mem ((c : Thread nD τ).loc main_v1_1) = lastA (argH m c) (argW m c) (argP m c)
      ∧ r.2.mem ((c : Thread nD τ).loc main_v1_2) = lastG (argH m c) (argW m c) (argP m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun _ h c => ⟨(h c).1.trans (activation_array m c), (h c).2.1.trans (lastA_array m c),
      (h c).2.2.1.trans (lastG_array m c), (h c).2.2.2⟩)
    (Value.run_blocks m ρ)

/-- The reference keeps its arguments and owns no semaphore. -/
theorem frame_reference : Cert.quiescent_UpRefIdeal := fun m ρ _ =>
  (θ_run Cert.UpRefIdeal.defs _ _).mono
    (fun r h => ⟨fun c => (h c).2.2.2, sem_eq_zero_of_no_sems (by decide) r.2⟩)
    (Cert.UpRefIdeal.Value.run (F := Ideal) m ρ)

/-- On the extended reals the kernel's program and the reference end with the same three results. -/
theorem algebraic : Cert.algebraic_UpIdeal_UpRefIdeal := fun m ρ m' ρ' _ hag =>
  ⟨fun c => activation (argH m c) (argW m c) (argT m c) (argB m c) (argP m c),
    fun c => lastA (argH m c) (argW m c) (argP m c),
    fun c => lastG (argH m c) (argW m c) (argP m c),
    run m ρ,
    (θ_run Cert.UpRefIdeal.defs _ _).mono
      (fun _ h c => ⟨(h c).1.trans (by rw [reference_activation, (hag c).1, (hag c).2.1, (hag c).2.2.1, (hag c).2.2.2.1, (hag c).2.2.2.2]),
        (h c).2.1.trans ((reference_lastA _ _ _).trans (by rw [(hag c).1, (hag c).2.1, (hag c).2.2.2.2])),
        (h c).2.2.1.trans ((reference_lastG _ _ _).trans (by rw [(hag c).1, (hag c).2.1, (hag c).2.2.2.2])), (h c).2.2.2⟩)
      (Cert.UpRefIdeal.Value.run (F := Ideal) m' ρ')⟩

end Cert.Proof.Up

end
-- ==== Proof.Down.Array.lean ====
/-
  The down projection. The array that the kernel leaves is, index by index, the residual plus the whole product of the
  hidden rows by the weight: each grid point computes the product of one block of rows by one block of columns, over the
  whole of the contracted axis, and adds it to that block of the residual.
-/
module

public import proofs.«01_k».proof.Defs
public import proofs.«01_k».proof.Proof.Gen.DownIdeal.Value
public import proofs.«01_k».proof.Proof.Gen.DownRefIdeal.Run
public import Idealize.ShloMosaic.Lib.Pointwise
public import Idealize.ShloMosaic.Lib.Pipeline.ValueKit
public import Idealize.ShloMosaic.Lib.Pipeline.Covers
public import Idealize.ShloMosaic.Lib.Quiescent

@[expose] public section

set_option maxRecDepth 16384

noncomputable section

namespace Cert.Proof.Down

open Idealize.ShloMosaic Idealize.ShloMosaic.TcCoe Idealize.SL.Sem
open Cert.DownIdeal Cert.DownIdeal.Gen
open Idealize.ShloMosaic.Pipeline (Dat)

/-- The residual plus the product of the hidden rows by the weight. -/
def total (h : FVec Ideal S32768x5632 .bf16) (w : FVec Ideal S5632x2048 .bf16) (r : FVec Ideal S32768x2048 .f32) :
    FVec Ideal S32768x2048 .f32 :=
  fun i => r i + ∑ k : Fin 5632, h (ix2 (i 0) k) * w (ix2 k (i 1))

variable (m : (ℓ : Loc nD τ sig) → Buf (Elt Ideal) ℓ)

/-- What one grid point computes: its block of the residual plus the product of its rows by its columns. -/
theorem block_value (x : Vec Ideal S512x512 .f32) (a : Vec Ideal S512x5632 .bf16) (b : Vec Ideal S5632x512 .bf16)
    (j : S512x512.Idx) :
    k0_pay1 x a b j = x j + ∑ k : Fin 5632, a (ix2 (j 0) k) * b (ix2 k (j 1)) := by
  idx_vars j
  pointwise [k0_pay1]

theorem index_hidden : ∀ t : Fin grid0.N, win0_0.index t = ![(grid0.coords t 0).val, 0] := by decide +kernel
theorem index_weight : ∀ t : Fin grid0.N, win0_1.index t = ![0, (grid0.coords t 1).val] := by decide +kernel
theorem index_residual : ∀ t : Fin grid0.N, win0_2.index t = ![(grid0.coords t 0).val, (grid0.coords t 1).val] := by
  decide +kernel
theorem index_result : ∀ t : Fin grid0.N, win0_3.index t = ![(grid0.coords t 0).val, (grid0.coords t 1).val] := by
  decide +kernel

variable (c : Dev nD) (t : Fin cfg0.N)

/-- A block of hidden rows, read at an index, is the array at the row the block puts there. -/
theorem read_hidden (j : S512x5632.Idx) (i : S32768x5632.Idx)
    (h0 : (i 0).val = (grid0.coords t 0).val * 512 + (j 0).val) (h1 : (i 1).val = (j 1).val) :
    iblk m c 0 t j = m ((c : Thread nD τ).loc main_arg0) i := by
  show V m c (Pipeline.arrRef spec0 0) _ = _
  rw [V_main_arg0]
  refine congrArg _ (funext fun a => Fin.ext ?_)
  fin_cases a
  · blk_simp [index_hidden]
    exact h0.symm
  · blk_simp [index_hidden]
    exact h1.symm

/-- A block of the weight's columns, read at an index. -/
theorem read_weight (j : S5632x512.Idx) (i : S5632x2048.Idx)
    (h0 : (i 0).val = (j 0).val) (h1 : (i 1).val = (grid0.coords t 1).val * 512 + (j 1).val) :
    iblk m c 1 t j = m ((c : Thread nD τ).loc main_arg1) i := by
  show V m c (Pipeline.arrRef spec0 1) _ = _
  rw [V_main_arg1]
  refine congrArg _ (funext fun a => Fin.ext ?_)
  fin_cases a
  · blk_simp [index_weight]
    exact h0.symm
  · blk_simp [index_weight]
    exact h1.symm

/-- A block of the residual, read at an index. -/
theorem read_residual (j : S512x512.Idx) (i : S32768x2048.Idx)
    (h0 : (i 0).val = (grid0.coords t 0).val * 512 + (j 0).val)
    (h1 : (i 1).val = (grid0.coords t 1).val * 512 + (j 1).val) :
    iblk m c 2 t j = m ((c : Thread nD τ).loc main_arg2) i := by
  show V m c (Pipeline.arrRef spec0 2) _ = _
  rw [V_main_arg2]
  refine congrArg _ (funext fun a => Fin.ext ?_)
  fin_cases a
  · blk_simp [index_residual]
    exact h0.symm
  · blk_simp [index_residual]
    exact h1.symm

/-- The result array after the run. -/
theorem array_value :
    (dats m 0 c).arrAt 3 cfg0.N = total (m ((c : Thread nD τ).loc main_arg0)) (m ((c : Thread nD τ).loc main_arg1))
      (m ((c : Thread nD τ).loc main_arg2)) := by
  refine (dats m 0 c).arrAt_eq_of_covers 3 _ (by decide +kernel) fun t hf y => ?_
  have i0 : ((((cfg0.win 3).blk t).view.emb y 0 : Fin _) : ℕ) = (grid0.coords t 0).val * 512 + (y 0).val := by
    blk_simp [index_result]
  have i1 : ((((cfg0.win 3).blk t).view.emb y 1 : Fin _) : ℕ) = (grid0.coords t 1).val * 512 + (y 1).val := by
    blk_simp [index_result]
  generalize ((cfg0.win 3).blk t).view.emb y = i at i0 i1 ⊢
  blk_simp
  rw [after0_3]
  frame_out
  rw [block_value, read_residual m c t y i i0 i1]
  refine congrArg _ (Finset.sum_congr rfl fun k _ => ?_)
  rw [read_hidden m c t (ix2 (y 0) k) (ix2 (i 0) k) i0 rfl,
    read_weight m c t (ix2 k (y 1)) (ix2 k (i 1)) rfl i1]

/-- The run of the kernel's program: the result is the total, the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = total (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (array_value m c), (h c).2⟩) (Value.run_blocks m ρ)

/-- The reference's term is the same total. -/
theorem reference_value (h : FVec Ideal S32768x5632 .bf16) (w : FVec Ideal S5632x2048 .bf16)
    (r : FVec Ideal S32768x2048 .f32) :
    addf r (Host.dotGeneral Cert.DownRefIdeal.dot_S32768x5632_S5632x2048_S32768x2048_1_0_0_1_n_n none
      (extf .f32 h Cert.DownRefIdeal.Gen.bitsLt_bf16_f32) (extf .f32 w Cert.DownRefIdeal.Gen.bitsLt_bf16_f32)) = total h w r := by
  funext j
  idx_vars j
  pointwise [total]

/-- The reference keeps its arguments and owns no semaphore. -/
theorem frame_reference : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- On the extended reals the kernel's program and the reference end with the same result. -/
theorem algebraic : Cert.algebraic_DownIdeal_DownRefIdeal := fun m ρ m' ρ' _ hag =>
  ⟨fun c => total (m ((c : Thread nD τ).loc main_arg0)) (m ((c : Thread nD τ).loc main_arg1))
      (m ((c : Thread nD τ).loc main_arg2)),
    run m ρ,
    (θ_run Cert.DownRefIdeal.defs _ _).mono
      (fun _ h c => ⟨(h c).1.trans (by rw [reference_value, (hag c).1, (hag c).2.1, (hag c).2.2]), (h c).2⟩)
      (Cert.DownRefIdeal.Value.run (F := Ideal) m' ρ')⟩

end Cert.Proof.Down

end
-- ==== Proof.Out.Array.lean ====
/-
  The output projection. The array that the kernel leaves is, index by index, the residual plus the whole product of the
  head rows by the weight: each grid point computes the product of one block of rows by one block of columns, over the
  whole of the contracted axis, and adds it to that block of the residual.
-/
module

public import proofs.«01_k».proof.Defs
public import proofs.«01_k».proof.Proof.Gen.OutIdeal.Value
public import proofs.«01_k».proof.Proof.Gen.OutRefIdeal.Run
public import Idealize.ShloMosaic.Lib.Pointwise
public import Idealize.ShloMosaic.Lib.Pipeline.ValueKit
public import Idealize.ShloMosaic.Lib.Pipeline.Covers
public import Idealize.ShloMosaic.Lib.Quiescent

@[expose] public section

set_option maxRecDepth 16384

noncomputable section

namespace Cert.Proof.Out

open Idealize.ShloMosaic Idealize.ShloMosaic.TcCoe Idealize.SL.Sem
open Cert.OutIdeal Cert.OutIdeal.Gen
open Idealize.ShloMosaic.Pipeline (Dat)

/-- The residual plus the product of the head rows by the weight. -/
def total (h : FVec Ideal S32768x1536 .bf16) (w : FVec Ideal S1536x2048 .bf16) (r : FVec Ideal S32768x2048 .f32) :
    FVec Ideal S32768x2048 .f32 :=
  fun i => r i + ∑ k : Fin 1536, h (ix2 (i 0) k) * w (ix2 k (i 1))

variable (m : (ℓ : Loc nD τ sig) → Buf (Elt Ideal) ℓ)

/-- What one grid point computes: its block of the residual plus the product of its rows by its columns. -/
theorem block_value (x : Vec Ideal S512x512 .f32) (a : Vec Ideal S512x1536 .bf16) (b : Vec Ideal S1536x512 .bf16)
    (j : S512x512.Idx) :
    k0_pay1 x a b j = x j + ∑ k : Fin 1536, a (ix2 (j 0) k) * b (ix2 k (j 1)) := by
  idx_vars j
  pointwise [k0_pay1]

theorem index_heads : ∀ t : Fin grid0.N, win0_0.index t = ![(grid0.coords t 0).val, 0] := by decide +kernel
theorem index_weight : ∀ t : Fin grid0.N, win0_1.index t = ![0, (grid0.coords t 1).val] := by decide +kernel
theorem index_residual : ∀ t : Fin grid0.N, win0_2.index t = ![(grid0.coords t 0).val, (grid0.coords t 1).val] := by
  decide +kernel
theorem index_result : ∀ t : Fin grid0.N, win0_3.index t = ![(grid0.coords t 0).val, (grid0.coords t 1).val] := by
  decide +kernel

variable (c : Dev nD) (t : Fin cfg0.N)

/-- A block of head rows, read at an index, is the array at the row the block puts there. -/
theorem read_heads (j : S512x1536.Idx) (i : S32768x1536.Idx)
    (h0 : (i 0).val = (grid0.coords t 0).val * 512 + (j 0).val) (h1 : (i 1).val = (j 1).val) :
    iblk m c 0 t j = m ((c : Thread nD τ).loc main_arg0) i := by
  show V m c (Pipeline.arrRef spec0 0) _ = _
  rw [V_main_arg0]
  refine congrArg _ (funext fun a => Fin.ext ?_)
  fin_cases a
  · blk_simp [index_heads]
    exact h0.symm
  · blk_simp [index_heads]
    exact h1.symm

/-- A block of the weight's columns, read at an index. -/
theorem read_weight (j : S1536x512.Idx) (i : S1536x2048.Idx)
    (h0 : (i 0).val = (j 0).val) (h1 : (i 1).val = (grid0.coords t 1).val * 512 + (j 1).val) :
    iblk m c 1 t j = m ((c : Thread nD τ).loc main_arg1) i := by
  show V m c (Pipeline.arrRef spec0 1) _ = _
  rw [V_main_arg1]
  refine congrArg _ (funext fun a => Fin.ext ?_)
  fin_cases a
  · blk_simp [index_weight]
    exact h0.symm
  · blk_simp [index_weight]
    exact h1.symm

/-- A block of the residual, read at an index. -/
theorem read_residual (j : S512x512.Idx) (i : S32768x2048.Idx)
    (h0 : (i 0).val = (grid0.coords t 0).val * 512 + (j 0).val)
    (h1 : (i 1).val = (grid0.coords t 1).val * 512 + (j 1).val) :
    iblk m c 2 t j = m ((c : Thread nD τ).loc main_arg2) i := by
  show V m c (Pipeline.arrRef spec0 2) _ = _
  rw [V_main_arg2]
  refine congrArg _ (funext fun a => Fin.ext ?_)
  fin_cases a
  · blk_simp [index_residual]
    exact h0.symm
  · blk_simp [index_residual]
    exact h1.symm

/-- The result array after the run. -/
theorem array_value :
    (dats m 0 c).arrAt 3 cfg0.N = total (m ((c : Thread nD τ).loc main_arg0)) (m ((c : Thread nD τ).loc main_arg1))
      (m ((c : Thread nD τ).loc main_arg2)) := by
  refine (dats m 0 c).arrAt_eq_of_covers 3 _ (by decide +kernel) fun t hf y => ?_
  have i0 : ((((cfg0.win 3).blk t).view.emb y 0 : Fin _) : ℕ) = (grid0.coords t 0).val * 512 + (y 0).val := by
    blk_simp [index_result]
  have i1 : ((((cfg0.win 3).blk t).view.emb y 1 : Fin _) : ℕ) = (grid0.coords t 1).val * 512 + (y 1).val := by
    blk_simp [index_result]
  generalize ((cfg0.win 3).blk t).view.emb y = i at i0 i1 ⊢
  blk_simp
  rw [after0_3]
  frame_out
  rw [block_value, read_residual m c t y i i0 i1]
  refine congrArg _ (Finset.sum_congr rfl fun k _ => ?_)
  rw [read_heads m c t (ix2 (y 0) k) (ix2 (i 0) k) i0 rfl,
    read_weight m c t (ix2 k (y 1)) (ix2 k (i 1)) rfl i1]

/-- The run of the kernel's program: the result is the total, the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = total (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (array_value m c), (h c).2⟩) (Value.run_blocks m ρ)

/-- The reference's term is the same total. -/
theorem reference_value (h : FVec Ideal S32768x1536 .bf16) (w : FVec Ideal S1536x2048 .bf16)
    (r : FVec Ideal S32768x2048 .f32) :
    addf r (Host.dotGeneral Cert.OutRefIdeal.dot_S32768x1536_S1536x2048_S32768x2048_1_0_0_1_n_n none
      (extf .f32 h Cert.OutRefIdeal.Gen.bitsLt_bf16_f32) (extf .f32 w Cert.OutRefIdeal.Gen.bitsLt_bf16_f32)) = total h w r := by
  funext j
  idx_vars j
  pointwise [total]

/-- The reference keeps its arguments and owns no semaphore. -/
theorem frame_reference : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- On the extended reals the kernel's program and the reference end with the same result. -/
theorem algebraic : Cert.algebraic_OutIdeal_OutRefIdeal := fun m ρ m' ρ' _ hag =>
  ⟨fun c => total (m ((c : Thread nD τ).loc main_arg0)) (m ((c : Thread nD τ).loc main_arg1))
      (m ((c : Thread nD τ).loc main_arg2)),
    run m ρ,
    (θ_run Cert.OutRefIdeal.defs _ _).mono
      (fun _ h c => ⟨(h c).1.trans (by rw [reference_value, (hag c).1, (hag c).2.1, (hag c).2.2]), (h c).2⟩)
      (Cert.OutRefIdeal.Value.run (F := Ideal) m' ρ')⟩

end Cert.Proof.Out

end
-- ==== Proof.Bc.Array.lean ====
/-
  The projection to the band heads' and the stick-breaking heads' queries, keys and values. Each grid point computes the
  product of one block of rows by one block of columns, over the whole of the contracted axis, and writes it to its block
  of the bf16 result; the points of the last two column blocks write it to the f32 result as well. So the first array is
  the whole product and the second its last 1024 columns.
-/
module

public import proofs.«01_k».proof.Defs
public import proofs.«01_k».proof.Proof.Gen.BcIdeal.Value
public import proofs.«01_k».proof.Proof.Gen.BcRefIdeal.Run
public import Idealize.ShloMosaic.Lib.Pointwise
public import Idealize.ShloMosaic.Lib.Pipeline.ValueKit
public import Idealize.ShloMosaic.Lib.Pipeline.Covers
public import Idealize.ShloMosaic.Lib.Quiescent

@[expose] public section

set_option maxRecDepth 16384

noncomputable section

namespace Cert.Proof.Bc

open Idealize.ShloMosaic Idealize.ShloMosaic.TcCoe Idealize.SL.Sem
open Cert.BcIdeal Cert.BcIdeal.Gen
open Idealize.ShloMosaic.Pipeline (Dat)

/-- The product of the rows by the weight at a row and a column. -/
def entry (h : FVec Ideal S32768x2048 .bf16) (w : FVec Ideal S2048x3072 .bf16) (r : Fin 32768) (q : Fin 3072) : EReal :=
  ∑ k : Fin 2048, h (ix2 r k) * w (ix2 k q)

/-- The whole product. -/
def product (h : FVec Ideal S32768x2048 .bf16) (w : FVec Ideal S2048x3072 .bf16) : FVec Ideal S32768x3072 .bf16 :=
  fun i => entry h w (i 0) (i 1)

/-- Its columns from 2048 on: the stick-breaking heads' keys and values. -/
def tail (h : FVec Ideal S32768x2048 .bf16) (w : FVec Ideal S2048x3072 .bf16) : FVec Ideal S32768x1024 .f32 :=
  fun i => entry h w (i 0) ⟨2048 + (i 1).val, by have := (i 1).isLt; change _ < 1024 at this; omega⟩

variable (m : (ℓ : Loc nD τ sig) → Buf (Elt Ideal) ℓ)

/-- What one grid point computes: the product of its rows by its columns. -/
theorem block_value (a : Vec Ideal S512x2048 .bf16) (b : Vec Ideal S2048x512 .bf16) (j : S512x512.Idx) :
    k0_pay1 a b j = ∑ k : Fin 2048, a (ix2 (j 0) k) * b (ix2 k (j 1)) := by
  idx_vars j
  pointwise [k0_pay1]

/-- The same value, rounded. -/
theorem block_value_rounded (a : Vec Ideal S512x2048 .bf16) (b : Vec Ideal S2048x512 .bf16) (j : S512x512.Idx) :
    k0_pay2 a b j = ∑ k : Fin 2048, a (ix2 (j 0) k) * b (ix2 k (j 1)) := block_value a b j

theorem index_rows : ∀ t : Fin grid0.N, win0_0.index t = ![(grid0.coords t 0).val, 0] := by decide +kernel
theorem index_weight : ∀ t : Fin grid0.N, win0_1.index t = ![0, (grid0.coords t 1).val] := by decide +kernel
theorem index_product : ∀ t : Fin grid0.N, win0_2.index t = ![(grid0.coords t 0).val, (grid0.coords t 1).val] := by
  decide +kernel
theorem index_tail : ∀ t : Fin grid0.N, win0_3.index t = ![(grid0.coords t 0).val, (grid0.coords t 1).val - 4] := by
  decide +kernel
/-- The second result is written back only from the column blocks 4 and 5. -/
theorem tail_points : ∀ t : Fin grid0.N, (cfg0.win 3).flush t = true → 4 ≤ t.val % 6 ∧ 4 ≤ (grid0.coords t 1).val := by
  decide +kernel

variable (c : Dev nD) (t : Fin cfg0.N)

/-- A block of rows, read at an index, is the array at the row the block puts there. -/
theorem read_rows (j : S512x2048.Idx) (i : S32768x2048.Idx)
    (h0 : (i 0).val = (grid0.coords t 0).val * 512 + (j 0).val) (h1 : (i 1).val = (j 1).val) :
    iblk m c 0 t j = m ((c : Thread nD τ).loc main_arg0) i := by
  show V m c (Pipeline.arrRef spec0 0) _ = _
  rw [V_main_arg0]
  refine congrArg _ (funext fun a => Fin.ext ?_)
  fin_cases a
  · blk_simp [index_rows]
    exact h0.symm
  · blk_simp [index_rows]
    exact h1.symm

/-- A block of the weight's columns, read at an index. -/
theorem read_weight (j : S2048x512.Idx) (i : S2048x3072.Idx)
    (h0 : (i 0).val = (j 0).val) (h1 : (i 1).val = (grid0.coords t 1).val * 512 + (j 1).val) :
    iblk m c 1 t j = m ((c : Thread nD τ).loc main_arg1) i := by
  show V m c (Pipeline.arrRef spec0 1) _ = _
  rw [V_main_arg1]
  refine congrArg _ (funext fun a => Fin.ext ?_)
  fin_cases a
  · blk_simp [index_weight]
    exact h0.symm
  · blk_simp [index_weight]
    exact h1.symm

/-- The block of rows at a point, and the block of columns. -/
def rows : FVec Ideal S512x2048 .bf16 := iblk m c 0 t
@[inherit_doc rows] def columns : FVec Ideal S2048x512 .bf16 := iblk m c 1 t

/-- The block product at a point is the entry of the whole product at the row and column the point puts there. -/
theorem point_entry (y : S512x512.Idx) (r : Fin 32768) (q : Fin 3072)
    (h0 : r.val = (grid0.coords t 0).val * 512 + (y 0).val) (h1 : q.val = (grid0.coords t 1).val * 512 + (y 1).val) :
    (∑ k : Fin 2048, rows m c t (ix2 (y 0) k) * columns m c t (ix2 k (y 1)))
      = entry (m ((c : Thread nD τ).loc main_arg0)) (m ((c : Thread nD τ).loc main_arg1)) r q :=
  Finset.sum_congr rfl fun k _ => by
    unfold rows columns
    rw [read_rows m c t (ix2 (y 0) k) (ix2 r k) h0 rfl, read_weight m c t (ix2 k (y 1)) (ix2 k q) rfl h1]

/-- The first result array after the run. -/
theorem product_array :
    (dats m 0 c).arrAt 2 cfg0.N
      = product (m ((c : Thread nD τ).loc main_arg0)) (m ((c : Thread nD τ).loc main_arg1)) := by
  refine (dats m 0 c).arrAt_eq_of_covers 2 _ (by decide +kernel) fun t hf y => ?_
  have i0 : ((((cfg0.win 2).blk t).view.emb y 0 : Fin _) : ℕ) = (grid0.coords t 0).val * 512 + (y 0).val := by
    blk_simp [index_product]
  have i1 : ((((cfg0.win 2).blk t).view.emb y 1 : Fin _) : ℕ) = (grid0.coords t 1).val * 512 + (y 1).val := by
    blk_simp [index_product]
  generalize ((cfg0.win 2).blk t).view.emb y = i at i0 i1 ⊢
  blk_simp
  rw [after0_2]
  refine Eq.trans ?_ (point_entry m c t y (i 0) (i 1) i0 i1)
  by_cases h : 4 ≤ t.val % 6
  · rw [outsAt0_B m c t h]
    frame_out
    exact block_value_rounded _ _ _
  · rw [outsAt0_A m c t h]
    frame_out
    exact block_value_rounded _ _ _

/-- The second result array after the run. -/
theorem tail_array :
    (dats m 0 c).arrAt 3 cfg0.N
      = tail (m ((c : Thread nD τ).loc main_arg0)) (m ((c : Thread nD τ).loc main_arg1)) := by
  refine (dats m 0 c).arrAt_eq_of_covers 3 _ (by decide +kernel) fun t hf y => ?_
  obtain ⟨h, h4⟩ := tail_points t hf
  have i0 : ((((cfg0.win 3).blk t).view.emb y 0 : Fin _) : ℕ) = (grid0.coords t 0).val * 512 + (y 0).val := by
    blk_simp [index_tail]
  have i1 : ((((cfg0.win 3).blk t).view.emb y 1 : Fin _) : ℕ) = ((grid0.coords t 1).val - 4) * 512 + (y 1).val := by
    blk_simp [index_tail]
  generalize ((cfg0.win 3).blk t).view.emb y = i at i0 i1 ⊢
  blk_simp
  rw [after0_3]
  refine Eq.trans ?_ (point_entry m c t y (i 0) _ i0 (by show 2048 + _ = _; omega))
  rw [outsAt0_B m c t h]
  frame_out
  exact block_value _ _ _

/-- The run of the kernel's program: its two results, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0)
        = product (m ((c : Thread nD τ).loc main_arg0)) (m ((c : Thread nD τ).loc main_arg1))
      ∧ r.2.mem ((c : Thread nD τ).loc main_v0_1)
        = tail (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono
    (fun _ h c => ⟨(h c).1.trans (product_array m c), (h c).2.1.trans (tail_array m c), (h c).2.2⟩)
    (Value.run_blocks m ρ)

/-- The reference's first result is the product. -/
theorem reference_product (h : FVec Ideal S32768x2048 .bf16) (w : FVec Ideal S2048x3072 .bf16) :
    truncf .bf16 (Host.dotGeneral Cert.BcRefIdeal.dot_S32768x2048_S2048x3072_S32768x3072_1_0_0_1_n_n none
      (extf .f32 h Cert.BcRefIdeal.Gen.bitsLt_bf16_f32) (extf .f32 w Cert.BcRefIdeal.Gen.bitsLt_bf16_f32))
      Cert.BcRefIdeal.Gen.bitsLt_bf16_f32 = product h w := by
  funext j
  idx_vars j
  pointwise [product, entry]

/-- Its second result is the last 1024 columns. -/
theorem reference_tail (h : FVec Ideal S32768x2048 .bf16) (w : FVec Ideal S2048x3072 .bf16) :
    extractStridedSlice Cert.BcRefIdeal.S32768x1024 ![0, 2048]
      (Host.dotGeneral Cert.BcRefIdeal.dot_S32768x2048_S2048x3072_S32768x3072_1_0_0_1_n_n none
        (extf .f32 h Cert.BcRefIdeal.Gen.bitsLt_bf16_f32) (extf .f32 w Cert.BcRefIdeal.Gen.bitsLt_bf16_f32))
      Cert.BcRefIdeal.Gen.slices_S32768x3072_S32768x1024_0_2048 = tail h w := by
  funext j
  idx_vars j
  pointwise [tail, entry]

/-- The reference keeps its arguments and owns no semaphore. -/
theorem frame_reference : Cert.quiescent_BcRefIdeal := fun m ρ _ =>
  (θ_run Cert.BcRefIdeal.defs _ _).mono
    (fun r h => ⟨fun c => (h c).2.2, sem_eq_zero_of_no_sems (by decide) r.2⟩)
    (Cert.BcRefIdeal.Value.run (F := Ideal) m ρ)

/-- On the extended reals the kernel's program and the reference end with the same two results. -/
theorem algebraic : Cert.algebraic_BcIdeal_BcRefIdeal := fun m ρ m' ρ' _ hag =>
  ⟨fun c => product (m ((c : Thread nD τ).loc main_arg0)) (m ((c : Thread nD τ).loc main_arg1)),
    fun c => tail (m ((c : Thread nD τ).loc main_arg0)) (m ((c : Thread nD τ).loc main_arg1)),
    run m ρ,
    (θ_run Cert.BcRefIdeal.defs _ _).mono
      (fun _ h c => ⟨(h c).1.trans (by rw [reference_product, (hag c).1, (hag c).2]),
        (h c).2.1.trans (by rw [reference_tail, (hag c).1, (hag c).2]), (h c).2.2⟩)
      (Cert.BcRefIdeal.Value.run (F := Ideal) m' ρ')⟩

end Cert.Proof.Bc

end
-- ==== Proof.Kv.Spec.lean ====
/- The latents and the rotated columns as functions of the arrays they are computed from. -/
module

public import proofs.«01_k».proof.Defs
public import proofs.«01_k».proof.Proof.Gen.KvIdeal
public import Idealize.ShloMosaic.Lib.Pointwise

@[expose] public section

set_option maxRecDepth 16384

noncomputable section

namespace Cert.Proof.Kv

open Idealize.ShloMosaic Idealize.ShloMosaic.TcCoe Idealize.SL.Sem
open Cert.KvIdeal Cert.KvIdeal.Gen

/-- Row `r` times column `q` of the latents' weight. -/
def latent (a : FVec Ideal S32768x2048 .bf16) (w : FVec Ideal S2048x512 .bf16) (r : Fin 32768) (q : Fin 512) : EReal :=
  ∑ k : Fin 2048, a (ix2 r k) * w (ix2 k q)

/-- Row `r` times column `q` of the rotated columns' weight. -/
def unrotated (a : FVec Ideal S32768x2048 .bf16) (w : FVec Ideal S2048x64 .bf16) (r : Fin 32768) (q : Fin 64) : EReal :=
  ∑ k : Fin 2048, a (ix2 r k) * w (ix2 k q)

/-- A row of 512 scaled to a mean square of one, then weighted. -/
def normed (y g : Fin 512 → EReal) (d : Fin 512) : EReal :=
  y d * Ideal.rsqrt (Ideal.div (∑ e : Fin 512, y e * y e) (Ideal.ofBits .f32 0x44000000#32)
    + Ideal.ofBits .f32 0x358637BD#32) * g d

/-- The angle of each position and frequency: the position times ten thousand to minus the frequency over 32. -/
def angles : FVec Ideal S16384x32 .f32 :=
  mulf (broadcastInDim S16384x32 ![0, 1] bcast_S16384x1_S16384x32_0_1
      (broadcastInDim S16384x1 ![0] bcast_S16384_S16384x1_0 (sitofp .f32 (iotaInDim S16384 32 0))))
    (broadcastInDim S16384x32 ![0, 1] bcast_S1x32_S16384x32_0_1
      (broadcastInDim S1x32 ![1] bcast_S32_S1x32_1
        (Host.powf (broadcastInDim S32 ![] bcast_S_S32 (constant S_ .f32 0x461C4000#32))
          (Host.divf (Host.negf (sitofp .f32 (iotaInDim S32 32 0)))
            (broadcastInDim S32 ![] bcast_S_S32 (constant S_ .f32 0x42000000#32))))))

/-- Their cosines and sines. -/
def cosines : FVec Ideal S16384x32 .f32 := Host.cos angles
@[inherit_doc cosines] def sines : FVec Ideal S16384x32 .f32 := Host.sin angles

/-- A row of 64 with its halves rotated by 32 angles. -/
def rotated (y : Fin 64 → EReal) (cs sn : Fin 32 → EReal) (d : Fin 64) : EReal :=
  if h : d.val < 32 then y d * cs ⟨d.val, h⟩ - y ⟨d.val + 32, by omega⟩ * sn ⟨d.val, h⟩
  else y ⟨d.val - 32, by omega⟩ * sn ⟨d.val - 32, by omega⟩ + y d * cs ⟨d.val - 32, by omega⟩

/-- The position of a row in its sequence. -/
abbrev position (r : Fin 32768) : Fin 16384 := ⟨r.val % 16384, Nat.mod_lt _ (by decide)⟩

/-- The rotated columns of row `r`. -/
def turned (a : FVec Ideal S32768x2048 .bf16) (w : FVec Ideal S2048x64 .bf16) (r : Fin 32768) (d : Fin 64) : EReal :=
  rotated (unrotated a w r) (fun i => cosines (ix2 (position r) i)) (fun i => sines (ix2 (position r) i)) d

/-- The normalized latents. -/
def latents (a : FVec Ideal S32768x2048 .bf16) (w : FVec Ideal S2048x512 .bf16) (g : FVec Ideal S512 .f32) :
    FVec Ideal S32768x512 .f32 := fun i => normed (latent a w (i 0)) (fun e => g (ix1 e)) (i 1)

/-- The same, as bf16. -/
def latentsRounded (a : FVec Ideal S32768x2048 .bf16) (w : FVec Ideal S2048x512 .bf16) (g : FVec Ideal S512 .f32) :
    FVec Ideal S32768x512 .bf16 := fun i => normed (latent a w (i 0)) (fun e => g (ix1 e)) (i 1)

/-- The rotated columns. -/
def columns (a : FVec Ideal S32768x2048 .bf16) (w : FVec Ideal S2048x64 .bf16) : FVec Ideal S32768x64 .f32 :=
  fun i => turned a w (i 0) (i 1)

/-- Row `r` of the rotated columns, followed by 64 zeros. -/
def padded (y : Fin 64 → EReal) (d : Fin 128) : EReal := if h : d.val < 64 then y ⟨d.val, h⟩ else 0

/-- The rotated columns as bf16, with 64 zero columns after them. -/
def wide (a : FVec Ideal S32768x2048 .bf16) (w : FVec Ideal S2048x64 .bf16) : FVec Ideal S32768x128 .bf16 :=
  fun i => padded (turned a w (i 0)) (i 1)

end Cert.Proof.Kv

end
-- ==== Proof.Kv.Block.lean ====
/- What one grid point of the latents' kernel computes from its blocks. -/
module

public import proofs.«01_k».proof.Proof.Kv.Spec
public import proofs.«01_k».proof.Proof.Gen.KvIdeal.Value
public import Idealize.ShloMosaic.Lib.Pointwise

@[expose] public section

set_option maxRecDepth 16384

noncomputable section

namespace Cert.Proof.Kv

open Idealize.ShloMosaic Idealize.ShloMosaic.TcCoe Idealize.SL.Sem
open Cert.KvIdeal Cert.KvIdeal.Gen

variable (a : Vec Ideal S512x2048 .bf16) (b : Vec Ideal S2048x640 .bf16)

/-- Row `r` of a block times column `q` of the weights, which are set side by side. -/
def product (r : Fin 512) (q : Fin 640) : EReal := ∑ k : Fin 2048, a (ix2 r k) * b (ix2 k q)

theorem product_value (r : Fin 512) (q : Fin 640) : k0_pay4 a b (ix2 r q) = product a b r q := by
  pointwise [k0_pay4, product]

/-- The latents' block. -/
theorem latents_block (g : Vec Ideal S1x512 .f32) (r q : Fin 512) :
    k0_pay5 a b g (ix2 r q)
      = normed (fun d => product a b r ⟨d.val, by omega⟩) (fun d => g (ix2 0 d)) q := by
  unfold normed
  simp only [← product_value]
  pointwise [k0_pay5]

/-- The products that are rotated, followed by the zero columns' products. -/
theorem unrotated_block (r : Fin 512) (q : Fin 128) : k0_pay7 a b (ix2 r q) = product a b r ⟨512 + q.val, by omega⟩ := by
  rw [← product_value]
  pointwise [k0_pay7]

/-- A row of 128 moved 32 places on, and 96 places on. -/
theorem moved_short (x : FVec Ideal S512x128 .f32) (r : Fin 512) (q : Fin 128) :
    dynamicRotate 1 32#32 none x rotates_S512x128_d1 (ix2 r q) = x (ix2 r ⟨(q.val + 96) % 128, Nat.mod_lt _ (by decide)⟩) := by
  pointwise []
  refine congrArg (fun z => x (ix2 r z)) (Fin.ext ?_)
  show (q.val + 128 - 32) % 128 = (q.val + 96) % 128
  omega
@[inherit_doc moved_short] theorem moved_long (x : FVec Ideal S512x128 .f32) (r : Fin 512) (q : Fin 128) :
    dynamicRotate 1 96#32 none x rotates_S512x128_d1 (ix2 r q) = x (ix2 r ⟨(q.val + 32) % 128, Nat.mod_lt _ (by decide)⟩) := by
  pointwise []
  refine congrArg (fun z => x (ix2 r z)) (Fin.ext ?_)
  show (q.val + 128 - 96) % 128 = (q.val + 32) % 128
  omega

/-- A row and its two moved copies, each times a table. -/
def mixed (y x s u : Fin 128 → EReal) (q : Fin 128) : EReal :=
  y q * x q + y ⟨(q.val + 96) % 128, Nat.mod_lt _ (by decide)⟩ * s q
    + y ⟨(q.val + 32) % 128, Nat.mod_lt _ (by decide)⟩ * u q

theorem sum_value (x s u : Vec Ideal S512x128 .f32) (r : Fin 512) (q : Fin 128) :
    k0_pay1 (k0_pay8 a b x s) (k0_pay9 a b u) (ix2 r q)
      = mixed (fun d => product a b r ⟨512 + d.val, by omega⟩) (fun d => x (ix2 r d)) (fun d => s (ix2 r d))
          (fun d => u (ix2 r d)) q := by
  unfold mixed
  have e1 := (moved_short (k0_pay7 a b) r q).trans (unrotated_block a b r _)
  have e2 := (moved_long (k0_pay7 a b) r q).trans (unrotated_block a b r _)
  refine Eq.trans ?_ (congrArg₂ (· + ·) (congrArg₂ (· + ·) (congrArg (· * x (ix2 r q)) (unrotated_block a b r q))
    (congrArg (· * s (ix2 r q)) e1)) (congrArg (· * u (ix2 r q)) e2))
  pointwise [k0_pay1, k0_pay8, k0_pay9]

/-- With the tables of a position, the sum is the row of 64 with its halves rotated, then zeros. -/
theorem mixed_rotated (y x s u : Fin 128 → EReal) (cs sn : Fin 32 → EReal)
    (hx : ∀ q : Fin 128, x q = if h : q.val < 32 then cs ⟨q.val, h⟩ else if h' : q.val < 64 then cs ⟨q.val - 32, by omega⟩ else 0)
    (hs : ∀ q : Fin 128, s q = if q.val < 32 then 0 else if h' : q.val < 64 then sn ⟨q.val - 32, by omega⟩ else 0)
    (hu : ∀ q : Fin 128, u q = if h : q.val < 32 then -sn ⟨q.val, h⟩ else 0) (q : Fin 128) :
    mixed y x s u q = padded (rotated (fun d => y ⟨d.val, by omega⟩) cs sn) q := by
  unfold mixed padded rotated
  rw [hx, hs, hu]
  by_cases h : q.val < 32
  · rw [dif_pos h, if_pos h, dif_pos h, dif_pos (by omega : q.val < 64)]
    simp only [h, dite_true, mul_zero, add_zero]
    rw [mul_neg, ← sub_eq_add_neg]
    refine congrArg (fun z => y q * cs ⟨q.val, h⟩ - y z * sn ⟨q.val, h⟩) (Fin.ext ?_)
    show (q.val + 32) % 128 = q.val + 32
    omega
  · by_cases h' : q.val < 64
    · rw [dif_neg h, if_neg h, dif_neg h, dif_pos h', dif_pos h', dif_pos h']
      simp only [h, dite_false, mul_zero, add_zero]
      rw [add_comm]
      refine congrArg (fun z => y z * sn ⟨q.val - 32, by omega⟩ + y q * cs ⟨q.val - 32, by omega⟩) (Fin.ext ?_)
      show (q.val + 96) % 128 = q.val - 32
      omega
    · rw [dif_neg h, if_neg h, dif_neg h, dif_neg h', dif_neg h', dif_neg h']
      simp only [mul_zero, add_zero]

end Cert.Proof.Kv

end
-- ==== Proof.Kv.Host.lean ====
/- The blocks the pipeline hands the latents' kernel: rows of the first argument, the weights set side by side, the gains,
   and the rotation's tables, which are computed from the positions before the kernel runs. -/
module

public import proofs.«01_k».proof.Proof.Kv.Spec
public import proofs.«01_k».proof.Proof.Gen.KvIdeal.Value
public import Idealize.ShloMosaic.Lib.Pointwise
public import Idealize.ShloMosaic.Lib.Pipeline.ValueKit
public import Idealize.ShloMosaic.Lib.StableHlo.Run

@[expose] public section

set_option maxRecDepth 16384

noncomputable section

namespace Cert.Proof.Kv

open Idealize.ShloMosaic Idealize.ShloMosaic.TcCoe Idealize.SL.Sem
open Cert.KvIdeal Cert.KvIdeal.Gen

variable (m : (ℓ : Loc nD τ sig) → Buf (Elt Ideal) ℓ)

theorem index_rows : ∀ t : Fin grid0.N, win0_0.index t = ![(grid0.coords t 0).val, 0] := by decide +kernel
theorem index_weight : ∀ t : Fin grid0.N, win0_1.index t = ![0, 0] := by decide +kernel
theorem index_gains : ∀ t : Fin grid0.N, win0_2.index t = ![0, 0] := by decide +kernel
theorem index_table : ∀ t : Fin grid0.N, win0_3.index t = ![(grid0.coords t 0).val % 32, 0] := by decide +kernel
theorem index_table_short : ∀ t : Fin grid0.N, win0_4.index t = ![(grid0.coords t 0).val % 32, 0] := by decide +kernel
theorem index_table_long : ∀ t : Fin grid0.N, win0_5.index t = ![(grid0.coords t 0).val % 32, 0] := by decide +kernel

variable (c : Dev nD) (t : Fin cfg0.N)

/-- A block of rows, read at an index, is the array at the row the block puts there. -/
theorem read_rows (j : S512x2048.Idx) (i : S32768x2048.Idx)
    (h0 : (i 0).val = (grid0.coords t 0).val * 512 + (j 0).val) (h1 : (i 1).val = (j 1).val) :
    iblk m c 0 t j = m ((c : Thread nD τ).loc main_arg0) i := by
  show V m c (Pipeline.arrRef spec0 0) _ = _
  rw [V_main_arg0]
  refine congrArg _ (funext fun a => Fin.ext ?_)
  fin_cases a
  · blk_simp [index_rows]
    exact h0.symm
  · blk_simp [index_rows]
    exact h1.symm

/-- The 64 zero columns. -/
abbrev zeroColumns : FVec Ideal S2048x64 .bf16 := broadcastInDim S2048x64 ![] bcast_S_S2048x64 (constant S_ .bf16 0x0000#16)

/-- The two weights side by side, with 64 zero columns after them. -/
theorem sides : V m c main_v1 = concatenate S2048x640 1
    [⟨S2048x512, m ((c : Thread nD τ).loc main_arg1)⟩, ⟨S2048x64, m ((c : Thread nD τ).loc main_arg2)⟩,
      ⟨S2048x64, zeroColumns⟩]
    concatenates_S2048x512_S2048x64_S2048x64_S2048x640_d1 := by
  unfold_abbrev_sides
  after_results_simp
  try rfl

/-- The block of weights is the whole of them. -/
theorem read_weight (j : S2048x640.Idx) : iblk m c 1 t j = V m c main_v1 j := by
  show V m c (Pipeline.arrRef spec0 1) _ = _
  refine congrArg (V m c main_v1) (funext fun a => Fin.ext ?_)
  fin_cases a
  · blk_simp [index_weight]
  · blk_simp [index_weight]

/-- Its first 512 columns are the latents' weight. -/
theorem weight_latents (k : Fin 2048) (q : Fin 512) :
    iblk m c 1 t (ix2 k ⟨q.val, by omega⟩) = m ((c : Thread nD τ).loc main_arg1) (ix2 k q) := by
  refine (read_weight m c t _).trans ?_
  rw [sides]
  pointwise []

/-- The next 64 are the rotated columns' weight. -/
theorem weight_rotated (k : Fin 2048) (q : Fin 64) :
    iblk m c 1 t (ix2 k ⟨512 + q.val, by omega⟩) = m ((c : Thread nD τ).loc main_arg2) (ix2 k q) := by
  refine (read_weight m c t _).trans ?_
  rw [sides]
  pointwise []

/-- The gains as one row. -/
theorem gains_row (z : Fin 1) (d : Fin 512) :
    V m c main_v23 (ix2 z d) = m ((c : Thread nD τ).loc main_arg3) (ix1 d) := by
  have e : V m c main_v23 = shapeCast S1x512 (m ((c : Thread nD τ).loc main_arg3)) shapeCasts_S512_S1x512 := by
    unfold_abbrev_sides
    after_results_simp
    try rfl
  rw [e]
  pointwise []

/-- The gains' block. -/
theorem read_gains (d : Fin 512) : iblk m c 2 t (ix2 0 d) = m ((c : Thread nD τ).loc main_arg3) (ix1 d) := by
  rw [← gains_row m c 0 d]
  show V m c (Pipeline.arrRef spec0 2) _ = _
  refine congrArg (V m c main_v23) (funext fun a => Fin.ext ?_)
  fin_cases a
  · blk_simp [index_gains]
  · blk_simp [index_gains]

/-- Zero tables. -/
abbrev zeros : FVec Ideal S16384x32 .f32 := broadcastInDim S16384x32 ![] bcast_S_S16384x32 (constant S_ .f32 0x00000000#32)
@[inherit_doc zeros] abbrev zerosWide : FVec Ideal S16384x64 .f32 :=
  concatenate S16384x64 1 [⟨S16384x32, zeros⟩, ⟨S16384x32, zeros⟩] concatenates_S16384x32_S16384x32_S16384x64_d1

/-- The three tables as the kernel finds them. -/
theorem table : V m c main_v19 = concatenate S16384x128 1 [⟨S16384x32, cosines⟩, ⟨S16384x32, cosines⟩, ⟨S16384x64, zerosWide⟩]
    concatenates_S16384x32_S16384x32_S16384x64_S16384x128_d1 := by
  unfold_abbrev_sides
  after_results_simp
  try rfl
@[inherit_doc table] theorem table_short : V m c main_v20
    = concatenate S16384x128 1 [⟨S16384x32, zeros⟩, ⟨S16384x32, sines⟩, ⟨S16384x64, zerosWide⟩]
    concatenates_S16384x32_S16384x32_S16384x64_S16384x128_d1 := by
  unfold_abbrev_sides
  after_results_simp
  try rfl
@[inherit_doc table] theorem table_long : V m c main_v22
    = concatenate S16384x128 1 [⟨S16384x32, Host.negf sines⟩, ⟨S16384x32, zeros⟩, ⟨S16384x64, zerosWide⟩]
    concatenates_S16384x32_S16384x32_S16384x64_S16384x128_d1 := by
  unfold_abbrev_sides
  after_results_simp
  try rfl

/-- The first table at a position: the cosines twice, then zeros. -/
theorem table_at (p : Fin 16384) (q : Fin 128) : V m c main_v19 (ix2 p q)
    = if h : q.val < 32 then cosines (ix2 p ⟨q.val, h⟩) else if h' : q.val < 64 then cosines (ix2 p ⟨q.val - 32, by omega⟩) else 0 := by
  rw [table]
  pointwise []
  by_cases h : q.val < 32
  · rw [dif_pos h, dif_pos h]
  · rw [dif_neg h, dif_neg h]
    by_cases h' : q.val < 64
    · have h1 : q.val - 32 < 32 := by omega
      rw [dif_pos h1, dif_pos h']
    · have h1 : ¬q.val - 32 < 32 := by omega
      rw [dif_neg h1, dif_neg h']
      split <;> rfl

/-- The second: zeros, the sines, zeros. -/
theorem table_short_at (p : Fin 16384) (q : Fin 128) : V m c main_v20 (ix2 p q)
    = if q.val < 32 then 0 else if h' : q.val < 64 then sines (ix2 p ⟨q.val - 32, by omega⟩) else 0 := by
  rw [table_short]
  pointwise []
  by_cases h : q.val < 32
  · rw [dif_pos h, if_pos h]
  · rw [dif_neg h, if_neg h]
    by_cases h' : q.val < 64
    · have h1 : q.val - 32 < 32 := by omega
      rw [dif_pos h1, dif_pos h']
    · have h1 : ¬q.val - 32 < 32 := by omega
      rw [dif_neg h1, dif_neg h']
      split <;> rfl

/-- The third: the sines negated, then zeros. -/
theorem table_long_at (p : Fin 16384) (q : Fin 128) : V m c main_v22 (ix2 p q)
    = if h : q.val < 32 then -sines (ix2 p ⟨q.val, h⟩) else 0 := by
  rw [table_long]
  pointwise []
  split_ifs <;> first | rfl | (exfalso; omega)

/-- The tables' blocks at a point: the rows of the point's positions. -/
theorem read_table (j : S512x128.Idx) (i : S16384x128.Idx)
    (h0 : (i 0).val = (grid0.coords t 0).val % 32 * 512 + (j 0).val) (h1 : (i 1).val = (j 1).val) :
    iblk m c 3 t j = V m c main_v19 i := by
  show V m c (Pipeline.arrRef spec0 3) _ = _
  refine congrArg (V m c main_v19) (funext fun a => Fin.ext ?_)
  fin_cases a
  · blk_simp [index_table]
    exact h0.symm
  · blk_simp [index_table]
    exact h1.symm
@[inherit_doc read_table] theorem read_table_short (j : S512x128.Idx) (i : S16384x128.Idx)
    (h0 : (i 0).val = (grid0.coords t 0).val % 32 * 512 + (j 0).val) (h1 : (i 1).val = (j 1).val) :
    iblk m c 4 t j = V m c main_v20 i := by
  show V m c (Pipeline.arrRef spec0 4) _ = _
  refine congrArg (V m c main_v20) (funext fun a => Fin.ext ?_)
  fin_cases a
  · blk_simp [index_table_short]
    exact h0.symm
  · blk_simp [index_table_short]
    exact h1.symm
@[inherit_doc read_table] theorem read_table_long (j : S512x128.Idx) (i : S16384x128.Idx)
    (h0 : (i 0).val = (grid0.coords t 0).val % 32 * 512 + (j 0).val) (h1 : (i 1).val = (j 1).val) :
    iblk m c 5 t j = V m c main_v22 i := by
  show V m c (Pipeline.arrRef spec0 5) _ = _
  refine congrArg (V m c main_v22) (funext fun a => Fin.ext ?_)
  fin_cases a
  · blk_simp [index_table_long]
    exact h0.symm
  · blk_simp [index_table_long]
    exact h1.symm

end Cert.Proof.Kv

end
-- ==== Proof.Kv.Reference.lean ====
/- The reference's latents and rotated columns. -/
module

public import proofs.«01_k».proof.Proof.Kv.Spec
public import proofs.«01_k».proof.Proof.Gen.KvRefIdeal.Run
public import Idealize.ShloMosaic.Lib.Pointwise
public import Idealize.ShloMosaic.Lib.Quiescent

@[expose] public section

set_option maxRecDepth 16384

noncomputable section

namespace Cert.Proof.Kv

open Idealize.ShloMosaic Idealize.ShloMosaic.TcCoe Idealize.SL.Sem
open Cert.KvRefIdeal Cert.KvRefIdeal.Gen

variable (a : FVec Ideal S32768x2048 .bf16)

/-- The row of a sequence's position. -/
abbrev rowOf (b : Fin 2) (p : Fin 16384) : Fin 32768 := ⟨b.val * 16384 + p.val, by omega⟩

/-- The rows by sequence. -/
def hostRows : FVec Ideal S2x16384x2048 .f32 :=
  shapeCast S2x16384x2048 (extf .f32 a bitsLt_bf16_f32) shapeCasts_S32768x2048_S2x16384x2048

theorem hostRows_value (b : Fin 2) (p : Fin 16384) (k : Fin 2048) : hostRows a (ix3 b p k) = a (ix2 (rowOf b p) k) := by
  pointwise [hostRows]

/-! ## The latents -/

/-- The product by the latents' weight. -/
def hostLatent (w : FVec Ideal S2048x512 .bf16) : FVec Ideal S2x16384x512 .f32 :=
  Host.dotGeneral dot_S2x16384x2048_S2048x512_S2x16384x512_2_0_01_1_n_n none (hostRows a) (extf .f32 w bitsLt_bf16_f32)

theorem hostLatent_value (w : FVec Ideal S2048x512 .bf16) (b : Fin 2) (p : Fin 16384) (q : Fin 512) :
    hostLatent a w (ix3 b p q) = latent a w (rowOf b p) q := by
  unfold latent
  simp only [← hostRows_value]
  pointwise [hostLatent]

/-- The normalization of each row. -/
def hostNormed (y : FVec Ideal S2x16384x512 .f32) (g : FVec Ideal S512 .f32) : FVec Ideal S2x16384x512 .f32 :=
  mulf (mulf y (broadcastInDim S2x16384x512 ![0, 1, 2] bcast_S2x16384x1_S2x16384x512_0_1_2
    (Host.rsqrt (addf (Host.divf (broadcastInDim S2x16384x1 ![0, 1] bcast_S2x16384_S2x16384x1_0_1
        (Host.reduceAdd (mulf y y) (constant S_ .f32 0x00000000#32) reducesTo_S2x16384x512_S2x16384_d2 h_S_))
      (broadcastInDim S2x16384x1 ![] bcast_S_S2x16384x1 (constant S_ .f32 0x44000000#32)))
      (broadcastInDim S2x16384x1 ![] bcast_S_S2x16384x1 (constant S_ .f32 0x358637BD#32))))))
    (broadcastInDim S2x16384x512 ![0, 1, 2] bcast_S1x1x512_S2x16384x512_0_1_2
      (broadcastInDim S1x1x512 ![2] bcast_S512_S1x1x512_2 g))

theorem hostNormed_value (y : FVec Ideal S2x16384x512 .f32) (g : FVec Ideal S512 .f32) (b : Fin 2) (p : Fin 16384)
    (q : Fin 512) : hostNormed y g (ix3 b p q) = normed (fun d => y (ix3 b p d)) (fun d => g (ix1 d)) q := by
  pointwise [hostNormed, normed]

/-- The reference's first result is the latents. -/
theorem reference_latents (w : FVec Ideal S2048x512 .bf16) (g : FVec Ideal S512 .f32) :
    shapeCast S32768x512 (hostNormed (hostLatent a w) g) shapeCasts_S2x16384x512_S32768x512 = latents a w g := by
  funext j
  idx_vars j
  unfold latents
  have hr : rowOf ⟨j0.val / 16384, by omega⟩ ⟨j0.val % 16384, Nat.mod_lt _ (by decide)⟩ = j0 :=
    Fin.ext (by show j0.val / 16384 * 16384 + j0.val % 16384 = j0.val; omega)
  have e : shapeCast S32768x512 (hostNormed (hostLatent a w) g) shapeCasts_S2x16384x512_S32768x512 (ix2 j0 j1)
      = hostNormed (hostLatent a w) g (ix3 ⟨j0.val / 16384, by omega⟩ ⟨j0.val % 16384, Nat.mod_lt _ (by decide)⟩ j1) := by
    pointwise []
  refine e.trans ((hostNormed_value _ _ _ _ _).trans ?_)
  refine congrArg (fun v => normed v _ j1) (funext fun d => ?_)
  rw [hostLatent_value, hr]
  rfl

/-- Its second result is the latents rounded. -/
theorem reference_latents_rounded (w : FVec Ideal S2048x512 .bf16) (g : FVec Ideal S512 .f32) :
    truncf .bf16 (shapeCast S32768x512 (hostNormed (hostLatent a w) g) shapeCasts_S2x16384x512_S32768x512) bitsLt_bf16_f32
      = latentsRounded a w g := reference_latents a w g

/-! ## The rotated columns -/

/-- The product by the rotated columns' weight. -/
def hostUnrotated (w : FVec Ideal S2048x64 .bf16) : FVec Ideal S2x16384x64 .f32 :=
  Host.dotGeneral dot_S2x16384x2048_S2048x64_S2x16384x64_2_0_01_1_n_n none (hostRows a) (extf .f32 w bitsLt_bf16_f32)

theorem hostUnrotated_value (w : FVec Ideal S2048x64 .bf16) (b : Fin 2) (p : Fin 16384) (q : Fin 64) :
    hostUnrotated a w (ix3 b p q) = unrotated a w (rowOf b p) q := by
  unfold unrotated
  simp only [← hostRows_value]
  pointwise [hostUnrotated]

/-- A table repeated for each sequence. -/
def hostTable (v : FVec Ideal S16384x32 .f32) : FVec Ideal S2x16384x32 .f32 :=
  broadcastInDim S2x16384x32 ![0, 1, 2] bcast_S1x16384x32_S2x16384x32_0_1_2
    (broadcastInDim S1x16384x32 ![1, 2] bcast_S16384x32_S1x16384x32_1_2 v)

/-- The rotation of the halves of each row. -/
def hostRotated (y : FVec Ideal S2x16384x64 .f32) (cs sn : FVec Ideal S16384x32 .f32) : FVec Ideal S2x16384x64 .f32 :=
  concatenate S2x16384x64 2
    [⟨S2x16384x32, subf (mulf (extractStridedSlice S2x16384x32 ![0, 0, 0] y slices_S2x16384x64_S2x16384x32_0_0_0) (hostTable cs))
        (mulf (extractStridedSlice S2x16384x32 ![0, 0, 32] y slices_S2x16384x64_S2x16384x32_0_0_32) (hostTable sn))⟩,
      ⟨S2x16384x32, addf (mulf (extractStridedSlice S2x16384x32 ![0, 0, 0] y slices_S2x16384x64_S2x16384x32_0_0_0) (hostTable sn))
        (mulf (extractStridedSlice S2x16384x32 ![0, 0, 32] y slices_S2x16384x64_S2x16384x32_0_0_32) (hostTable cs))⟩]
    concatenates_S2x16384x32_S2x16384x32_S2x16384x64_d2

theorem hostRotated_value (y : FVec Ideal S2x16384x64 .f32) (cs sn : FVec Ideal S16384x32 .f32) (b : Fin 2)
    (p : Fin 16384) (d : Fin 64) : hostRotated y cs sn (ix3 b p d)
      = rotated (fun q => y (ix3 b p q)) (fun i => cs (ix2 p i)) (fun i => sn (ix2 p i)) d := by
  unfold rotated
  by_cases h : d.val < 32
  · rw [dif_pos h]
    pointwise [hostRotated, hostTable]
    rw [dif_pos h]
    have e : (⟨32 + d.val, by omega⟩ : Fin 64) = ⟨d.val + 32, by omega⟩ := Fin.ext (Nat.add_comm _ _)
    rw [e]
  · rw [dif_neg h]
    pointwise [hostRotated, hostTable]
    rw [dif_neg h]
    have e : (⟨32 + (d.val - 32), by omega⟩ : Fin 64) = d :=
      Fin.ext (by show 32 + (d.val - 32) = d.val; omega)
    rw [e]

/-- The reference's rotated columns. -/
def hostColumns (w : FVec Ideal S2048x64 .bf16) : FVec Ideal S32768x64 .f32 :=
  shapeCast S32768x64 (hostRotated (hostUnrotated a w) cosines sines) shapeCasts_S2x16384x64_S32768x64

theorem hostColumns_value (w : FVec Ideal S2048x64 .bf16) (r : Fin 32768) (d : Fin 64) :
    hostColumns a w (ix2 r d) = turned a w r d := by
  have hr : rowOf ⟨r.val / 16384, by omega⟩ ⟨r.val % 16384, Nat.mod_lt _ (by decide)⟩ = r :=
    Fin.ext (by show r.val / 16384 * 16384 + r.val % 16384 = r.val; omega)
  have e : hostColumns a w (ix2 r d) = hostRotated (hostUnrotated a w) cosines sines
      (ix3 ⟨r.val / 16384, by omega⟩ ⟨r.val % 16384, Nat.mod_lt _ (by decide)⟩ d) := by
    pointwise [hostColumns]
  refine e.trans ((hostRotated_value _ _ _ _ _ _).trans ?_)
  unfold turned
  refine congrArg (fun v => rotated v _ _ d) (funext fun q => ?_)
  rw [hostUnrotated_value, hr]

variable (m : (ℓ : Loc nD τ sig) → Buf (Elt Ideal) ℓ) (c : Dev nD)

/-- Its third result is the rotated columns. -/
theorem reference_columns : Value.res_main_v52 m c
    = columns (m ((c.tc : Thread nD τ).loc main_arg0)) (m ((c.tc : Thread nD τ).loc main_arg2)) := by
  have e : Value.res_main_v52 m c
      = hostColumns (m ((c.tc : Thread nD τ).loc main_arg0)) (m ((c.tc : Thread nD τ).loc main_arg2)) := by
    unfold Value.res_main_v52
    rfl
  rw [e]
  funext j
  idx_vars j
  exact hostColumns_value _ _ j0 j1

/-- The rotated columns followed by zeros. -/
def hostWide (y : FVec Ideal S32768x64 .f32) : FVec Ideal S32768x128 .f32 :=
  concatenate S32768x128 1 [⟨S32768x64, y⟩,
    ⟨S32768x64, (broadcastInDim S32768x64 ![] bcast_S_S32768x64 (constant S_ .f32 0x00000000#32) : FVec Ideal S32768x64 .f32)⟩]
    concatenates_S32768x64_S32768x64_S32768x128_d1

theorem hostWide_value (y : FVec Ideal S32768x64 .f32) (r : Fin 32768) (q : Fin 128) :
    hostWide y (ix2 r q) = padded (fun d => y (ix2 r d)) q := by
  unfold padded
  by_cases h : q.val < 64
  · rw [dif_pos h]
    pointwise [hostWide]
    rw [dif_pos h]
  · rw [dif_neg h]
    pointwise [hostWide]
    rw [dif_neg h]

/-- Its fourth result is the rotated columns, rounded and followed by zeros. -/
theorem reference_wide : Value.res_main_v56 m c
    = wide (m ((c.tc : Thread nD τ).loc main_arg0)) (m ((c.tc : Thread nD τ).loc main_arg2)) := by
  have e : Value.res_main_v56 m c = truncf .bf16
      (hostWide (hostColumns (m ((c.tc : Thread nD τ).loc main_arg0)) (m ((c.tc : Thread nD τ).loc main_arg2))))
      bitsLt_bf16_f32 := by
    unfold Value.res_main_v56
    rfl
  rw [e]
  funext j
  idx_vars j
  refine (hostWide_value _ j0 j1).trans ?_
  exact congrArg (fun v => padded v j1) (funext fun d => hostColumns_value _ _ j0 d)

/-- The reference keeps its arguments and owns no semaphore. -/
theorem frame_reference : Cert.quiescent_KvRefIdeal := fun m ρ _ =>
  (θ_run Cert.KvRefIdeal.defs _ _).mono
    (fun r h => ⟨fun c => (h c).2.2.2.2, sem_eq_zero_of_no_sems (by decide) r.2⟩)
    (Cert.KvRefIdeal.Value.run (F := Ideal) m ρ)

end Cert.Proof.Kv

end
-- ==== Proof.Kv.Array.lean ====
/-
  The latents and the rotated columns. Each grid point multiplies one block of rows by the two weights, set side by side,
  scales the first 512 columns of each row to a mean square of one, and rotates the halves of the next 64 by the angles of
  the rows' positions. The results are the latents, the rotated columns, and both once more as bf16.
-/
module

public import proofs.«01_k».proof.Proof.Kv.Block
public import proofs.«01_k».proof.Proof.Kv.Host
public import proofs.«01_k».proof.Proof.Kv.Reference
public import Idealize.ShloMosaic.Lib.Pipeline.ValueKit
public import Idealize.ShloMosaic.Lib.Pipeline.Covers
public import Idealize.ShloMosaic.Lib.Quiescent

@[expose] public section

set_option maxRecDepth 16384

noncomputable section

namespace Cert.Proof.Kv

open Idealize.ShloMosaic Idealize.ShloMosaic.TcCoe Idealize.SL.Sem
open Cert.KvIdeal Cert.KvIdeal.Gen
open Idealize.ShloMosaic.Pipeline (Dat)

variable (m : (ℓ : Loc nD τ sig) → Buf (Elt Ideal) ℓ)

theorem index_latents : ∀ t : Fin grid0.N, win0_6.index t = ![(grid0.coords t 0).val, 0] := by decide +kernel
theorem index_latents_rounded : ∀ t : Fin grid0.N, win0_7.index t = ![(grid0.coords t 0).val, 0] := by decide +kernel
theorem index_columns : ∀ t : Fin grid0.N, win0_8.index t = ![(grid0.coords t 0).val, 0] := by decide +kernel
theorem index_wide : ∀ t : Fin grid0.N, win0_9.index t = ![(grid0.coords t 0).val, 0] := by decide +kernel

variable (c : Dev nD) (t : Fin cfg0.N)

/-- The argument arrays. -/
abbrev argRows : FVec Ideal S32768x2048 .bf16 := m ((c : Thread nD τ).loc main_arg0)
@[inherit_doc argRows] abbrev argLatents : FVec Ideal S2048x512 .bf16 := m ((c : Thread nD τ).loc main_arg1)
@[inherit_doc argRows] abbrev argRotated : FVec Ideal S2048x64 .bf16 := m ((c : Thread nD τ).loc main_arg2)
@[inherit_doc argRows] abbrev argGains : FVec Ideal S512 .f32 := m ((c : Thread nD τ).loc main_arg3)

/-- The product at a point, in the latents' columns. -/
theorem product_latents (y q : Fin 512) (r : Fin 32768) (h : r.val = (grid0.coords t 0).val * 512 + y.val) :
    product (iblk m c 0 t) (iblk m c 1 t) y ⟨q.val, by omega⟩ = latent (argRows m c) (argLatents m c) r q :=
  Finset.sum_congr rfl fun k _ => by
    rw [read_rows m c t (ix2 y k) (ix2 r k) h rfl, weight_latents m c t k q]

/-- The product at a point, in the rotated columns. -/
theorem product_rotated (y : Fin 512) (q : Fin 64) (r : Fin 32768) (h : r.val = (grid0.coords t 0).val * 512 + y.val) :
    product (iblk m c 0 t) (iblk m c 1 t) y ⟨512 + q.val, by omega⟩ = unrotated (argRows m c) (argRotated m c) r q :=
  Finset.sum_congr rfl fun k _ => by
    rw [read_rows m c t (ix2 y k) (ix2 r k) h rfl, weight_rotated m c t k q]

/-- The latents' block at a point, at the row the point puts there. -/
theorem point_latents (y q : Fin 512) (r : Fin 32768) (h : r.val = (grid0.coords t 0).val * 512 + y.val) :
    k0_pay5 (iblk m c 0 t) (iblk m c 1 t) (iblk m c 2 t) (ix2 y q)
      = normed (latent (argRows m c) (argLatents m c) r) (fun e => argGains m c (ix1 e)) q :=
  (latents_block _ _ _ y q).trans
    (congrArg₂ (fun v w => normed v w q) (funext fun d => product_latents m c t y d r h)
      (funext fun d => read_gains m c t d))

/-- The rotated block's two parts in the blocks they read. -/
theorem first_part (x0 : FVec Ideal S512x2048 .bf16) (x1 : FVec Ideal S2048x640 .bf16) (x2 : FVec Ideal S1x512 .f32)
    (x3 x4 x5 : FVec Ideal S512x128 .f32) :
    k0_pay10 (F := Ideal) x0 x1 x2 x3 x4 x5 = k0_pay8 (F := Ideal) x0 x1 x3 x4 := by
  unfold k0_pay10
  simp (disch := decide) only [View.ld_unit_lit']
@[inherit_doc first_part] theorem second_part (x0 : FVec Ideal S512x2048 .bf16) (x1 : FVec Ideal S2048x640 .bf16)
    (x2 : FVec Ideal S1x512 .f32) (x3 x4 x5 : FVec Ideal S512x128 .f32) :
    k0_pay11 (F := Ideal) x0 x1 x2 x3 x4 x5 = k0_pay9 (F := Ideal) x0 x1 x5 := by
  unfold k0_pay11
  simp (disch := decide) only [View.ld_unit_lit']

/-- The rotated block at a point, at the row the point puts there. -/
theorem point_rotated (y : Fin 512) (q : Fin 128) (r : Fin 32768) (h : r.val = (grid0.coords t 0).val * 512 + y.val) :
    k0_pay1 (k0_pay8 (iblk m c 0 t) (iblk m c 1 t) (iblk m c 3 t) (iblk m c 4 t))
        (k0_pay9 (iblk m c 0 t) (iblk m c 1 t) (iblk m c 5 t)) (ix2 y q)
      = padded (turned (argRows m c) (argRotated m c) r) q := by
  have hp : (position r).val = (grid0.coords t 0).val % 32 * 512 + y.val := by
    show r.val % 16384 = _
    omega
  refine (sum_value _ _ _ _ _ y q).trans ?_
  refine (mixed_rotated _ _ _ _ (fun i => cosines (ix2 (position r) i)) (fun i => sines (ix2 (position r) i))
    (fun d => (read_table m c t (ix2 y d) (ix2 (position r) d) hp rfl).trans (table_at m c _ d))
    (fun d => (read_table_short m c t (ix2 y d) (ix2 (position r) d) hp rfl).trans (table_short_at m c _ d))
    (fun d => (read_table_long m c t (ix2 y d) (ix2 (position r) d) hp rfl).trans (table_long_at m c _ d)) q).trans ?_
  refine congrArg (fun v => padded (rotated v _ _) q) (funext fun d => ?_)
  exact product_rotated m c t y d r h

/-- The latents' array after the run. -/
theorem latents_array :
    (dats m 0 c).arrAt 6 cfg0.N = latents (argRows m c) (argLatents m c) (argGains m c) := by
  refine (dats m 0 c).arrAt_eq_of_covers 6 _ (by decide +kernel) fun t hf y => ?_
  have i0 : ((((cfg0.win 6).blk t).view.emb y 0 : Fin _) : ℕ) = (grid0.coords t 0).val * 512 + (y 0).val := by
    blk_simp [index_latents]
  have i1 : ((((cfg0.win 6).blk t).view.emb y 1 : Fin _) : ℕ) = (y 1).val := by
    blk_simp [index_latents]
  generalize ((cfg0.win 6).blk t).view.emb y = i at i0 i1 ⊢
  blk_simp
  rw [after0_6]
  frame_out
  have e : y = ix2 (y 0) (i 1) := by
    funext a
    refine Fin.ext ?_
    fin_cases a
    · rfl
    · exact i1.symm
  rw [e]
  exact point_latents m c t (y 0) (i 1) (i 0) i0

/-- The bf16 latents' array after the run. -/
theorem latents_rounded_array :
    (dats m 0 c).arrAt 7 cfg0.N = latentsRounded (argRows m c) (argLatents m c) (argGains m c) := by
  refine (dats m 0 c).arrAt_eq_of_covers 7 _ (by decide +kernel) fun t hf y => ?_
  have i0 : ((((cfg0.win 7).blk t).view.emb y 0 : Fin _) : ℕ) = (grid0.coords t 0).val * 512 + (y 0).val := by
    blk_simp [index_latents_rounded]
  have i1 : ((((cfg0.win 7).blk t).view.emb y 1 : Fin _) : ℕ) = (y 1).val := by
    blk_simp [index_latents_rounded]
  generalize ((cfg0.win 7).blk t).view.emb y = i at i0 i1 ⊢
  blk_simp
  rw [after0_7]
  frame_out
  have e : y = ix2 (y 0) (i 1) := by
    funext a
    refine Fin.ext ?_
    fin_cases a
    · rfl
    · exact i1.symm
  rw [e]
  exact point_latents m c t (y 0) (i 1) (i 0) i0

/-- The first 64 columns of the rotated block. -/
theorem columns_block (v w : FVec Ideal S512x128 .f32) (r : Fin 512) (q : Fin 64) :
    k0_pay2 v w (ix2 r q) = k0_pay1 v w (ix2 r ⟨q.val, by omega⟩) := by
  pointwise [k0_pay2]

/-- The rotated columns' array after the run. -/
theorem columns_array : (dats m 0 c).arrAt 8 cfg0.N = columns (argRows m c) (argRotated m c) := by
  refine (dats m 0 c).arrAt_eq_of_covers 8 _ (by decide +kernel) fun t hf y => ?_
  have i0 : ((((cfg0.win 8).blk t).view.emb y 0 : Fin _) : ℕ) = (grid0.coords t 0).val * 512 + (y 0).val := by
    blk_simp [index_columns]
  have i1 : ((((cfg0.win 8).blk t).view.emb y 1 : Fin _) : ℕ) = (y 1).val := by
    blk_simp [index_columns]
  generalize ((cfg0.win 8).blk t).view.emb y = i at i0 i1 ⊢
  blk_simp
  rw [after0_8]
  frame_out
  have e : y = ix2 (y 0) (i 1) := by
    funext a
    refine Fin.ext ?_
    fin_cases a
    · rfl
    · exact i1.symm
  rw [e, first_part, second_part]
  refine (columns_block _ _ (y 0) (i 1)).trans ((point_rotated m c t (y 0) _ (i 0) i0).trans ?_)
  exact dif_pos (i 1).isLt

/-- The bf16 array with zeros after the rotated columns. -/
theorem wide_array : (dats m 0 c).arrAt 9 cfg0.N = wide (argRows m c) (argRotated m c) := by
  refine (dats m 0 c).arrAt_eq_of_covers 9 _ (by decide +kernel) fun t hf y => ?_
  have i0 : ((((cfg0.win 9).blk t).view.emb y 0 : Fin _) : ℕ) = (grid0.coords t 0).val * 512 + (y 0).val := by
    blk_simp [index_wide]
  have i1 : ((((cfg0.win 9).blk t).view.emb y 1 : Fin _) : ℕ) = (y 1).val := by
    blk_simp [index_wide]
  generalize ((cfg0.win 9).blk t).view.emb y = i at i0 i1 ⊢
  blk_simp
  rw [after0_9]
  frame_out
  have e : y = ix2 (y 0) (i 1) := by
    funext a
    refine Fin.ext ?_
    fin_cases a
    · rfl
    · exact i1.symm
  rw [e, first_part, second_part]
  exact point_rotated m c t (y 0) (i 1) (i 0) i0

/-- The run of the kernel's program: its four results, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v24_0) = latents (argRows m c) (argLatents m c) (argGains m c)
      ∧ r.2.mem ((c : Thread nD τ).loc main_v24_1) = latentsRounded (argRows m c) (argLatents m c) (argGains m c)
      ∧ r.2.mem ((c : Thread nD τ).loc main_v24_2) = columns (argRows m c) (argRotated m c)
      ∧ r.2.mem ((c : Thread nD τ).loc main_v24_3) = wide (argRows m c) (argRotated m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono
    (fun _ h c => ⟨(h c).1.trans (latents_array m c), (h c).2.1.trans (latents_rounded_array m c),
      (h c).2.2.1.trans (columns_array m c), (h c).2.2.2.1.trans (wide_array m c), (h c).2.2.2.2⟩)
    (Value.run_blocks m ρ)

/-- On the extended reals the kernel's program and the reference end with the same four results. -/
theorem algebraic : Cert.algebraic_KvIdeal_KvRefIdeal := fun m ρ m' ρ' _ hag =>
  ⟨fun c => latents (argRows m c) (argLatents m c) (argGains m c),
    fun c => latentsRounded (argRows m c) (argLatents m c) (argGains m c),
    fun c => columns (argRows m c) (argRotated m c),
    fun c => wide (argRows m c) (argRotated m c),
    run m ρ,
    (θ_run Cert.KvRefIdeal.defs _ _).mono
      (fun _ h c => ⟨(h c).1.trans (by
          rw [(hag c).1, (hag c).2.1, (hag c).2.2.2]
          exact reference_latents _ _ _),
        (h c).2.1.trans (by
          rw [(hag c).1, (hag c).2.1, (hag c).2.2.2]
          exact reference_latents_rounded _ _ _),
        (h c).2.2.1.trans (by
          rw [reference_columns, (hag c).1, (hag c).2.2.1]),
        (h c).2.2.2.1.trans (by
          rw [reference_wide, (hag c).1, (hag c).2.2.1]), (h c).2.2.2.2⟩)
      (Cert.KvRefIdeal.Value.run (F := Ideal) m' ρ')⟩

end Cert.Proof.Kv

end
-- ==== Proof.Ku.Array.lean ====
/-
  The attention's keys and values from the normalized latents. Each grid point multiplies one block of rows by the keys'
  and the values' weights, set side by side, and writes the keys' product head by head, with the shared rotated columns
  after each head's own columns, and the values' product as it is.
-/
module

public import proofs.«01_k».proof.Defs
public import proofs.«01_k».proof.Proof.Gen.KuIdeal.Value
public import proofs.«01_k».proof.Proof.Gen.KuRefIdeal.Run
public import Idealize.ShloMosaic.Lib.Pointwise
public import Idealize.ShloMosaic.Lib.Pipeline.ValueKit
public import Idealize.ShloMosaic.Lib.Pipeline.Covers
public import Idealize.ShloMosaic.Lib.Quiescent
public import Idealize.ShloMosaic.Lib.StableHlo.Run

@[expose] public section

set_option maxRecDepth 16384

noncomputable section

namespace Cert.Proof.Ku

open Idealize.ShloMosaic Idealize.ShloMosaic.TcCoe Idealize.SL.Sem
open Cert.KuIdeal Cert.KuIdeal.Gen
open Idealize.ShloMosaic.Pipeline (Dat)

/-- Column `d` of head `h` among the heads' own columns. -/
abbrev narrow (h : Fin 4) (d : Fin 128) : Fin 512 := ⟨h.val * 128 + d.val, by omega⟩

/-- The head of a key's column, and its place in the head. -/
abbrev headOf (q : Fin 1024) : Fin 4 := ⟨q.val / 256, by omega⟩
@[inherit_doc headOf] abbrev placeOf (q : Fin 1024) : Fin 256 := ⟨q.val % 256, Nat.mod_lt _ (by decide)⟩

/-- Row `r` of the latents times column `q` of a weight. -/
def entry (a : FVec Ideal S32768x512 .bf16) (w : FVec Ideal S512x512 .bf16) (r : Fin 32768) (q : Fin 512) : EReal :=
  ∑ k : Fin 512, a (ix2 r k) * w (ix2 k q)

/-- A key's entry: a head's first 128 columns are its own, the other 128 the row's rotated columns. -/
def keyAt (own : Fin 512 → EReal) (rot : Fin 128 → EReal) (h : Fin 4) (d : Fin 256) : EReal :=
  if hd : d.val < 128 then own (narrow h ⟨d.val, hd⟩) else rot ⟨d.val - 128, by omega⟩

/-- The keys. -/
def keys (a : FVec Ideal S32768x512 .bf16) (x : FVec Ideal S32768x128 .bf16) (w : FVec Ideal S512x512 .bf16) :
    FVec Ideal S32768x1024 .bf16 :=
  fun i => keyAt (fun q => entry a w (i 0) q) (fun d => x (ix2 (i 0) d)) (headOf (i 1)) (placeOf (i 1))

/-- The values. -/
def values (a : FVec Ideal S32768x512 .bf16) (w : FVec Ideal S512x512 .bf16) : FVec Ideal S32768x512 .bf16 :=
  fun i => entry a w (i 0) (i 1)

/-! ## The block -/

section Block
variable (a : Vec Ideal S512x512 .bf16) (x : Vec Ideal S512x128 .bf16) (b : Vec Ideal S512x1024 .bf16)

/-- Row `r` of a block times column `q` of the two weights. -/
def product (r : Fin 512) (q : Fin 1024) : EReal := ∑ k : Fin 512, a (ix2 r k) * b (ix2 k q)

/-- The columns of the product stored for the four heads' keys. -/
theorem own_first (r : Fin 512) (d : Fin 128) : k0_pay2 a b (ix2 r d) = product a b r ⟨d.val, by omega⟩ := by
  pointwise [k0_pay2, k0_pay1, product]
@[inherit_doc own_first] theorem own_second (r : Fin 512) (d : Fin 128) :
    k0_pay3 a b (ix2 r d) = product a b r ⟨128 + d.val, by omega⟩ := by
  pointwise [k0_pay3, k0_pay1, product]
@[inherit_doc own_first] theorem own_third (r : Fin 512) (d : Fin 128) :
    k0_pay4 a b (ix2 r d) = product a b r ⟨256 + d.val, by omega⟩ := by
  pointwise [k0_pay4, k0_pay1, product]
@[inherit_doc own_first] theorem own_fourth (r : Fin 512) (d : Fin 128) :
    k0_pay5 a b (ix2 r d) = product a b r ⟨384 + d.val, by omega⟩ := by
  pointwise [k0_pay5, k0_pay1, product]

/-- The columns stored as the values. -/
theorem value_block (r q : Fin 512) : k0_pay6 a b (ix2 r q) = product a b r ⟨512 + q.val, by omega⟩ := by
  pointwise [k0_pay6, k0_pay1, product]

/-- The keys' block at a row and a column. -/
def keyBlock (y : S512x1024.Idx) : Elt Ideal .bf16 :=
  keyAt (fun q => product a b (y 0) ⟨q.val, by omega⟩) (fun d => x (ix2 (y 0) d)) (headOf (y 1)) (placeOf (y 1))

/-- A head's own columns in the keys' block. -/
theorem keyBlock_own (y : S512x1024.Idx) (h : Fin 4) (r : Fin 512) (d : Fin 128) (h0 : (y 0).val = r.val)
    (h1 : (y 1).val = h.val * 256 + d.val) (q : Fin 1024) (hq : q.val = h.val * 128 + d.val) :
    product a b r q = keyBlock a x b y := by
  have e0 : y 0 = r := Fin.ext h0
  have e1 : headOf (y 1) = h := Fin.ext (by show (y 1).val / 256 = _; omega)
  have e2 : (placeOf (y 1)).val = d.val := by show (y 1).val % 256 = _; omega
  unfold keyBlock keyAt
  rw [dif_pos (by rw [e2]; exact d.isLt), e0]
  refine congrArg _ (Fin.ext ?_)
  show q.val = (headOf (y 1)).val * 128 + (placeOf (y 1)).val
  rw [e1, e2, hq]

/-- The rotated columns in the keys' block. -/
theorem keyBlock_rotated (y : S512x1024.Idx) (h : Fin 4) (r : Fin 512) (d : Fin 128) (h0 : (y 0).val = r.val)
    (h1 : (y 1).val = h.val * 256 + 128 + d.val) : x (ix2 r d) = keyBlock a x b y := by
  have e0 : y 0 = r := Fin.ext h0
  have e2 : (placeOf (y 1)).val = 128 + d.val := by show (y 1).val % 256 = _; omega
  unfold keyBlock keyAt
  rw [dif_neg (by rw [e2]; omega), e0]
  refine congrArg (fun d => x (ix2 r d)) (Fin.ext ?_)
  show d.val = (placeOf (y 1)).val - 128
  omega

end Block

variable (m : (ℓ : Loc nD τ sig) → Buf (Elt Ideal) ℓ)

theorem index_rows : ∀ t : Fin grid0.N, win0_0.index t = ![(grid0.coords t 0).val, 0] := by decide +kernel
theorem index_rotated : ∀ t : Fin grid0.N, win0_1.index t = ![(grid0.coords t 0).val, 0] := by decide +kernel
theorem index_weight : ∀ t : Fin grid0.N, win0_2.index t = ![0, 0] := by decide +kernel
theorem index_keys : ∀ t : Fin grid0.N, win0_3.index t = ![(grid0.coords t 0).val, 0] := by decide +kernel
theorem index_values : ∀ t : Fin grid0.N, win0_4.index t = ![(grid0.coords t 0).val, 0] := by decide +kernel

variable (c : Dev nD) (t : Fin cfg0.N)

/-- A block of latents, read at an index, is the array at the row the block puts there. -/
theorem read_rows (j : S512x512.Idx) (i : S32768x512.Idx)
    (h0 : (i 0).val = (grid0.coords t 0).val * 512 + (j 0).val) (h1 : (i 1).val = (j 1).val) :
    iblk m c 0 t j = m ((c : Thread nD τ).loc main_arg0) i := by
  show V m c (Pipeline.arrRef spec0 0) _ = _
  rw [V_main_arg0]
  refine congrArg _ (funext fun a => Fin.ext ?_)
  fin_cases a
  · blk_simp [index_rows]
    exact h0.symm
  · blk_simp [index_rows]
    exact h1.symm

/-- A block of rotated columns, read at an index. -/
theorem read_rotated (j : S512x128.Idx) (i : S32768x128.Idx)
    (h0 : (i 0).val = (grid0.coords t 0).val * 512 + (j 0).val) (h1 : (i 1).val = (j 1).val) :
    iblk m c 1 t j = m ((c : Thread nD τ).loc main_arg1) i := by
  show V m c (Pipeline.arrRef spec0 1) _ = _
  rw [V_main_arg1]
  refine congrArg _ (funext fun a => Fin.ext ?_)
  fin_cases a
  · blk_simp [index_rotated]
    exact h0.symm
  · blk_simp [index_rotated]
    exact h1.symm

/-- The two weights side by side. -/
theorem sides : V m c main_v0 = concatenate S512x1024 1
    [⟨S512x512, m ((c : Thread nD τ).loc main_arg2)⟩, ⟨S512x512, m ((c : Thread nD τ).loc main_arg3)⟩]
    concatenates_S512x512_S512x512_S512x1024_d1 := by
  unfold_abbrev_sides
  after_results

/-- The block of weights is the two weights side by side. -/
theorem read_weight (j : S512x1024.Idx) : iblk m c 2 t j = V m c main_v0 j := by
  show V m c (Pipeline.arrRef spec0 2) _ = _
  refine congrArg (V m c main_v0) (funext fun a => Fin.ext ?_)
  fin_cases a
  · blk_simp [index_weight]
  · blk_simp [index_weight]

/-- Its first 512 columns are the keys' weight. -/
theorem weight_keys (k q : Fin 512) :
    iblk m c 2 t (ix2 k ⟨q.val, by omega⟩) = m ((c : Thread nD τ).loc main_arg2) (ix2 k q) := by
  refine (read_weight m c t _).trans ?_
  rw [sides]
  pointwise []

/-- The others are the values' weight. -/
theorem weight_values (k q : Fin 512) :
    iblk m c 2 t (ix2 k ⟨512 + q.val, by omega⟩) = m ((c : Thread nD τ).loc main_arg3) (ix2 k q) := by
  refine (read_weight m c t _).trans ?_
  rw [sides]
  pointwise []

/-- The product at a point, in the keys' columns. -/
theorem product_keys (y q : Fin 512) (r : Fin 32768) (h : r.val = (grid0.coords t 0).val * 512 + y.val) :
    product (iblk m c 0 t) (iblk m c 2 t) y ⟨q.val, by omega⟩
      = entry (m ((c : Thread nD τ).loc main_arg0)) (m ((c : Thread nD τ).loc main_arg2)) r q :=
  Finset.sum_congr rfl fun k _ => by
    rw [read_rows m c t (ix2 y k) (ix2 r k) h rfl, weight_keys m c t k q]

/-- The product at a point, in the values' columns. -/
theorem product_values (y q : Fin 512) (r : Fin 32768) (h : r.val = (grid0.coords t 0).val * 512 + y.val) :
    product (iblk m c 0 t) (iblk m c 2 t) y ⟨512 + q.val, by omega⟩
      = entry (m ((c : Thread nD τ).loc main_arg0)) (m ((c : Thread nD τ).loc main_arg3)) r q :=
  Finset.sum_congr rfl fun k _ => by
    rw [read_rows m c t (ix2 y k) (ix2 r k) h rfl, weight_values m c t k q]

/-- The eight stores leave the keys' block. -/
theorem stored_keys (a : Vec Ideal S512x512 .bf16) (x : Vec Ideal S512x128 .bf16) (b : Vec Ideal S512x1024 .bf16)
    (y : S512x1024.Idx) :
    View.canon (Val := Elt Ideal) (e := .bf16) [⟨r0_10, x⟩, ⟨r0_9, k0_pay5 a b⟩, ⟨r0_8, x⟩, ⟨r0_7, k0_pay4 a b⟩, ⟨r0_6, x⟩, ⟨r0_5, k0_pay3 a b⟩,
      ⟨r0_4, x⟩, ⟨r0_3, k0_pay2 a b⟩] y = keyBlock a x b y := by
  refine View.canon_apply_of_pieces (keyBlock a x b) _ ?_ y (cover0_3 _ _ _ _ _ _ _ _ y)
  intro pc hpc
  rcases List.mem_cons.mp hpc with rfl | hpc
  · intro z
    idx_vars z
    exact keyBlock_rotated a x b _ 3 _ _ (by show 0 + 1 * z0.val = z0.val; omega) (by show 896 + 1 * z1.val = 3 * 256 + 128 + z1.val; omega)
  rcases List.mem_cons.mp hpc with rfl | hpc
  · intro z
    idx_vars z
    exact (own_fourth a b _ _).trans
      (keyBlock_own a x b _ 3 _ _ (by show 0 + 1 * z0.val = z0.val; omega) (by show 768 + 1 * z1.val = 3 * 256 + z1.val; omega) _ rfl)
  rcases List.mem_cons.mp hpc with rfl | hpc
  · intro z
    idx_vars z
    exact keyBlock_rotated a x b _ 2 _ _ (by show 0 + 1 * z0.val = z0.val; omega) (by show 640 + 1 * z1.val = 2 * 256 + 128 + z1.val; omega)
  rcases List.mem_cons.mp hpc with rfl | hpc
  · intro z
    idx_vars z
    exact (own_third a b _ _).trans
      (keyBlock_own a x b _ 2 _ _ (by show 0 + 1 * z0.val = z0.val; omega) (by show 512 + 1 * z1.val = 2 * 256 + z1.val; omega) _ rfl)
  rcases List.mem_cons.mp hpc with rfl | hpc
  · intro z
    idx_vars z
    exact keyBlock_rotated a x b _ 1 _ _ (by show 0 + 1 * z0.val = z0.val; omega) (by show 384 + 1 * z1.val = 1 * 256 + 128 + z1.val; omega)
  rcases List.mem_cons.mp hpc with rfl | hpc
  · intro z
    idx_vars z
    exact (own_second a b _ _).trans
      (keyBlock_own a x b _ 1 _ _ (by show 0 + 1 * z0.val = z0.val; omega) (by show 256 + 1 * z1.val = 1 * 256 + z1.val; omega) _ rfl)
  rcases List.mem_cons.mp hpc with rfl | hpc
  · intro z
    idx_vars z
    exact keyBlock_rotated a x b _ 0 _ _ (by show 0 + 1 * z0.val = z0.val; omega) (by show 128 + 1 * z1.val = 0 * 256 + 128 + z1.val; omega)
  rcases List.mem_cons.mp hpc with rfl | hpc
  · intro z
    idx_vars z
    exact (own_first a b _ _).trans
      (keyBlock_own a x b _ 0 _ _ (by show 0 + 1 * z0.val = z0.val; omega) (by show 0 + 1 * z1.val = 0 * 256 + z1.val; omega) _
        (by show z1.val = 0 * 128 + z1.val; omega))
  nomatch hpc

/-- The keys' block at a point, at the row and the column the point puts there. -/
theorem point_keys (y : S512x1024.Idx) (i : S32768x1024.Idx)
    (h0 : (i 0).val = (grid0.coords t 0).val * 512 + (y 0).val) (h1 : (i 1).val = (y 1).val) :
    keyBlock (iblk m c 0 t) (iblk m c 1 t) (iblk m c 2 t) y
      = keys (m ((c : Thread nD τ).loc main_arg0)) (m ((c : Thread nD τ).loc main_arg1))
          (m ((c : Thread nD τ).loc main_arg2)) i := by
  have e : i 1 = y 1 := Fin.ext h1
  unfold keyBlock keys
  rw [e]
  refine congrArg₂ (fun o s => keyAt o s (headOf (y 1)) (placeOf (y 1))) (funext fun q => ?_) (funext fun d => ?_)
  · exact product_keys m c t (y 0) q (i 0) h0
  · exact read_rotated m c t (ix2 (y 0) d) (ix2 (i 0) d) h0 rfl

/-- The keys' array after the run. -/
theorem keys_array :
    (dats m 0 c).arrAt 3 cfg0.N
      = keys (m ((c : Thread nD τ).loc main_arg0)) (m ((c : Thread nD τ).loc main_arg1))
          (m ((c : Thread nD τ).loc main_arg2)) := by
  refine (dats m 0 c).arrAt_eq_of_covers 3 _ (by decide +kernel) fun t hf y => ?_
  have i0 : ((((cfg0.win 3).blk t).view.emb y 0 : Fin _) : ℕ) = (grid0.coords t 0).val * 512 + (y 0).val := by
    blk_simp [index_keys]
  have i1 : ((((cfg0.win 3).blk t).view.emb y 1 : Fin _) : ℕ) = (y 1).val := by
    blk_simp [index_keys]
  generalize ((cfg0.win 3).blk t).view.emb y = i at i0 i1 ⊢
  blk_simp
  rw [after0_3]
  frame_out
  exact (stored_keys _ _ _ y).trans (point_keys m c t y i i0 i1)

/-- The values' array after the run. -/
theorem values_array :
    (dats m 0 c).arrAt 4 cfg0.N
      = values (m ((c : Thread nD τ).loc main_arg0)) (m ((c : Thread nD τ).loc main_arg3)) := by
  refine (dats m 0 c).arrAt_eq_of_covers 4 _ (by decide +kernel) fun t hf y => ?_
  have i0 : ((((cfg0.win 4).blk t).view.emb y 0 : Fin _) : ℕ) = (grid0.coords t 0).val * 512 + (y 0).val := by
    blk_simp [index_values]
  have i1 : ((((cfg0.win 4).blk t).view.emb y 1 : Fin _) : ℕ) = (y 1).val := by
    blk_simp [index_values]
  generalize ((cfg0.win 4).blk t).view.emb y = i at i0 i1 ⊢
  blk_simp
  rw [after0_4]
  frame_out
  have e : y = ix2 (y 0) (i 1) := by
    funext a
    refine Fin.ext ?_
    fin_cases a
    · rfl
    · exact i1.symm
  rw [e]
  exact (value_block _ _ (y 0) (i 1)).trans (product_values m c t (y 0) (i 1) (i 0) i0)

/-- The run of the kernel's program: its two results, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v1_0)
        = keys (m ((c : Thread nD τ).loc main_arg0)) (m ((c : Thread nD τ).loc main_arg1))
            (m ((c : Thread nD τ).loc main_arg2))
      ∧ r.2.mem ((c : Thread nD τ).loc main_v1_1)
        = values (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono
    (fun _ h c => ⟨(h c).1.trans (keys_array m c), (h c).2.1.trans (values_array m c), (h c).2.2⟩)
    (Value.run_blocks m ρ)

/-! ## The reference -/

/-- The reference's product by a weight. -/
def hostProduct (a : FVec Ideal S32768x512 .bf16) (w : FVec Ideal S512x512 .bf16) : FVec Ideal S32768x512 .f32 :=
  Host.dotGeneral Cert.KuRefIdeal.dot_S32768x512_S512x512_S32768x512_1_0_0_1_n_n none
    (extf .f32 a Cert.KuRefIdeal.Gen.bitsLt_bf16_f32) (extf .f32 w Cert.KuRefIdeal.Gen.bitsLt_bf16_f32)

theorem hostProduct_value (a : FVec Ideal S32768x512 .bf16) (w : FVec Ideal S512x512 .bf16) (r : Fin 32768) (q : Fin 512) :
    hostProduct a w (ix2 r q) = entry a w r q := by
  pointwise [hostProduct, entry]

/-- The reference's keys by head: each head's own columns, then the rotated ones. -/
def hostHeads (a : FVec Ideal S32768x512 .bf16) (x : FVec Ideal S32768x128 .bf16) (w : FVec Ideal S512x512 .bf16) :
    FVec Ideal Cert.KuRefIdeal.S32768x4x256 .f32 :=
  concatenate Cert.KuRefIdeal.S32768x4x256 2
    [⟨Cert.KuRefIdeal.S32768x4x128, shapeCast _ (hostProduct a w) Cert.KuRefIdeal.Gen.shapeCasts_S32768x512_S32768x4x128⟩,
      ⟨Cert.KuRefIdeal.S32768x4x128, broadcastInDim Cert.KuRefIdeal.S32768x4x128 ![0, 1, 2]
        Cert.KuRefIdeal.Gen.bcast_S32768x1x128_S32768x4x128_0_1_2
        (broadcastInDim Cert.KuRefIdeal.S32768x1x128 ![0, 2] Cert.KuRefIdeal.Gen.bcast_S32768x128_S32768x1x128_0_2
          (extf .f32 x Cert.KuRefIdeal.Gen.bitsLt_bf16_f32))⟩]
    Cert.KuRefIdeal.Gen.concatenates_S32768x4x128_S32768x4x128_S32768x4x256_d2

theorem hostHeads_value (a : FVec Ideal S32768x512 .bf16) (x : FVec Ideal S32768x128 .bf16) (w : FVec Ideal S512x512 .bf16)
    (r : Fin 32768) (h : Fin 4) (d : Fin 256) :
    hostHeads a x w (ix3 r h d) = keyAt (fun q => entry a w r q) (fun e => x (ix2 r e)) h d := by
  unfold keyAt
  by_cases hd : d.val < 128
  · rw [dif_pos hd]
    refine Eq.trans ?_ (hostProduct_value a w r _)
    pointwise [hostHeads]
    rw [dif_pos hd]
  · rw [dif_neg hd]
    pointwise [hostHeads]
    rw [dif_neg hd]

/-- The reference's first result is the keys. -/
theorem reference_keys (a : FVec Ideal S32768x512 .bf16) (x : FVec Ideal S32768x128 .bf16) (w : FVec Ideal S512x512 .bf16) :
    truncf .bf16 (shapeCast S32768x1024 (hostHeads a x w) Cert.KuRefIdeal.Gen.shapeCasts_S32768x4x256_S32768x1024)
      Cert.KuRefIdeal.Gen.bitsLt_bf16_f32 = keys a x w := by
  funext j
  idx_vars j
  unfold keys
  refine Eq.trans ?_ (hostHeads_value a x w _ _ _)
  pointwise []

/-- Its second result is the values. -/
theorem reference_values (a : FVec Ideal S32768x512 .bf16) (w : FVec Ideal S512x512 .bf16) :
    truncf .bf16 (hostProduct a w) Cert.KuRefIdeal.Gen.bitsLt_bf16_f32 = values a w := by
  funext j
  idx_vars j
  exact hostProduct_value a w _ _

/-- The reference keeps its arguments and owns no semaphore. -/
theorem frame_reference : Cert.quiescent_KuRefIdeal := fun m ρ _ =>
  (θ_run Cert.KuRefIdeal.defs _ _).mono
    (fun r h => ⟨fun c => (h c).2.2, sem_eq_zero_of_no_sems (by decide) r.2⟩)
    (Cert.KuRefIdeal.Value.run (F := Ideal) m ρ)

/-- On the extended reals the kernel's program and the reference end with the same two results. -/
theorem algebraic : Cert.algebraic_KuIdeal_KuRefIdeal := fun m ρ m' ρ' _ hag =>
  ⟨fun c => keys (m ((c : Thread nD τ).loc main_arg0)) (m ((c : Thread nD τ).loc main_arg1))
      (m ((c : Thread nD τ).loc main_arg2)),
    fun c => values (m ((c : Thread nD τ).loc main_arg0)) (m ((c : Thread nD τ).loc main_arg3)),
    run m ρ,
    (θ_run Cert.KuRefIdeal.defs _ _).mono
      (fun _ h c => ⟨(h c).1.trans (by
          rw [(hag c).1, (hag c).2.1, (hag c).2.2.1]
          exact reference_keys _ _ _),
        (h c).2.1.trans (by
          rw [(hag c).1, (hag c).2.2.2]
          exact reference_values _ _), (h c).2.2⟩)
      (Cert.KuRefIdeal.Value.run (F := Ideal) m' ρ')⟩

end Cert.Proof.Ku

end
-- ==== Proof.Bs.Array.lean ====
/-
  The projection of each sequence's last 512 rows to the band heads' keys and values. Each grid point computes the product
  of one block of the kept rows by one block of columns, over the whole of the contracted axis. The kernel keeps the rows
  first and multiplies them; the reference multiplies all rows and keeps the last ones.
-/
module

public import proofs.«01_k».proof.Defs
public import proofs.«01_k».proof.Proof.Gen.BsIdeal.Value
public import proofs.«01_k».proof.Proof.Gen.BsRefIdeal.Run
public import Idealize.ShloMosaic.Lib.Pointwise
public import Idealize.ShloMosaic.Lib.Pipeline.ValueKit
public import Idealize.ShloMosaic.Lib.Pipeline.Covers
public import Idealize.ShloMosaic.Lib.Quiescent
public import Idealize.ShloMosaic.Lib.StableHlo.Run

@[expose] public section

set_option maxRecDepth 16384

noncomputable section

namespace Cert.Proof.Bs

open Idealize.ShloMosaic Idealize.ShloMosaic.TcCoe Idealize.SL.Sem
open Cert.BsIdeal Cert.BsIdeal.Gen
open Idealize.ShloMosaic.Pipeline (Dat)

/-- The row that is kept as the `r`th: the last 512 of each sequence of 16384. -/
def kept (r : Fin 1024) : Fin 32768 := ⟨r.val / 512 * 16384 + (15872 + r.val % 512), by omega⟩

/-- The kept rows' product by the weight. -/
def product (h : FVec Ideal S32768x2048 .bf16) (w : FVec Ideal S2048x1024 .bf16) : FVec Ideal S1024x1024 .f32 :=
  fun i => ∑ k : Fin 2048, h (ix2 (kept (i 0)) k) * w (ix2 k (i 1))

variable (m : (ℓ : Loc nD τ sig) → Buf (Elt Ideal) ℓ)

/-- What one grid point computes: the product of its rows by its columns. -/
theorem block_value (a : Vec Ideal S512x2048 .bf16) (b : Vec Ideal S2048x512 .bf16) (j : S512x512.Idx) :
    k0_pay1 a b j = ∑ k : Fin 2048, a (ix2 (j 0) k) * b (ix2 k (j 1)) := by
  idx_vars j
  pointwise [k0_pay1]

theorem index_rows : ∀ t : Fin grid0.N, win0_0.index t = ![(grid0.coords t 0).val, 0] := by decide +kernel
theorem index_weight : ∀ t : Fin grid0.N, win0_1.index t = ![0, (grid0.coords t 1).val] := by decide +kernel
theorem index_result : ∀ t : Fin grid0.N, win0_2.index t = ![(grid0.coords t 0).val, (grid0.coords t 1).val] := by
  decide +kernel

variable (c : Dev nD) (t : Fin cfg0.N)

/-- The rows by sequence. -/
def bySequence (h : FVec Ideal S32768x2048 .bf16) : FVec Ideal S2x16384x2048 .bf16 :=
  shapeCast S2x16384x2048 h shapeCasts_S32768x2048_S2x16384x2048

theorem bySequence_value (h : FVec Ideal S32768x2048 .bf16) (b : Fin 2) (p : Fin 16384) (k : Fin 2048) :
    bySequence h (ix3 b p k) = h (ix2 ⟨b.val * 16384 + p.val, by omega⟩ k) := by
  pointwise [bySequence]

/-- The last 512 rows of each sequence, one below the other. -/
theorem last_rows (x : FVec Ideal S2x16384x2048 .bf16) (r : Fin 1024) (k : Fin 2048) :
    shapeCast S1024x2048 (extractStridedSlice S2x512x2048 ![0, 15872, 0] x slices_S2x16384x2048_S2x512x2048_0_15872_0)
      shapeCasts_S2x512x2048_S1024x2048 (ix2 r k)
      = x (ix3 ⟨r.val / 512, by omega⟩ ⟨15872 + r.val % 512, by omega⟩ k) := by
  pointwise []

/-- The rows as the kernel finds them: the last 512 of each sequence. -/
theorem sides : V m c main_v2 = shapeCast S1024x2048 (extractStridedSlice S2x512x2048 ![0, 15872, 0]
    (shapeCast S2x16384x2048 (m ((c : Thread nD τ).loc main_arg0) : FVec Ideal S32768x2048 .bf16)
      shapeCasts_S32768x2048_S2x16384x2048) slices_S2x16384x2048_S2x512x2048_0_15872_0) shapeCasts_S2x512x2048_S1024x2048 := by
  unfold_abbrev_sides
  after_results_simp
  try rfl

theorem kept_rows (r : Fin 1024) (k : Fin 2048) :
    V m c main_v2 (ix2 r k) = m ((c : Thread nD τ).loc main_arg0) (ix2 (kept r) k) := by
  rw [sides]
  exact (last_rows (bySequence _) r k).trans (bySequence_value _ _ _ k)

/-- A block of rows, read at an index, is the kept row the block puts there. -/
theorem read_rows (y : Fin 512) (k : Fin 2048) (r : Fin 1024) (h0 : r.val = (grid0.coords t 0).val * 512 + y.val) :
    iblk m c 0 t (ix2 y k) = m ((c : Thread nD τ).loc main_arg0) (ix2 (kept r) k) := by
  refine Eq.trans ?_ (kept_rows m c r k)
  show V m c (Pipeline.arrRef spec0 0) _ = _
  refine congrArg (V m c main_v2) (funext fun a => Fin.ext ?_)
  fin_cases a
  · blk_simp [index_rows]
    exact h0.symm
  · blk_simp [index_rows]
    rfl

/-- A block of the weight's columns, read at an index. -/
theorem read_weight (j : S2048x512.Idx) (i : S2048x1024.Idx)
    (h0 : (i 0).val = (j 0).val) (h1 : (i 1).val = (grid0.coords t 1).val * 512 + (j 1).val) :
    iblk m c 1 t j = m ((c : Thread nD τ).loc main_arg1) i := by
  show V m c (Pipeline.arrRef spec0 1) _ = _
  rw [V_main_arg1]
  refine congrArg _ (funext fun a => Fin.ext ?_)
  fin_cases a
  · blk_simp [index_weight]
    exact h0.symm
  · blk_simp [index_weight]
    exact h1.symm

/-- The block of rows at a point, and the block of columns. -/
def rows : FVec Ideal S512x2048 .bf16 := iblk m c 0 t
@[inherit_doc rows] def columns : FVec Ideal S2048x512 .bf16 := iblk m c 1 t

/-- The block product at a point is the entry of the product at the row and column the point puts there. -/
theorem point_entry (y : S512x512.Idx) (i : S1024x1024.Idx)
    (h0 : (i 0).val = (grid0.coords t 0).val * 512 + (y 0).val) (h1 : (i 1).val = (grid0.coords t 1).val * 512 + (y 1).val) :
    (∑ k : Fin 2048, rows m c t (ix2 (y 0) k) * columns m c t (ix2 k (y 1)))
      = product (m ((c : Thread nD τ).loc main_arg0)) (m ((c : Thread nD τ).loc main_arg1)) i :=
  Finset.sum_congr rfl fun k _ => by
    unfold rows columns
    rw [read_rows m c t (y 0) k (i 0) h0, read_weight m c t (ix2 k (y 1)) (ix2 k (i 1)) rfl h1]

/-- The result array after the run. -/
theorem array_value :
    (dats m 0 c).arrAt 2 cfg0.N
      = product (m ((c : Thread nD τ).loc main_arg0)) (m ((c : Thread nD τ).loc main_arg1)) := by
  refine (dats m 0 c).arrAt_eq_of_covers 2 _ (by decide +kernel) fun t hf y => ?_
  have i0 : ((((cfg0.win 2).blk t).view.emb y 0 : Fin _) : ℕ) = (grid0.coords t 0).val * 512 + (y 0).val := by
    blk_simp [index_result]
  have i1 : ((((cfg0.win 2).blk t).view.emb y 1 : Fin _) : ℕ) = (grid0.coords t 1).val * 512 + (y 1).val := by
    blk_simp [index_result]
  generalize ((cfg0.win 2).blk t).view.emb y = i at i0 i1 ⊢
  blk_simp
  rw [after0_2]
  refine Eq.trans ?_ (point_entry m c t y i i0 i1)
  frame_out
  exact block_value _ _ _

/-- The run of the kernel's program: the result is the product, the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v3)
        = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (array_value m c), (h c).2⟩) (Value.run_blocks m ρ)

/-- The rows by sequence. -/
def hostRows (h : FVec Ideal S32768x2048 .bf16) : FVec Ideal S2x16384x2048 .f32 :=
  shapeCast S2x16384x2048 (extf .f32 h Cert.BsRefIdeal.Gen.bitsLt_bf16_f32) Cert.BsRefIdeal.Gen.shapeCasts_S32768x2048_S2x16384x2048

/-- The reference's product of all rows. -/
def hostProduct (h : FVec Ideal S32768x2048 .bf16) (w : FVec Ideal S2048x1024 .bf16) :
    FVec Ideal Cert.BsRefIdeal.S2x16384x1024 .f32 :=
  Host.dotGeneral Cert.BsRefIdeal.dot_S2x16384x2048_S2048x1024_S2x16384x1024_2_0_01_1_n_n none (hostRows h)
    (extf .f32 w Cert.BsRefIdeal.Gen.bitsLt_bf16_f32)

theorem hostProduct_value (h : FVec Ideal S32768x2048 .bf16) (w : FVec Ideal S2048x1024 .bf16) (b : Fin 2)
    (p : Fin 16384) (q : Fin 1024) : hostProduct h w (ix3 b p q)
      = ∑ k : Fin 2048, h (ix2 ⟨b.val * 16384 + p.val, by omega⟩ k) * w (ix2 k q) := by
  pointwise [hostProduct, hostRows]

/-- Its last 512 rows of each sequence are the kept rows' product. -/
theorem reference_value (h : FVec Ideal S32768x2048 .bf16) (w : FVec Ideal S2048x1024 .bf16) :
    shapeCast S1024x1024 (extractStridedSlice Cert.BsRefIdeal.S2x512x1024 ![0, 15872, 0] (hostProduct h w)
      Cert.BsRefIdeal.Gen.slices_S2x16384x1024_S2x512x1024_0_15872_0)
      Cert.BsRefIdeal.Gen.shapeCasts_S2x512x1024_S1024x1024 = product h w := by
  funext j
  idx_vars j
  refine Eq.trans ?_ (hostProduct_value h w ⟨j0.val / 512, by omega⟩ ⟨15872 + j0.val % 512, by omega⟩ j1)
  pointwise []

/-- The reference keeps its arguments and owns no semaphore. -/
theorem frame_reference : Cert.quiescent_BsRefIdeal := fun m ρ _ =>
  (θ_run Cert.BsRefIdeal.defs _ _).mono (fun r h => ⟨fun c => (h c).2, sem_eq_zero_of_no_sems (by decide) r.2⟩)
    (Cert.BsRefIdeal.Value.run (F := Ideal) m ρ)

/-- On the extended reals the kernel's program and the reference end with the same result. -/
theorem algebraic : Cert.algebraic_BsIdeal_BsRefIdeal := fun m ρ m' ρ' _ hag =>
  ⟨fun c => product (m ((c : Thread nD τ).loc main_arg0)) (m ((c : Thread nD τ).loc main_arg1)),
    run m ρ,
    (θ_run Cert.BsRefIdeal.defs _ _).mono
      (fun _ h c => ⟨(h c).1.trans (by
          rw [(hag c).1, (hag c).2]
          exact reference_value _ _), (h c).2⟩)
      (Cert.BsRefIdeal.Value.run (F := Ideal) m' ρ')⟩

end Cert.Proof.Bs

end
-- ==== Proof.Fn.Array.lean ====
/-
  The final normalization. Each grid point scales each row of its block to a mean square of one and multiplies it by the
  gains.
-/
module

public import proofs.«01_k».proof.Defs
public import proofs.«01_k».proof.Proof.Gen.FnIdeal.Value
public import proofs.«01_k».proof.Proof.Gen.FnRefIdeal.Run
public import Idealize.ShloMosaic.Lib.Pointwise
public import Idealize.ShloMosaic.Lib.Pipeline.ValueKit
public import Idealize.ShloMosaic.Lib.Pipeline.Covers
public import Idealize.ShloMosaic.Lib.Quiescent
public import Idealize.ShloMosaic.Lib.StableHlo.Run

@[expose] public section

set_option maxRecDepth 16384

noncomputable section

namespace Cert.Proof.Fn

open Idealize.ShloMosaic Idealize.ShloMosaic.TcCoe Idealize.SL.Sem
open Cert.FnIdeal Cert.FnIdeal.Gen
open Idealize.ShloMosaic.Pipeline (Dat)

/-- A row of 2048 scaled to a mean square of one, then weighted. -/
def normed (y g : Fin 2048 → EReal) (d : Fin 2048) : EReal :=
  y d * Ideal.rsqrt (Ideal.div (∑ e : Fin 2048, y e * y e) (Ideal.ofBits .f32 0x45000000#32)
    + Ideal.ofBits .f32 0x358637BD#32) * g d

/-- Every row scaled and weighted. -/
def scaled (x : FVec Ideal S32768x2048 .f32) (g : FVec Ideal S2048 .f32) : FVec Ideal S32768x2048 .f32 :=
  fun i => normed (fun e => x (ix2 (i 0) e)) (fun e => g (ix1 e)) (i 1)

variable (m : (ℓ : Loc nD τ sig) → Buf (Elt Ideal) ℓ)

/-- What one grid point computes: its rows scaled and weighted. -/
theorem block_value (x : Vec Ideal S512x2048 .f32) (g : Vec Ideal S1x2048 .f32) (r : Fin 512) (q : Fin 2048) :
    k0_pay1 x g (ix2 r q) = normed (fun e => x (ix2 r e)) (fun e => g (ix2 0 e)) q := by
  pointwise [k0_pay1, normed]

theorem index_rows : ∀ t : Fin grid0.N, win0_0.index t = ![(grid0.coords t 0).val, 0] := by decide +kernel
theorem index_gains : ∀ t : Fin grid0.N, win0_1.index t = ![0, 0] := by decide +kernel
theorem index_result : ∀ t : Fin grid0.N, win0_2.index t = ![(grid0.coords t 0).val, 0] := by decide +kernel

variable (c : Dev nD) (t : Fin cfg0.N)

/-- A block of rows, read at an index, is the array at the row the block puts there. -/
theorem read_rows (j : S512x2048.Idx) (i : S32768x2048.Idx)
    (h0 : (i 0).val = (grid0.coords t 0).val * 512 + (j 0).val) (h1 : (i 1).val = (j 1).val) :
    iblk m c 0 t j = m ((c : Thread nD τ).loc main_arg0) i := by
  show V m c (Pipeline.arrRef spec0 0) _ = _
  rw [V_main_arg0]
  refine congrArg _ (funext fun a => Fin.ext ?_)
  fin_cases a
  · blk_simp [index_rows]
    exact h0.symm
  · blk_simp [index_rows]
    exact h1.symm

/-- The gains as one row. -/
theorem gains_row (z : Fin 1) (d : Fin 2048) :
    V m c main_v0 (ix2 z d) = m ((c : Thread nD τ).loc main_arg1) (ix1 d) := by
  have e : V m c main_v0 = shapeCast S1x2048 (m ((c : Thread nD τ).loc main_arg1)) shapeCasts_S2048_S1x2048 := by
    unfold_abbrev_sides
    after_results_simp
    try rfl
  rw [e]
  pointwise []

/-- The gains' block. -/
theorem read_gains (d : Fin 2048) : iblk m c 1 t (ix2 0 d) = m ((c : Thread nD τ).loc main_arg1) (ix1 d) := by
  rw [← gains_row m c 0 d]
  show V m c (Pipeline.arrRef spec0 1) _ = _
  refine congrArg (V m c main_v0) (funext fun a => Fin.ext ?_)
  fin_cases a
  · blk_simp [index_gains]
  · blk_simp [index_gains]

/-- The block at a point, at the row the point puts there. -/
theorem point_value (y : Fin 512) (q : Fin 2048) (r : Fin 32768) (h : r.val = (grid0.coords t 0).val * 512 + y.val) :
    k0_pay1 (iblk m c 0 t) (iblk m c 1 t) (ix2 y q)
      = scaled (m ((c : Thread nD τ).loc main_arg0)) (m ((c : Thread nD τ).loc main_arg1)) (ix2 r q) :=
  (block_value _ _ y q).trans
    (congrArg₂ (fun v w => normed v w q) (funext fun d => read_rows m c t (ix2 y d) (ix2 r d) h rfl)
      (funext fun d => read_gains m c t d))

/-- The result array after the run. -/
theorem array_value :
    (dats m 0 c).arrAt 2 cfg0.N
      = scaled (m ((c : Thread nD τ).loc main_arg0)) (m ((c : Thread nD τ).loc main_arg1)) := by
  refine (dats m 0 c).arrAt_eq_of_covers 2 _ (by decide +kernel) fun t hf y => ?_
  have i0 : ((((cfg0.win 2).blk t).view.emb y 0 : Fin _) : ℕ) = (grid0.coords t 0).val * 512 + (y 0).val := by
    blk_simp [index_result]
  have i1 : ((((cfg0.win 2).blk t).view.emb y 1 : Fin _) : ℕ) = (y 1).val := by
    blk_simp [index_result]
  generalize ((cfg0.win 2).blk t).view.emb y = i at i0 i1 ⊢
  blk_simp
  rw [after0_2]
  frame_out
  have e : y = ix2 (y 0) (i 1) := by
    funext a
    refine Fin.ext ?_
    fin_cases a
    · rfl
    · exact i1.symm
  rw [e]
  exact point_value m c t (y 0) (i 1) (i 0) i0

/-- The run of the kernel's program: the rows scaled, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v1)
        = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (array_value m c), (h c).2⟩) (Value.run_blocks m ρ)

/-- The reference's term. -/
def hostScaled (x : FVec Ideal S32768x2048 .f32) (g : FVec Ideal S2048 .f32) : FVec Ideal S32768x2048 .f32 :=
  mulf (mulf x (broadcastInDim S32768x2048 ![0, 1] Cert.FnRefIdeal.Gen.bcast_S32768x1_S32768x2048_0_1
    (Host.rsqrt (addf (Host.divf (broadcastInDim Cert.FnRefIdeal.S32768x1 ![0] Cert.FnRefIdeal.Gen.bcast_S32768_S32768x1_0
        (Host.reduceAdd (mulf x x) (constant Cert.FnRefIdeal.S_ .f32 0x00000000#32)
          Cert.FnRefIdeal.Gen.reducesTo_S32768x2048_S32768_d1 Cert.FnRefIdeal.Gen.h_S_))
      (broadcastInDim Cert.FnRefIdeal.S32768x1 ![] Cert.FnRefIdeal.Gen.bcast_S_S32768x1 (constant Cert.FnRefIdeal.S_ .f32 0x45000000#32)))
      (broadcastInDim Cert.FnRefIdeal.S32768x1 ![] Cert.FnRefIdeal.Gen.bcast_S_S32768x1 (constant Cert.FnRefIdeal.S_ .f32 0x358637BD#32))))))
    (broadcastInDim S32768x2048 ![0, 1] Cert.FnRefIdeal.Gen.bcast_S1x2048_S32768x2048_0_1
      (broadcastInDim S1x2048 ![1] Cert.FnRefIdeal.Gen.bcast_S2048_S1x2048_1 g))

/-- It is the rows scaled. -/
theorem reference_value (x : FVec Ideal S32768x2048 .f32) (g : FVec Ideal S2048 .f32) : hostScaled x g = scaled x g := by
  funext j
  idx_vars j
  pointwise [hostScaled, scaled, normed]

/-- The reference keeps its arguments and owns no semaphore. -/
theorem frame_reference : Cert.quiescent_FnRefIdeal := fun m ρ _ =>
  (θ_run Cert.FnRefIdeal.defs _ _).mono (fun r h => ⟨fun c => (h c).2, sem_eq_zero_of_no_sems (by decide) r.2⟩)
    (Cert.FnRefIdeal.Value.run (F := Ideal) m ρ)

/-- On the extended reals the kernel's program and the reference end with the same result. -/
theorem algebraic : Cert.algebraic_FnIdeal_FnRefIdeal := fun m ρ m' ρ' _ hag =>
  ⟨fun c => scaled (m ((c : Thread nD τ).loc main_arg0)) (m ((c : Thread nD τ).loc main_arg1)),
    run m ρ,
    (θ_run Cert.FnRefIdeal.defs _ _).mono
      (fun _ h c => ⟨(h c).1.trans (by
          rw [(hag c).1, (hag c).2]
          exact reference_value _ _), (h c).2⟩)
      (Cert.FnRefIdeal.Value.run (F := Ideal) m' ρ')⟩

end Cert.Proof.Fn

end
-- ==== Proof.lean ====
/- The claim: every program's stated facts, then frame, preservation and value claims, call by call. -/
module

public import proofs.«01_k».proof.Defs
public import proofs.«01_k».proof.Proof.Mla.Array
public import proofs.«01_k».proof.Proof.Gen.Mla.Frame
public import proofs.«01_k».proof.Proof.Mla.Consts
public import proofs.«01_k».proof.Proof.Sb.Array
public import proofs.«01_k».proof.Proof.Sb.Frame
public import proofs.«01_k».proof.Proof.Sb.IdealFrame
public import proofs.«01_k».proof.Proof.Sb.Consts
public import proofs.«01_k».proof.Proof.Up.Array
public import proofs.«01_k».proof.Proof.Gen.Up.Frame
public import proofs.«01_k».proof.Proof.Down.Array
public import proofs.«01_k».proof.Proof.Gen.Down.Frame
public import proofs.«01_k».proof.Proof.Out.Array
public import proofs.«01_k».proof.Proof.Gen.Out.Frame
public import proofs.«01_k».proof.Proof.Bc.Array
public import proofs.«01_k».proof.Proof.Gen.Bc.Frame
public import proofs.«01_k».proof.Proof.Kv.Array
public import proofs.«01_k».proof.Proof.Gen.Kv.Frame
public import proofs.«01_k».proof.Proof.Ku.Array
public import proofs.«01_k».proof.Proof.Gen.Ku.Frame
public import proofs.«01_k».proof.Proof.Bs.Array
public import proofs.«01_k».proof.Proof.Gen.Bs.Frame
public import proofs.«01_k».proof.Proof.Fn.Array
public import proofs.«01_k».proof.Proof.Gen.Fn.Frame
public import Idealize.ShloMosaic.Adequacy
public import Idealize.ShloMosaic.Init

@[expose] public section

noncomputable section

namespace Cert.Proof

/-- Every stated claim about the ten calls. -/
theorem claim : Cert.Claim :=
  ⟨Cert.Mla.Gen.facts, Cert.MlaIdeal.Gen.facts, Cert.MlaRefIdeal.Gen.facts,
    Cert.Sb.Gen.facts, Cert.SbIdeal.Gen.facts, Cert.SbRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Out.Gen.facts, Cert.OutIdeal.Gen.facts, Cert.OutRefIdeal.Gen.facts,
    Cert.Bc.Gen.facts, Cert.BcIdeal.Gen.facts, Cert.BcRefIdeal.Gen.facts,
    Cert.Kv.Gen.facts, Cert.KvIdeal.Gen.facts, Cert.KvRefIdeal.Gen.facts,
    Cert.Ku.Gen.facts, Cert.KuIdeal.Gen.facts, Cert.KuRefIdeal.Gen.facts,
    Cert.Bs.Gen.facts, Cert.BsIdeal.Gen.facts, Cert.BsRefIdeal.Gen.facts,
    Cert.Fn.Gen.facts, Cert.FnIdeal.Gen.facts, Cert.FnRefIdeal.Gen.facts,
    fun m ρ _ => Cert.Mla.Gen.frame m ρ, fun m ρ _ => Cert.MlaIdeal.Gen.frame m ρ, Mla.frame_reference,
    fun m ρ _ => Sb.frame m ρ, fun m ρ _ => SbIdeal.frame m ρ, SbIdeal.frame_reference,
    fun m ρ _ => Cert.Up.Gen.frame m ρ, fun m ρ _ => Cert.UpIdeal.Gen.frame m ρ, Up.frame_reference,
    fun m ρ _ => Cert.Down.Gen.frame m ρ, fun m ρ _ => Cert.DownIdeal.Gen.frame m ρ, Down.frame_reference,
    fun m ρ _ => Cert.Out.Gen.frame m ρ, fun m ρ _ => Cert.OutIdeal.Gen.frame m ρ, Out.frame_reference,
    fun m ρ _ => Cert.Bc.Gen.frame m ρ, fun m ρ _ => Cert.BcIdeal.Gen.frame m ρ, Bc.frame_reference,
    fun m ρ _ => Cert.Kv.Gen.frame m ρ, fun m ρ _ => Cert.KvIdeal.Gen.frame m ρ, Kv.frame_reference,
    fun m ρ _ => Cert.Ku.Gen.frame m ρ, fun m ρ _ => Cert.KuIdeal.Gen.frame m ρ, Ku.frame_reference,
    fun m ρ _ => Cert.Bs.Gen.frame m ρ, fun m ρ _ => Cert.BsIdeal.Gen.frame m ρ, Bs.frame_reference,
    fun m ρ _ => Cert.Fn.Gen.frame m ρ, fun m ρ _ => Cert.FnIdeal.Gen.frame m ρ, Fn.frame_reference,
    Mla.preserves, Mla.algebraic,
    SbIdeal.preserves, SbIdeal.algebraic,
    trivial, Up.algebraic,
    trivial, Down.algebraic,
    trivial, Out.algebraic,
    trivial, Bc.algebraic,
    trivial, Kv.algebraic,
    trivial, Ku.algebraic,
    trivial, Bs.algebraic,
    trivial, Fn.algebraic⟩

end Cert.Proof

end
